-- ==== Defs.lean ====
def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryIdeal_finite_scores [hPre_finite_scores : Cert.Pre_finite_scores.Facts] (m : (ℓ : Loc Cert.MemoryIdeal.nD Cert.MemoryIdeal.τ Cert.MemoryIdeal.sig) → Buf (Elt Ideal) ℓ) : Prop :=
  ∀ c : Dev Cert.MemoryIdeal.nD,
    (Cert.Pre_finite_scores.fn (F := Ideal) (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2))) = (fun _ => 1#1)

def Pre_MemoryRefIdeal (m : (ℓ : Loc Cert.MemoryRefIdeal.nD Cert.MemoryRefIdeal.τ Cert.MemoryRefIdeal.sig) → Buf (Elt Ideal) ℓ) : Prop :=
  True

def Pre_MemoryRefIdeal_finite_scores [hPre_finite_scores : Cert.Pre_finite_scores.Facts] (m : (ℓ : Loc Cert.MemoryRefIdeal.nD Cert.MemoryRefIdeal.τ Cert.MemoryRefIdeal.sig) → Buf (Elt Ideal) ℓ) : Prop :=
  ∀ c : Dev Cert.MemoryRefIdeal.nD,
    (Cert.Pre_finite_scores.fn (F := Ideal) (m ((c.tc : Thread Cert.MemoryRefIdeal.nD Cert.MemoryRefIdeal.τ).loc Cert.MemoryRefIdeal.main_arg0)) (m ((c.tc : Thread Cert.MemoryRefIdeal.nD Cert.MemoryRefIdeal.τ).loc Cert.MemoryRefIdeal.main_arg1)) (m ((c.tc : Thread Cert.MemoryRefIdeal.nD Cert.MemoryRefIdeal.τ).loc Cert.MemoryRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_ProjectQkv (m : (ℓ : Loc Cert.ProjectQkv.nD Cert.ProjectQkv.τ Cert.ProjectQkv.sig) → Buf (Elt Bits) ℓ) : Prop :=
  True

def Pre_ProjectQkvIdeal (m : (ℓ : Loc Cert.ProjectQkvIdeal.nD Cert.ProjectQkvIdeal.τ Cert.ProjectQkvIdeal.sig) → Buf (Elt Ideal) ℓ) : Prop :=
  True

def Pre_ProjectQkvRefIdeal (m : (ℓ : Loc Cert.ProjectQkvRefIdeal.nD Cert.ProjectQkvRefIdeal.τ Cert.ProjectQkvRefIdeal.sig) → Buf (Elt Ideal) ℓ) : Prop :=
  True

def Pre_ProjectUv (m : (ℓ : Loc Cert.ProjectUv.nD Cert.ProjectUv.τ Cert.ProjectUv.sig) → Buf (Elt Bits) ℓ) : Prop :=
  True

def Pre_ProjectUvIdeal (m : (ℓ : Loc Cert.ProjectUvIdeal.nD Cert.ProjectUvIdeal.τ Cert.ProjectUvIdeal.sig) → Buf (Elt Ideal) ℓ) : Prop :=
  True

def Pre_ProjectUvRefIdeal (m : (ℓ : Loc Cert.ProjectUvRefIdeal.nD Cert.ProjectUvRefIdeal.τ Cert.ProjectUvRefIdeal.sig) → Buf (Elt Ideal) ℓ) : Prop :=
  True

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryIdeal_pre_finite_scores [hMemoryIdeal : Cert.MemoryIdeal.Facts] [hPre_finite_scores : Cert.Pre_finite_scores.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal_finite_scores m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_MemoryRefIdeal_pre_finite_scores [hMemoryRefIdeal : Cert.MemoryRefIdeal.Facts] [hPre_finite_scores : Cert.Pre_finite_scores.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal_finite_scores m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_ProjectQkv [hProjectQkv : Cert.ProjectQkv.Facts] : Prop :=
  ∀ (m : (ℓ : Loc Cert.ProjectQkv.nD Cert.ProjectQkv.τ Cert.ProjectQkv.sig) → Buf (Elt Bits) ℓ) (g : Dev Cert.ProjectQkv.nD → PrngReg), Pre_ProjectQkv m →
    θ_run (Cert.ProjectQkv.defs (F := Bits)) (onTc (τ := Cert.ProjectQkv.τ) (Cert.ProjectQkv.main (F := Bits))) ⟨m, fun _ => 0, g⟩ (fun r => (∀ c : Dev Cert.ProjectQkv.nD,
      r.2.mem ((c.tc : Thread Cert.ProjectQkv.nD Cert.ProjectQkv.τ).loc Cert.ProjectQkv.main_arg0) = m ((c.tc : Thread Cert.ProjectQkv.nD Cert.ProjectQkv.τ).loc Cert.ProjectQkv.main_arg0)
      ∧ r.2.mem ((c.tc : Thread Cert.ProjectQkv.nD Cert.ProjectQkv.τ).loc Cert.ProjectQkv.main_arg1) = m ((c.tc : Thread Cert.ProjectQkv.nD Cert.ProjectQkv.τ).loc Cert.ProjectQkv.main_arg1))
      ∧ r.2.sem = fun _ => 0)

def quiescent_ProjectQkvIdeal [hProjectQkvIdeal : Cert.ProjectQkvIdeal.Facts] : Prop :=
  ∀ (m : (ℓ : Loc Cert.ProjectQkvIdeal.nD Cert.ProjectQkvIdeal.τ Cert.ProjectQkvIdeal.sig) → Buf (Elt Ideal) ℓ) (g : Dev Cert.ProjectQkvIdeal.nD → PrngReg), Pre_ProjectQkvIdeal m →
    θ_run (Cert.ProjectQkvIdeal.defs (F := Ideal)) (onTc (τ := Cert.ProjectQkvIdeal.τ) (Cert.ProjectQkvIdeal.main (F := Ideal))) ⟨m, fun _ => 0, g⟩ (fun r => (∀ c : Dev Cert.ProjectQkvIdeal.nD,
      r.2.mem ((c.tc : Thread Cert.ProjectQkvIdeal.nD Cert.ProjectQkvIdeal.τ).loc Cert.ProjectQkvIdeal.main_arg0) = m ((c.tc : Thread Cert.ProjectQkvIdeal.nD Cert.ProjectQkvIdeal.τ).loc Cert.ProjectQkvIdeal.main_arg0)
      ∧ r.2.mem ((c.tc : Thread Cert.ProjectQkvIdeal.nD Cert.ProjectQkvIdeal.τ).loc Cert.ProjectQkvIdeal.main_arg1) = m ((c.tc : Thread Cert.ProjectQkvIdeal.nD Cert.ProjectQkvIdeal.τ).loc Cert.ProjectQkvIdeal.main_arg1))
      ∧ r.2.sem = fun _ => 0)

def quiescent_ProjectQkvRefIdeal [hProjectQkvRefIdeal : Cert.ProjectQkvRefIdeal.Facts] : Prop :=
  ∀ (m : (ℓ : Loc Cert.ProjectQkvRefIdeal.nD Cert.ProjectQkvRefIdeal.τ Cert.ProjectQkvRefIdeal.sig) → Buf (Elt Ideal) ℓ) (g : Dev Cert.ProjectQkvRefIdeal.nD → PrngReg), Pre_ProjectQkvRefIdeal m →
    θ_run (Cert.ProjectQkvRefIdeal.defs (F := Ideal)) (onTc (τ := Cert.ProjectQkvRefIdeal.τ) (Cert.ProjectQkvRefIdeal.main (F := Ideal))) ⟨m, fun _ => 0, g⟩ (fun r => (∀ c : Dev Cert.ProjectQkvRefIdeal.nD,
      r.2.mem ((c.tc : Thread Cert.ProjectQkvRefIdeal.nD Cert.ProjectQkvRefIdeal.τ).loc Cert.ProjectQkvRefIdeal.main_arg0) = m ((c.tc : Thread Cert.ProjectQkvRefIdeal.nD Cert.ProjectQkvRefIdeal.τ).loc Cert.ProjectQkvRefIdeal.main_arg0)
      ∧ r.2.mem ((c.tc : Thread Cert.ProjectQkvRefIdeal.nD Cert.ProjectQkvRefIdeal.τ).loc Cert.ProjectQkvRefIdeal.main_arg1) = m ((c.tc : Thread Cert.ProjectQkvRefIdeal.nD Cert.ProjectQkvRefIdeal.τ).loc Cert.ProjectQkvRefIdeal.main_arg1))
      ∧ r.2.sem = fun _ => 0)

def quiescent_ProjectUv [hProjectUv : Cert.ProjectUv.Facts] : Prop :=
  ∀ (m : (ℓ : Loc Cert.ProjectUv.nD Cert.ProjectUv.τ Cert.ProjectUv.sig) → Buf (Elt Bits) ℓ) (g : Dev Cert.ProjectUv.nD → PrngReg), Pre_ProjectUv m →
    θ_run (Cert.ProjectUv.defs (F := Bits)) (onTc (τ := Cert.ProjectUv.τ) (Cert.ProjectUv.main (F := Bits))) ⟨m, fun _ => 0, g⟩ (fun r => (∀ c : Dev Cert.ProjectUv.nD,
      r.2.mem ((c.tc : Thread Cert.ProjectUv.nD Cert.ProjectUv.τ).loc Cert.ProjectUv.main_arg0) = m ((c.tc : Thread Cert.ProjectUv.nD Cert.ProjectUv.τ).loc Cert.ProjectUv.main_arg0)
      ∧ r.2.mem ((c.tc : Thread Cert.ProjectUv.nD Cert.ProjectUv.τ).loc Cert.ProjectUv.main_arg1) = m ((c.tc : Thread Cert.ProjectUv.nD Cert.ProjectUv.τ).loc Cert.ProjectUv.main_arg1))
      ∧ r.2.sem = fun _ => 0)

def quiescent_ProjectUvIdeal [hProjectUvIdeal : Cert.ProjectUvIdeal.Facts] : Prop :=
  ∀ (m : (ℓ : Loc Cert.ProjectUvIdeal.nD Cert.ProjectUvIdeal.τ Cert.ProjectUvIdeal.sig) → Buf (Elt Ideal) ℓ) (g : Dev Cert.ProjectUvIdeal.nD → PrngReg), Pre_ProjectUvIdeal m →
    θ_run (Cert.ProjectUvIdeal.defs (F := Ideal)) (onTc (τ := Cert.ProjectUvIdeal.τ) (Cert.ProjectUvIdeal.main (F := Ideal))) ⟨m, fun _ => 0, g⟩ (fun r => (∀ c : Dev Cert.ProjectUvIdeal.nD,
      r.2.mem ((c.tc : Thread Cert.ProjectUvIdeal.nD Cert.ProjectUvIdeal.τ).loc Cert.ProjectUvIdeal.main_arg0) = m ((c.tc : Thread Cert.ProjectUvIdeal.nD Cert.ProjectUvIdeal.τ).loc Cert.ProjectUvIdeal.main_arg0)
      ∧ r.2.mem ((c.tc : Thread Cert.ProjectUvIdeal.nD Cert.ProjectUvIdeal.τ).loc Cert.ProjectUvIdeal.main_arg1) = m ((c.tc : Thread Cert.ProjectUvIdeal.nD Cert.ProjectUvIdeal.τ).loc Cert.ProjectUvIdeal.main_arg1))
      ∧ r.2.sem = fun _ => 0)

def quiescent_ProjectUvRefIdeal [hProjectUvRefIdeal : Cert.ProjectUvRefIdeal.Facts] : Prop :=
  ∀ (m : (ℓ : Loc Cert.ProjectUvRefIdeal.nD Cert.ProjectUvRefIdeal.τ Cert.ProjectUvRefIdeal.sig) → Buf (Elt Ideal) ℓ) (g : Dev Cert.ProjectUvRefIdeal.nD → PrngReg), Pre_ProjectUvRefIdeal m →
    θ_run (Cert.ProjectUvRefIdeal.defs (F := Ideal)) (onTc (τ := Cert.ProjectUvRefIdeal.τ) (Cert.ProjectUvRefIdeal.main (F := Ideal))) ⟨m, fun _ => 0, g⟩ (fun r => (∀ c : Dev Cert.ProjectUvRefIdeal.nD,
      r.2.mem ((c.tc : Thread Cert.ProjectUvRefIdeal.nD Cert.ProjectUvRefIdeal.τ).loc Cert.ProjectUvRefIdeal.main_arg0) = m ((c.tc : Thread Cert.ProjectUvRefIdeal.nD Cert.ProjectUvRefIdeal.τ).loc Cert.ProjectUvRefIdeal.main_arg0)
      ∧ r.2.mem ((c.tc : Thread Cert.ProjectUvRefIdeal.nD Cert.ProjectUvRefIdeal.τ).loc Cert.ProjectUvRefIdeal.main_arg1) = m ((c.tc : Thread Cert.ProjectUvRefIdeal.nD Cert.ProjectUvRefIdeal.τ).loc Cert.ProjectUvRefIdeal.main_arg1))
      ∧ r.2.sem = fun _ => 0)

def preserves_Memory_MemoryIdeal : Prop :=
  True

def algebraic_MemoryIdeal_MemoryRefIdeal_pre_finite_scores [hMemoryIdeal : Cert.MemoryIdeal.Facts] [hMemoryRefIdeal : Cert.MemoryRefIdeal.Facts] [hPre_finite_scores : Cert.Pre_finite_scores.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal_finite_scores m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v4)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v23) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v2) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v2) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v6)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v6) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v28) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_ProjectQkv_ProjectQkvIdeal : Prop :=
  True

def algebraic_ProjectQkvIdeal_ProjectQkvRefIdeal [hProjectQkvIdeal : Cert.ProjectQkvIdeal.Facts] [hProjectQkvRefIdeal : Cert.ProjectQkvRefIdeal.Facts] : Prop :=
  ∀ (m : (ℓ : Loc Cert.ProjectQkvIdeal.nD Cert.ProjectQkvIdeal.τ Cert.ProjectQkvIdeal.sig) → Buf (Elt Ideal) ℓ) (g : Dev Cert.ProjectQkvIdeal.nD → PrngReg)
    (m' : (ℓ : Loc Cert.ProjectQkvRefIdeal.nD Cert.ProjectQkvRefIdeal.τ Cert.ProjectQkvRefIdeal.sig) → Buf (Elt Ideal) ℓ) (g' : Dev Cert.ProjectQkvRefIdeal.nD → PrngReg), Pre_ProjectQkvIdeal m →
    (∀ c : Dev Cert.ProjectQkvIdeal.nD,
      m' ((c.tc : Thread Cert.ProjectQkvRefIdeal.nD Cert.ProjectQkvRefIdeal.τ).loc Cert.ProjectQkvRefIdeal.main_arg0) = m ((c.tc : Thread Cert.ProjectQkvIdeal.nD Cert.ProjectQkvIdeal.τ).loc Cert.ProjectQkvIdeal.main_arg0)
      ∧ m' ((c.tc : Thread Cert.ProjectQkvRefIdeal.nD Cert.ProjectQkvRefIdeal.τ).loc Cert.ProjectQkvRefIdeal.main_arg1) = m ((c.tc : Thread Cert.ProjectQkvIdeal.nD Cert.ProjectQkvIdeal.τ).loc Cert.ProjectQkvIdeal.main_arg1)) →
    ∃ (v0 : (c : Dev Cert.ProjectQkvIdeal.nD) → Buf (Elt Ideal) ((c.tc : Thread Cert.ProjectQkvIdeal.nD Cert.ProjectQkvIdeal.τ).loc Cert.ProjectQkvIdeal.main_v3)),
      θ_run (Cert.ProjectQkvIdeal.defs (F := Ideal)) (onTc (τ := Cert.ProjectQkvIdeal.τ) (Cert.ProjectQkvIdeal.main (F := Ideal))) ⟨m, fun _ => 0, g⟩ (fun r => ∀ c : Dev Cert.ProjectQkvIdeal.nD,
          r.2.mem ((c.tc : Thread Cert.ProjectQkvIdeal.nD Cert.ProjectQkvIdeal.τ).loc Cert.ProjectQkvIdeal.main_v3) = v0 c
          ∧ r.2.mem ((c.tc : Thread Cert.ProjectQkvIdeal.nD Cert.ProjectQkvIdeal.τ).loc Cert.ProjectQkvIdeal.main_arg0) = m ((c.tc : Thread Cert.ProjectQkvIdeal.nD Cert.ProjectQkvIdeal.τ).loc Cert.ProjectQkvIdeal.main_arg0)
          ∧ r.2.mem ((c.tc : Thread Cert.ProjectQkvIdeal.nD Cert.ProjectQkvIdeal.τ).loc Cert.ProjectQkvIdeal.main_arg1) = m ((c.tc : Thread Cert.ProjectQkvIdeal.nD Cert.ProjectQkvIdeal.τ).loc Cert.ProjectQkvIdeal.main_arg1))
      ∧ θ_run (Cert.ProjectQkvRefIdeal.defs (F := Ideal)) (onTc (τ := Cert.ProjectQkvRefIdeal.τ) (Cert.ProjectQkvRefIdeal.main (F := Ideal))) ⟨m', fun _ => 0, g'⟩ (fun r => ∀ c : Dev Cert.ProjectQkvRefIdeal.nD,
          r.2.mem ((c.tc : Thread Cert.ProjectQkvRefIdeal.nD Cert.ProjectQkvRefIdeal.τ).loc Cert.ProjectQkvRefIdeal.main_v2) = v0 c
          ∧ r.2.mem ((c.tc : Thread Cert.ProjectQkvRefIdeal.nD Cert.ProjectQkvRefIdeal.τ).loc Cert.ProjectQkvRefIdeal.main_arg0) = m' ((c.tc : Thread Cert.ProjectQkvRefIdeal.nD Cert.ProjectQkvRefIdeal.τ).loc Cert.ProjectQkvRefIdeal.main_arg0)
          ∧ r.2.mem ((c.tc : Thread Cert.ProjectQkvRefIdeal.nD Cert.ProjectQkvRefIdeal.τ).loc Cert.ProjectQkvRefIdeal.main_arg1) = m' ((c.tc : Thread Cert.ProjectQkvRefIdeal.nD Cert.ProjectQkvRefIdeal.τ).loc Cert.ProjectQkvRefIdeal.main_arg1))

def preserves_ProjectUv_ProjectUvIdeal : Prop :=
  True

def algebraic_ProjectUvIdeal_ProjectUvRefIdeal [hProjectUvIdeal : Cert.ProjectUvIdeal.Facts] [hProjectUvRefIdeal : Cert.ProjectUvRefIdeal.Facts] : Prop :=
  ∀ (m : (ℓ : Loc Cert.ProjectUvIdeal.nD Cert.ProjectUvIdeal.τ Cert.ProjectUvIdeal.sig) → Buf (Elt Ideal) ℓ) (g : Dev Cert.ProjectUvIdeal.nD → PrngReg)
    (m' : (ℓ : Loc Cert.ProjectUvRefIdeal.nD Cert.ProjectUvRefIdeal.τ Cert.ProjectUvRefIdeal.sig) → Buf (Elt Ideal) ℓ) (g' : Dev Cert.ProjectUvRefIdeal.nD → PrngReg), Pre_ProjectUvIdeal m →
    (∀ c : Dev Cert.ProjectUvIdeal.nD,
      m' ((c.tc : Thread Cert.ProjectUvRefIdeal.nD Cert.ProjectUvRefIdeal.τ).loc Cert.ProjectUvRefIdeal.main_arg0) = m ((c.tc : Thread Cert.ProjectUvIdeal.nD Cert.ProjectUvIdeal.τ).loc Cert.ProjectUvIdeal.main_arg0)
      ∧ m' ((c.tc : Thread Cert.ProjectUvRefIdeal.nD Cert.ProjectUvRefIdeal.τ).loc Cert.ProjectUvRefIdeal.main_arg1) = m ((c.tc : Thread Cert.ProjectUvIdeal.nD Cert.ProjectUvIdeal.τ).loc Cert.ProjectUvIdeal.main_arg1)) →
    ∃ (v0 : (c : Dev Cert.ProjectUvIdeal.nD) → Buf (Elt Ideal) ((c.tc : Thread Cert.ProjectUvIdeal.nD Cert.ProjectUvIdeal.τ).loc Cert.ProjectUvIdeal.main_v3)),
      θ_run (Cert.ProjectUvIdeal.defs (F := Ideal)) (onTc (τ := Cert.ProjectUvIdeal.τ) (Cert.ProjectUvIdeal.main (F := Ideal))) ⟨m, fun _ => 0, g⟩ (fun r => ∀ c : Dev Cert.ProjectUvIdeal.nD,
          r.2.mem ((c.tc : Thread Cert.ProjectUvIdeal.nD Cert.ProjectUvIdeal.τ).loc Cert.ProjectUvIdeal.main_v3) = v0 c
          ∧ r.2.mem ((c.tc : Thread Cert.ProjectUvIdeal.nD Cert.ProjectUvIdeal.τ).loc Cert.ProjectUvIdeal.main_arg0) = m ((c.tc : Thread Cert.ProjectUvIdeal.nD Cert.ProjectUvIdeal.τ).loc Cert.ProjectUvIdeal.main_arg0)
          ∧ r.2.mem ((c.tc : Thread Cert.ProjectUvIdeal.nD Cert.ProjectUvIdeal.τ).loc Cert.ProjectUvIdeal.main_arg1) = m ((c.tc : Thread Cert.ProjectUvIdeal.nD Cert.ProjectUvIdeal.τ).loc Cert.ProjectUvIdeal.main_arg1))
      ∧ θ_run (Cert.ProjectUvRefIdeal.defs (F := Ideal)) (onTc (τ := Cert.ProjectUvRefIdeal.τ) (Cert.ProjectUvRefIdeal.main (F := Ideal))) ⟨m', fun _ => 0, g'⟩ (fun r => ∀ c : Dev Cert.ProjectUvRefIdeal.nD,
          r.2.mem ((c.tc : Thread Cert.ProjectUvRefIdeal.nD Cert.ProjectUvRefIdeal.τ).loc Cert.ProjectUvRefIdeal.main_v2) = v0 c
          ∧ r.2.mem ((c.tc : Thread Cert.ProjectUvRefIdeal.nD Cert.ProjectUvRefIdeal.τ).loc Cert.ProjectUvRefIdeal.main_arg0) = m' ((c.tc : Thread Cert.ProjectUvRefIdeal.nD Cert.ProjectUvRefIdeal.τ).loc Cert.ProjectUvRefIdeal.main_arg0)
          ∧ r.2.mem ((c.tc : Thread Cert.ProjectUvRefIdeal.nD Cert.ProjectUvRefIdeal.τ).loc Cert.ProjectUvRefIdeal.main_arg1) = m' ((c.tc : Thread Cert.ProjectUvRefIdeal.nD Cert.ProjectUvRefIdeal.τ).loc Cert.ProjectUvRefIdeal.main_arg1))

def Claim : Prop :=
  ∃ (hMemory : Cert.Memory.Facts) (hMemoryIdeal : Cert.MemoryIdeal.Facts) (hMemoryRefIdeal : Cert.MemoryRefIdeal.Facts) (hFfn : Cert.Ffn.Facts) (hFfnIdeal : Cert.FfnIdeal.Facts) (hFfnRefIdeal : Cert.FfnRefIdeal.Facts) (hProject : Cert.Project.Facts) (hProjectIdeal : Cert.ProjectIdeal.Facts) (hProjectRefIdeal : Cert.ProjectRefIdeal.Facts) (hOutproj : Cert.Outproj.Facts) (hOutprojIdeal : Cert.OutprojIdeal.Facts) (hOutprojRefIdeal : Cert.OutprojRefIdeal.Facts) (hProjectQkv : Cert.ProjectQkv.Facts) (hProjectQkvIdeal : Cert.ProjectQkvIdeal.Facts) (hProjectQkvRefIdeal : Cert.ProjectQkvRefIdeal.Facts) (hProjectUv : Cert.ProjectUv.Facts) (hProjectUvIdeal : Cert.ProjectUvIdeal.Facts) (hProjectUvRefIdeal : Cert.ProjectUvRefIdeal.Facts) (hPre_finite_scores : Cert.Pre_finite_scores.Facts),
    quiescent_Memory (hMemory := hMemory)
    ∧ quiescent_MemoryIdeal (hMemoryIdeal := hMemoryIdeal)
    ∧ quiescent_MemoryIdeal_pre_finite_scores (hMemoryIdeal := hMemoryIdeal) (hPre_finite_scores := hPre_finite_scores)
    ∧ quiescent_MemoryRefIdeal (hMemoryRefIdeal := hMemoryRefIdeal)
    ∧ quiescent_MemoryRefIdeal_pre_finite_scores (hMemoryRefIdeal := hMemoryRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Project (hProject := hProject)
    ∧ quiescent_ProjectIdeal (hProjectIdeal := hProjectIdeal)
    ∧ quiescent_ProjectRefIdeal (hProjectRefIdeal := hProjectRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_ProjectQkv (hProjectQkv := hProjectQkv)
    ∧ quiescent_ProjectQkvIdeal (hProjectQkvIdeal := hProjectQkvIdeal)
    ∧ quiescent_ProjectQkvRefIdeal (hProjectQkvRefIdeal := hProjectQkvRefIdeal)
    ∧ quiescent_ProjectUv (hProjectUv := hProjectUv)
    ∧ quiescent_ProjectUvIdeal (hProjectUvIdeal := hProjectUvIdeal)
    ∧ quiescent_ProjectUvRefIdeal (hProjectUvRefIdeal := hProjectUvRefIdeal)
    ∧ preserves_Memory_MemoryIdeal
    ∧ algebraic_MemoryIdeal_MemoryRefIdeal_pre_finite_scores (hMemoryIdeal := hMemoryIdeal) (hMemoryRefIdeal := hMemoryRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Project_ProjectIdeal
    ∧ algebraic_ProjectIdeal_ProjectRefIdeal (hProjectIdeal := hProjectIdeal) (hProjectRefIdeal := hProjectRefIdeal)
    ∧ preserves_Outproj_OutprojIdeal
    ∧ algebraic_OutprojIdeal_OutprojRefIdeal (hOutprojIdeal := hOutprojIdeal) (hOutprojRefIdeal := hOutprojRefIdeal)
    ∧ preserves_ProjectQkv_ProjectQkvIdeal
    ∧ algebraic_ProjectQkvIdeal_ProjectQkvRefIdeal (hProjectQkvIdeal := hProjectQkvIdeal) (hProjectQkvRefIdeal := hProjectQkvRefIdeal)
    ∧ preserves_ProjectUv_ProjectUvIdeal
    ∧ algebraic_ProjectUvIdeal_ProjectUvRefIdeal (hProjectUvIdeal := hProjectUvIdeal) (hProjectUvRefIdeal := hProjectUvRefIdeal)
-- ==== Pre_finite_scores.lean ====
abbrev S4x4096x2048 : Shape := ⟨3, ![4, 4096, 2048]⟩
abbrev S4x256x4096 : Shape := ⟨3, ![4, 256, 4096]⟩
abbrev S2048x2048 : Shape := ⟨2, ![2048, 2048]⟩
abbrev S4x256x2048 : Shape := ⟨3, ![4, 256, 2048]⟩
abbrev S_ : Shape := ⟨0, ![]⟩

class Facts : Prop where
  slices_S4x256x4096_S4x256x2048_0_0_0 : S4x256x4096.Slices ![0, 0, 0] S4x256x2048
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x256x2048 : S_.BroadcastsInDim S4x256x2048 (![] : Fin 0 → Fin S4x256x2048.rank)
  reducesTo_S4x256x2048_S_d0_1_2 : S4x256x2048.ReducesTo [0, 1, 2] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x4096x2048 .f32) (main_arg1 : FVec F S4x256x4096 .f32) (main_arg2 : FVec F S2048x2048 .f32) : IVec S_ 1 :=
  let main_v0 : FVec F S4x256x2048 .f32 := (extractStridedSlice S4x256x2048 ![0, 0, 0] · slices_S4x256x4096_S4x256x2048_0_0_0) main_arg1
  let main_v1 : FVec F S4x4096x2048 .f32 := Host.absf main_arg0
  let main_cst : FVec F S_ .f32 := constant S_ .f32 0x7F800000#32
  let main_v2 : FVec F S4x4096x2048 .f32 := broadcastInDim S4x4096x2048 ![] bcast_S_S4x4096x2048 main_cst
  let main_v3 : IVec S4x4096x2048 1 := cmpf .olt main_v1 main_v2
  let main_c : IVec S_ 1 := constantI S_ 1 1#1
  let main_v4 : IVec S_ 1 := (fun x v => Host.reduce IntOp.andi x v reducesTo_S4x4096x2048_S_d0_1_2 h_S_) main_v3 main_c
  let main_v5 : FVec F S4x256x2048 .f32 := Host.absf main_v0
  let main_cst_0 : FVec F S_ .f32 := constant S_ .f32 0x7F800000#32
  let main_v6 : FVec F S4x256x2048 .f32 := broadcastInDim S4x256x2048 ![] bcast_S_S4x256x2048 main_cst_0
  let main_v7 : IVec S4x256x2048 1 := cmpf .olt main_v5 main_v6
  let main_c_1 : IVec S_ 1 := constantI S_ 1 1#1
  let main_v8 : IVec S_ 1 := (fun x v => Host.reduce IntOp.andi x v reducesTo_S4x256x2048_S_d0_1_2 h_S_) main_v7 main_c_1
  let main_v9 : IVec S_ 1 := andi main_v4 main_v8
  let main_v10 : FVec F S2048x2048 .f32 := Host.absf main_arg2
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  let main_c_3 : IVec S_ 1 := constantI S_ 1 1#1
  let main_v13 : IVec S_ 1 := (fun x v => Host.reduce IntOp.andi x v reducesTo_S2048x2048_S_d0_1 h_S_) main_v12 main_c_3
  let main_v14 : IVec S_ 1 := andi main_v9 main_v13
  main_v14
-- ==== Memory.lean ====
abbrev S4x4096x2048 : Shape := ⟨3, ![4, 4096, 2048]⟩
abbrev S4x256x4096 : Shape := ⟨3, ![4, 256, 4096]⟩
abbrev S2048x2048 : Shape := ⟨2, ![2048, 2048]⟩
abbrev S16384x2048 : Shape := ⟨2, ![16384, 2048]⟩
abbrev S1024x4096 : Shape := ⟨2, ![1024, 4096]⟩
abbrev S1024x2048 : Shape := ⟨2, ![1024, 2048]⟩
abbrev S256x2048 : Shape := ⟨2, ![256, 2048]⟩
abbrev S2048x512 : Shape := ⟨2, ![2048, 512]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S4x256x4096, .f32⟩
  | .hbm, ⟨2, _⟩ => ⟨S2048x2048, .f32⟩
  | .hbm, ⟨3, _⟩ => ⟨S16384x2048, .f32⟩
  | .hbm, ⟨4, _⟩ => ⟨S2048x2048, .bf16⟩
  | .hbm, ⟨5, _⟩ => ⟨S1024x4096, .f32⟩
  | .hbm, ⟨6, _⟩ => ⟨S1024x4096, .bf16⟩
  | .hbm, ⟨7, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S1024x2048, .bf16⟩
  | .local _ .vmem, ⟨8, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemoryRefIdeal.lean ====
abbrev S4x4096x2048 : Shape := ⟨3, ![4, 4096, 2048]⟩
abbrev S4x256x4096 : Shape := ⟨3, ![4, 256, 4096]⟩
abbrev S2048x2048 : Shape := ⟨2, ![2048, 2048]⟩
abbrev S4x4096x4x512 : Shape := ⟨4, ![4, 4096, 4, 512]⟩
abbrev S4x256x2048 : Shape := ⟨3, ![4, 256, 2048]⟩
abbrev S4x256x4x512 : Shape := ⟨4, ![4, 256, 4, 512]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x512x4096 : Shape := ⟨4, ![4, 4, 512, 4096]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x4096, .f32⟩
  | .hbm, ⟨2, _⟩ => ⟨S2048x2048, .f32⟩
  | .hbm, ⟨3, _⟩ => ⟨S4x4096x2048, .f32⟩
  | .hbm, ⟨4, _⟩ => ⟨S4x4096x4x512, .f32⟩
  | .hbm, ⟨5, _⟩ => ⟨S4x256x2048, .f32⟩
  | .hbm, ⟨6, _⟩ => ⟨S4x256x2048, .f32⟩
  | .hbm, ⟨7, _⟩ => ⟨S4x256x4x512, .f32⟩
  | .hbm, ⟨8, _⟩ => ⟨S4x256x4x512, .f32⟩
  | .hbm, ⟨9, _⟩ => ⟨S4x4x4096x256, .f32⟩
  | .hbm, ⟨10, _⟩ => ⟨S_, .f32⟩
  | .hbm, ⟨11, _⟩ => ⟨S4x4x4096x256, .f32⟩
  | .hbm, ⟨12, _⟩ => ⟨S4x4x4096x256, .f32⟩
  | .hbm, ⟨13, _⟩ => ⟨S_, .f32⟩
  | .hbm, ⟨14, _⟩ => ⟨S4x4x4096, .f32⟩
  | .hbm, ⟨15, _⟩ => ⟨S_, .f32⟩
  | .hbm, ⟨16, _⟩ => ⟨S4x4x4096, .f32⟩
  | .hbm, ⟨17, _⟩ => ⟨S4x4x4096, .f32⟩
  | .hbm, ⟨18, _⟩ => ⟨S4x4x4096x1, .f32⟩
  | .hbm, ⟨19, _⟩ => ⟨S4x4x4096x256, .f32⟩
  | .hbm, ⟨20, _⟩ => ⟨S4x4x4096x256, .f32⟩
  | .hbm, ⟨21, _⟩ => ⟨S4x4x4096x256, .f32⟩
  | .hbm, ⟨22, _⟩ => ⟨S_, .f32⟩
  | .hbm, ⟨23, _⟩ => ⟨S4x4x4096, .f32⟩
  | .hbm, ⟨24, _⟩ => ⟨S4x4x4096x1, .f32⟩
  | .hbm, ⟨25, _⟩ => ⟨S4x4x4096x256, .f32⟩
  | .hbm, ⟨26, _⟩ => ⟨S4x4x4096x256, .f32⟩
  | .hbm, ⟨27, _⟩ => ⟨S4x4x512x4096, .f32⟩
  | .hbm, ⟨28, _⟩ => ⟨S4x4096x4x512, .f32⟩
  | .hbm, ⟨29, _⟩ => ⟨S4x4096x4x512, .bf16⟩
  | .hbm, ⟨30, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Ffn.lean ====
abbrev S4x4096x2048 : Shape := ⟨3, ![4, 4096, 2048]⟩
abbrev S2048x11008 : Shape := ⟨2, ![2048, 11008]⟩
abbrev S5504x2048 : Shape := ⟨2, ![5504, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S2048x512 : Shape := ⟨2, ![2048, 512]⟩
abbrev S2x2048x512 : Shape := ⟨3, ![2, 2048, 512]⟩
abbrev S2x512x2048 : Shape := ⟨3, ![2, 512, 2048]⟩
abbrev S3 : Shape := ⟨1, ![3]⟩
abbrev S2x3 : Shape := ⟨2, ![2, 3]⟩
abbrev S1 : Shape := ⟨1, ![1]⟩
abbrev S_ : Shape := ⟨0, ![]⟩
abbrev S1x1 : Shape := ⟨2, ![1, 1]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S512x512 : Shape := ⟨2, ![512, 512]⟩
abbrev S2048x384 : Shape := ⟨2, ![2048, 384]⟩
abbrev S1x2048x384 : Shape := ⟨3, ![1, 2048, 384]⟩
abbrev S384x2048 : Shape := ⟨2, ![384, 2048]⟩
abbrev S1x384x2048 : Shape := ⟨3, ![1, 384, 2048]⟩
abbrev S512x384 : Shape := ⟨2, ![512, 384]⟩

abbrev nBuf : Space → Nat
  | .hbm => 11
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S2048x11008, .f32⟩
  | .hbm, ⟨2, _⟩ => ⟨S5504x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S2048x11008, .bf16⟩
  | .hbm, ⟨7, _⟩ => ⟨S5504x2048, .bf16⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S2x2048x512, .bf16⟩
  | .local _ .vmem, ⟨13, _⟩ => ⟨S2x2048x512, .bf16⟩
  | .local _ .vmem, ⟨14, _⟩ => ⟨S2x512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c1_i32_55 : BitVec 32 := 1#32
  let c8_i32 : BitVec 32 := 8#32
  let v73 : BitVec 32 := Scalar.addi c1_i32_55 c8_i32
  let c1_i32_56 : BitVec 32 := 1#32
  ⟨c1_i32_55, v73, c1_i32_56⟩
def k0_mult1 (k0_t1 : Fin k0_t1_loop.trips) : BitVec 32 :=
  let c1_i32_55 : BitVec 32 := 1#32
  let c1_i32_56 : BitVec 32 := 1#32
  let arg18 : BitVec 32 := Scf.iv c1_i32_55 c1_i32_56 k0_t1
  let c1_i32_193 : BitVec 32 := 1#32
  let v189 : BitVec 32 := Scalar.addi arg18 c1_i32_193
  let c512_i32_195 : BitVec 32 := 512#32
  let v191 : BitVec 32 := Scalar.muli v189 c512_i32_195
  v191
def k0_off1 (k0_t1 : Fin k0_t1_loop.trips) : Fin 2 → Nat :=
  let c1_i32_194 : BitVec 32 := 1#32
  let c1_i32_55 : BitVec 32 := 1#32
  let c1_i32_56 : BitVec 32 := 1#32
  let arg18 : BitVec 32 := Scf.iv c1_i32_55 c1_i32_56 k0_t1
  let c2_i32_187 : BitVec 32 := 2#32
  let c0_i32_188 : BitVec 32 := 0#32
  let v179 : BitVec 1 := Scalar.cmpi .eq c2_i32_187 c0_i32_188
  let c1_i32_189 : BitVec 32 := 1#32
  let v180 : BitVec 32 := Scalar.select v179 c1_i32_189 c2_i32_187
  let v181 : BitVec 32 := Scalar.remsi arg18 v180
  let c0_i32_191 : BitVec 32 := 0#32
  let v183 : BitVec 1 := Scalar.cmpi .slt v181 c0_i32_191
  let c0_i32_192 : BitVec 32 := 0#32
  let v184 : BitVec 1 := Scalar.cmpi .slt v180 c0_i32_192
  let v185 : BitVec 1 := Scalar.xori v183 v184
  let c0_i32_190 : BitVec 32 := 0#32
  let v182 : BitVec 1 := Scalar.cmpi .ne v181 c0_i32_190
  let v186 : BitVec 1 := Scalar.andi v185 v182
  let v187 : BitVec 32 := Scalar.addi v181 v180
  let v188 : BitVec 32 := Scalar.select v186 v187 v181
  let v190 : BitVec 32 := Scalar.subi c1_i32_194 v188
  let c0_i32_196 : BitVec 32 := 0#32
  ![v190.toNat, 0]
def k0_off2 (k0_t1 : Fin k0_t1_loop.trips) : Fin 3 → Nat :=
  let c1_i32_194 : BitVec 32 := 1#32
  let c1_i32_55 : BitVec 32 := 1#32
  let c1_i32_56 : BitVec 32 := 1#32
  let arg18 : BitVec 32 := Scf.iv c1_i32_55 c1_i32_56 k0_t1
  let c2_i32_187 : BitVec 32 := 2#32
  let c0_i32_188 : BitVec 32 := 0#32
  let v179 : BitVec 1 := Scalar.cmpi .eq c2_i32_187 c0_i32_188
  let c1_i32_189 : BitVec 32 := 1#32
  let v180 : BitVec 32 := Scalar.select v179 c1_i32_189 c2_i32_187
  let v181 : BitVec 32 := Scalar.remsi arg18 v180
  let c0_i32_191 : BitVec 32 := 0#32
  let v183 : BitVec 1 := Scalar.cmpi .slt v181 c0_i32_191
  let c0_i32_192 : BitVec 32 := 0#32
  let v184 : BitVec 1 := Scalar.cmpi .slt v180 c0_i32_192
  let v185 : BitVec 1 := Scalar.xori v183 v184
  let c0_i32_190 : BitVec 32 := 0#32
  let v182 : BitVec 1 := Scalar.cmpi .ne v181 c0_i32_190
  let v186 : BitVec 1 := Scalar.andi v185 v182
  let v187 : BitVec 32 := Scalar.addi v181 v180
  let v188 : BitVec 32 := Scalar.select v186 v187 v181
  let v190 : BitVec 32 := Scalar.subi c1_i32_194 v188
  let c0_i32_197 : BitVec 32 := 0#32
  let c0_i32_198 : BitVec 32 := 0#32
  ![v190.toNat, 0, 0]
def k0_off3 (k0_t1 : Fin k0_t1_loop.trips) : Fin 2 → Nat :=
  let c0_i32_201 : BitVec 32 := 0#32
  let c1_i32_55 : BitVec 32 := 1#32
  let c1_i32_56 : BitVec 32 := 1#32
  let arg18 : BitVec 32 := Scf.iv c1_i32_55 c1_i32_56 k0_t1
  let c1_i32_193 : BitVec 32 := 1#32
  let v189 : BitVec 32 := Scalar.addi arg18 c1_i32_193
  let c512_i32_195 : BitVec 32 := 512#32
  let v191 : BitVec 32 := Scalar.muli v189 c512_i32_195
  let v192 : BitVec 32 := v191
  ![0, v192.toNat]
def k0_off4 (k0_t1 : Fin k0_t1_loop.trips) : Fin 2 → Nat :=
  let c1_i32_194 : BitVec 32 := 1#32
  let c1_i32_55 : BitVec 32 := 1#32
  let c1_i32_56 : BitVec 32 := 1#32
  let arg18 : BitVec 32 := Scf.iv c1_i32_55 c1_i32_56 k0_t1
  let c2_i32_187 : BitVec 32 := 2#32
  let c0_i32_188 : BitVec 32 := 0#32
  let v179 : BitVec 1 := Scalar.cmpi .eq c2_i32_187 c0_i32_188
  let c1_i32_189 : BitVec 32 := 1#32
  let v180 : BitVec 32 := Scalar.select v179 c1_i32_189 c2_i32_187
  let v181 : BitVec 32 := Scalar.remsi arg18 v180
  let c0_i32_191 : BitVec 32 := 0#32
  let v183 : BitVec 1 := Scalar.cmpi .slt v181 c0_i32_191
  let c0_i32_192 : BitVec 32 := 0#32
  let v184 : BitVec 1 := Scalar.cmpi .slt v180 c0_i32_192
  let v185 : BitVec 1 := Scalar.xori v183 v184
  let c0_i32_190 : BitVec 32 := 0#32
  let v182 : BitVec 1 := Scalar.cmpi .ne v181 c0_i32_190
  let v186 : BitVec 1 := Scalar.andi v185 v182
  let v187 : BitVec 32 := Scalar.addi v181 v180
  let v188 : BitVec 32 := Scalar.select v186 v187 v181
  let v190 : BitVec 32 := Scalar.subi c1_i32_194 v188
  let c1_i32_202 : BitVec 32 := 1#32
  ![v190.toNat, 1]
def k0_off5 (k0_t1 : Fin k0_t1_loop.trips) : Fin 2 → Nat :=
  let c0_i32_207 : BitVec 32 := 0#32
  let c5504_i32 : BitVec 32 := 5504#32
  let c1_i32_55 : BitVec 32 := 1#32
  let c1_i32_56 : BitVec 32 := 1#32
  let arg18 : BitVec 32 := Scf.iv c1_i32_55 c1_i32_56 k0_t1
  let c1_i32_193 : BitVec 32 := 1#32
  let v189 : BitVec 32 := Scalar.addi arg18 c1_i32_193
  let c512_i32_195 : BitVec 32 := 512#32
  let v191 : BitVec 32 := Scalar.muli v189 c512_i32_195
  let v192 : BitVec 32 := v191
  let v193 : BitVec 32 := Scalar.addi c5504_i32 v192
  ![0, v193.toNat]
def k0_off6 (k0_t1 : Fin k0_t1_loop.trips) : Fin 2 → Nat :=
  let c1_i32_194 : BitVec 32 := 1#32
  let c1_i32_55 : BitVec 32 := 1#32
  let c1_i32_56 : BitVec 32 := 1#32
  let arg18 : BitVec 32 := Scf.iv c1_i32_55 c1_i32_56 k0_t1
  let c2_i32_187 : BitVec 32 := 2#32
  let c0_i32_188 : BitVec 32 := 0#32
  let v179 : BitVec 1 := Scalar.cmpi .eq c2_i32_187 c0_i32_188
  let c1_i32_189 : BitVec 32 := 1#32
  let v180 : BitVec 32 := Scalar.select v179 c1_i32_189 c2_i32_187
  let v181 : BitVec 32 := Scalar.remsi arg18 v180
  let c0_i32_191 : BitVec 32 := 0#32
  let v183 : BitVec 1 := Scalar.cmpi .slt v181 c0_i32_191
  let c0_i32_192 : BitVec 32 := 0#32
  let v184 : BitVec 1 := Scalar.cmpi .slt v180 c0_i32_192
  let v185 : BitVec 1 := Scalar.xori v183 v184
  let c0_i32_190 : BitVec 32 := 0#32
  let v182 : BitVec 1 := Scalar.cmpi .ne v181 c0_i32_190
  let v186 : BitVec 1 := Scalar.andi v185 v182
  let v187 : BitVec 32 := Scalar.addi v181 v180
  let v188 : BitVec 32 := Scalar.select v186 v187 v181
  let v190 : BitVec 32 := Scalar.subi c1_i32_194 v188
  let c2_i32_208 : BitVec 32 := 2#32
  ![v190.toNat, 2]
def k0_off7 (k0_t1 : Fin k0_t1_loop.trips) : Fin 3 → Nat :=
  let c1_i32_194 : BitVec 32 := 1#32
  let c1_i32_55 : BitVec 32 := 1#32
  let c1_i32_56 : BitVec 32 := 1#32
  let arg18 : BitVec 32 := Scf.iv c1_i32_55 c1_i32_56 k0_t1
  let c2_i32_187 : BitVec 32 := 2#32
  let c0_i32_188 : BitVec 32 := 0#32
  let v179 : BitVec 1 := Scalar.cmpi .eq c2_i32_187 c0_i32_188
  let c1_i32_189 : BitVec 32 := 1#32
  let v180 : BitVec 32 := Scalar.select v179 c1_i32_189 c2_i32_187
  let v181 : BitVec 32 := Scalar.remsi arg18 v180
  let c0_i32_191 : BitVec 32 := 0#32
  let v183 : BitVec 1 := Scalar.cmpi .slt v181 c0_i32_191
  let c0_i32_192 : BitVec 32 := 0#32
  let v184 : BitVec 1 := Scalar.cmpi .slt v180 c0_i32_192
  let v185 : BitVec 1 := Scalar.xori v183 v184
  let c0_i32_190 : BitVec 32 := 0#32
  let v182 : BitVec 1 := Scalar.cmpi .ne v181 c0_i32_190
  let v186 : BitVec 1 := Scalar.andi v185 v182
  let v187 : BitVec 32 := Scalar.addi v181 v180
  let v188 : BitVec 32 := Scalar.select v186 v187 v181
  let v190 : BitVec 32 := Scalar.subi c1_i32_194 v188
  let c0_i32_209 : BitVec 32 := 0#32
  let c0_i32_210 : BitVec 32 := 0#32
  ![v190.toNat, 0, 0]
def k0_off8 (k0_t1 : Fin k0_t1_loop.trips) : Fin 2 → Nat :=
  let c1_i32_55 : BitVec 32 := 1#32
  let c1_i32_56 : BitVec 32 := 1#32
  let arg18 : BitVec 32 := Scf.iv c1_i32_55 c1_i32_56 k0_t1
  let c1_i32_193 : BitVec 32 := 1#32
  let v189 : BitVec 32 := Scalar.addi arg18 c1_i32_193
  let c512_i32_195 : BitVec 32 := 512#32
  let v191 : BitVec 32 := Scalar.muli v189 c512_i32_195
  let v192 : BitVec 32 := v191
  let c0_i32_213 : BitVec 32 := 0#32
  ![v192.toNat, 0]
def k0_mult2 (k0_t1 : Fin k0_t1_loop.trips) : BitVec 32 :=
  let c1_i32_55 : BitVec 32 := 1#32
  let c1_i32_56 : BitVec 32 := 1#32
  let arg18 : BitVec 32 := Scf.iv c1_i32_55 c1_i32_56 k0_t1
  let c512_i32_214 : BitVec 32 := 512#32
  let v212 : BitVec 32 := Scalar.muli arg18 c512_i32_214
  v212
def k0_off9 (k0_t1 : Fin k0_t1_loop.trips) : Fin 2 → Nat :=
  let c1_i32_55 : BitVec 32 := 1#32
  let c1_i32_56 : BitVec 32 := 1#32
  let arg18 : BitVec 32 := Scf.iv c1_i32_55 c1_i32_56 k0_t1
  let c2_i32_187 : BitVec 32 := 2#32
  let c0_i32_188 : BitVec 32 := 0#32
  let v179 : BitVec 1 := Scalar.cmpi .eq c2_i32_187 c0_i32_188
  let c1_i32_189 : BitVec 32 := 1#32
  let v180 : BitVec 32 := Scalar.select v179 c1_i32_189 c2_i32_187
  let v181 : BitVec 32 := Scalar.remsi arg18 v180
  let c0_i32_191 : BitVec 32 := 0#32
  let v183 : BitVec 1 := Scalar.cmpi .slt v181 c0_i32_191
  let c0_i32_192 : BitVec 32 := 0#32
  let v184 : BitVec 1 := Scalar.cmpi .slt v180 c0_i32_192
  let v185 : BitVec 1 := Scalar.xori v183 v184
  let c0_i32_190 : BitVec 32 := 0#32
  let v182 : BitVec 1 := Scalar.cmpi .ne v181 c0_i32_190
  let v186 : BitVec 1 := Scalar.andi v185 v182
  let v187 : BitVec 32 := Scalar.addi v181 v180
  let v188 : BitVec 32 := Scalar.select v186 v187 v181
  let c0_i32_216 : BitVec 32 := 0#32
  ![v188.toNat, 0]
def k0_off10 (k0_t1 : Fin k0_t1_loop.trips) : Fin 3 → Nat :=
  let c1_i32_55 : BitVec 32 := 1#32
  let c1_i32_56 : BitVec 32 := 1#32
  let arg18 : BitVec 32 := Scf.iv c1_i32_55 c1_i32_56 k0_t1
  let c2_i32_187 : BitVec 32 := 2#32
  let c0_i32_188 : BitVec 32 := 0#32
  let v179 : BitVec 1 := Scalar.cmpi .eq c2_i32_187 c0_i32_188
  let c1_i32_189 : BitVec 32 := 1#32
  let v180 : BitVec 32 := Scalar.select v179 c1_i32_189 c2_i32_187
  let v181 : BitVec 32 := Scalar.remsi arg18 v180
  let c0_i32_191 : BitVec 32 := 0#32
  let v183 : BitVec 1 := Scalar.cmpi .slt v181 c0_i32_191
  let c0_i32_192 : BitVec 32 := 0#32
  let v184 : BitVec 1 := Scalar.cmpi .slt v180 c0_i32_192
  let v185 : BitVec 1 := Scalar.xori v183 v184
  let c0_i32_190 : BitVec 32 := 0#32
  let v182 : BitVec 1 := Scalar.cmpi .ne v181 c0_i32_190
  let v186 : BitVec 1 := Scalar.andi v185 v182
  let v187 : BitVec 32 := Scalar.addi v181 v180
  let v188 : BitVec 32 := Scalar.select v186 v187 v181
  let c0_i32_217 : BitVec 32 := 0#32
  let c0_i32_218 : BitVec 32 := 0#32
  ![v188.toNat, 0, 0]
def k0_off11 (k0_t1 : Fin k0_t1_loop.trips) : Fin 2 → Nat :=
  let c0_i32_221 : BitVec 32 := 0#32
  let c1_i32_55 : BitVec 32 := 1#32
  let c1_i32_56 : BitVec 32 := 1#32
  let arg18 : BitVec 32 := Scf.iv c1_i32_55 c1_i32_56 k0_t1
  let c512_i32_214 : BitVec 32 := 512#32
  let v212 : BitVec 32 := Scalar.muli arg18 c512_i32_214
  let v213 : BitVec 32 := v212
  ![0, v213.toNat]
def k0_off12 (k0_t1 : Fin k0_t1_loop.trips) : Fin 2 → Nat :=
  let c1_i32_55 : BitVec 32 := 1#32
  let c1_i32_56 : BitVec 32 := 1#32
  let arg18 : BitVec 32 := Scf.iv c1_i32_55 c1_i32_56 k0_t1
  let c2_i32_187 : BitVec 32 := 2#32
  let c0_i32_188 : BitVec 32 := 0#32
  let v179 : BitVec 1 := Scalar.cmpi .eq c2_i32_187 c0_i32_188
  let c1_i32_189 : BitVec 32 := 1#32
  let v180 : BitVec 32 := Scalar.select v179 c1_i32_189 c2_i32_187
  let v181 : BitVec 32 := Scalar.remsi arg18 v180
  let c0_i32_191 : BitVec 32 := 0#32
  let v183 : BitVec 1 := Scalar.cmpi .slt v181 c0_i32_191
  let c0_i32_192 : BitVec 32 := 0#32
  let v184 : BitVec 1 := Scalar.cmpi .slt v180 c0_i32_192
  let v185 : BitVec 1 := Scalar.xori v183 v184
  let c0_i32_190 : BitVec 32 := 0#32
  let v182 : BitVec 1 := Scalar.cmpi .ne v181 c0_i32_190
  let v186 : BitVec 1 := Scalar.andi v185 v182
  let v187 : BitVec 32 := Scalar.addi v181 v180
  let v188 : BitVec 32 := Scalar.select v186 v187 v181
  let c1_i32_222 : BitVec 32 := 1#32
  ![v188.toNat, 1]
def k0_off13 (k0_t1 : Fin k0_t1_loop.trips) : Fin 2 → Nat :=
  let c0_i32_227 : BitVec 32 := 0#32
  let c5504_i32_215 : BitVec 32 := 5504#32
  let c1_i32_55 : BitVec 32 := 1#32
  let c1_i32_56 : BitVec 32 := 1#32
  let arg18 : BitVec 32 := Scf.iv c1_i32_55 c1_i32_56 k0_t1
  let c512_i32_214 : BitVec 32 := 512#32
  let v212 : BitVec 32 := Scalar.muli arg18 c512_i32_214
  let v213 : BitVec 32 := v212
  let v214 : BitVec 32 := Scalar.addi c5504_i32_215 v213
  ![0, v214.toNat]
def k0_off14 (k0_t1 : Fin k0_t1_loop.trips) : Fin 2 → Nat :=
  let c1_i32_55 : BitVec 32 := 1#32
  let c1_i32_56 : BitVec 32 := 1#32
  let arg18 : BitVec 32 := Scf.iv c1_i32_55 c1_i32_56 k0_t1
  let c2_i32_187 : BitVec 32 := 2#32
  let c0_i32_188 : BitVec 32 := 0#32
  let v179 : BitVec 1 := Scalar.cmpi .eq c2_i32_187 c0_i32_188
  let c1_i32_189 : BitVec 32 := 1#32
  let v180 : BitVec 32 := Scalar.select v179 c1_i32_189 c2_i32_187
  let v181 : BitVec 32 := Scalar.remsi arg18 v180
  let c0_i32_191 : BitVec 32 := 0#32
  let v183 : BitVec 1 := Scalar.cmpi .slt v181 c0_i32_191
  let c0_i32_192 : BitVec 32 := 0#32
  let v184 : BitVec 1 := Scalar.cmpi .slt v180 c0_i32_192
  let v185 : BitVec 1 := Scalar.xori v183 v184
  let c0_i32_190 : BitVec 32 := 0#32
  let v182 : BitVec 1 := Scalar.cmpi .ne v181 c0_i32_190
  let v186 : BitVec 1 := Scalar.andi v185 v182
  let v187 : BitVec 32 := Scalar.addi v181 v180
  let v188 : BitVec 32 := Scalar.select v186 v187 v181
  let c2_i32_228 : BitVec 32 := 2#32
  ![v188.toNat, 2]
def k0_off15 (k0_t1 : Fin k0_t1_loop.trips) : Fin 3 → Nat :=
  let c1_i32_55 : BitVec 32 := 1#32
  let c1_i32_56 : BitVec 32 := 1#32
  let arg18 : BitVec 32 := Scf.iv c1_i32_55 c1_i32_56 k0_t1
  let c2_i32_187 : BitVec 32 := 2#32
  let c0_i32_188 : BitVec 32 := 0#32
  let v179 : BitVec 1 := Scalar.cmpi .eq c2_i32_187 c0_i32_188
  let c1_i32_189 : BitVec 32 := 1#32
  let v180 : BitVec 32 := Scalar.select v179 c1_i32_189 c2_i32_187
  let v181 : BitVec 32 := Scalar.remsi arg18 v180
  let c0_i32_191 : BitVec 32 := 0#32
  let v183 : BitVec 1 := Scalar.cmpi .slt v181 c0_i32_191
  let c0_i32_192 : BitVec 32 := 0#32
  let v184 : BitVec 1 := Scalar.cmpi .slt v180 c0_i32_192
  let v185 : BitVec 1 := Scalar.xori v183 v184
  let c0_i32_190 : BitVec 32 := 0#32
  let v182 : BitVec 1 := Scalar.cmpi .ne v181 c0_i32_190
  let v186 : BitVec 1 := Scalar.andi v185 v182
  let v187 : BitVec 32 := Scalar.addi v181 v180
  let v188 : BitVec 32 := Scalar.select v186 v187 v181
  let c0_i32_229 : BitVec 32 := 0#32
  let c0_i32_230 : BitVec 32 := 0#32
  ![v188.toNat, 0, 0]
def k0_off16 (k0_t1 : Fin k0_t1_loop.trips) : Fin 2 → Nat :=
  let c1_i32_55 : BitVec 32 := 1#32
  let c1_i32_56 : BitVec 32 := 1#32
  let arg18 : BitVec 32 := Scf.iv c1_i32_55 c1_i32_56 k0_t1
  let c512_i32_214 : BitVec 32 := 512#32
  let v212 : BitVec 32 := Scalar.muli arg18 c512_i32_214
  let v213 : BitVec 32 := v212
  let c0_i32_233 : BitVec 32 := 0#32
  ![v213.toNat, 0]
def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnRefIdeal.lean ====
abbrev S4x4096x2048 : Shape := ⟨3, ![4, 4096, 2048]⟩
abbrev S2048x11008 : Shape := ⟨2, ![2048, 11008]⟩
abbrev S5504x2048 : Shape := ⟨2, ![5504, 2048]⟩
abbrev S2048 : Shape := ⟨1, ![2048]⟩
abbrev S4x4096x11008 : Shape := ⟨3, ![4, 4096, 11008]⟩
abbrev S4x4096x5504 : Shape := ⟨3, ![4, 4096, 5504]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x11008, .f32⟩
  | .hbm, ⟨2, _⟩ => ⟨S5504x2048, .f32⟩
  | .hbm, ⟨3, _⟩ => ⟨S2048, .f32⟩
  | .hbm, ⟨4, _⟩ => ⟨S2048, .f32⟩
  | .hbm, ⟨5, _⟩ => ⟨S4x4096x11008, .f32⟩
  | .hbm, ⟨6, _⟩ => ⟨S4x4096x5504, .f32⟩
  | .hbm, ⟨7, _⟩ => ⟨S4x4096x5504, .f32⟩
  | .hbm, ⟨8, _⟩ => ⟨S4x4096x5504, .f32⟩
  | .hbm, ⟨9, _⟩ => ⟨S4x4096x5504, .f32⟩
  | .hbm, ⟨10, _⟩ => ⟨S_, .f32⟩
  | .hbm, ⟨11, _⟩ => ⟨S4x4096x5504, .f32⟩
  | .hbm, ⟨12, _⟩ => ⟨S4x4096x5504, .f32⟩
  | .hbm, ⟨13, _⟩ => ⟨S_, .f32⟩
  | .hbm, ⟨14, _⟩ => ⟨S4x4096x5504, .f32⟩
  | .hbm, ⟨15, _⟩ => ⟨S4x4096x5504, .f32⟩
  | .hbm, ⟨16, _⟩ => ⟨S4x4096x5504, .f32⟩
  | .hbm, ⟨17, _⟩ => ⟨S4x4096x5504, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x2048, .f32⟩
  | .hbm, ⟨42, _⟩ => ⟨S4x4096x2048, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x2048, .f32⟩
  | .hbm, ⟨48, _⟩ => ⟨S4x4096x2048, .f32⟩
  | .hbm, ⟨49, _⟩ => ⟨S1x1x2048, .f32⟩
  | .hbm, ⟨50, _⟩ => ⟨S4x4096x2048, .f32⟩
  | .hbm, ⟨51, _⟩ => ⟨S4x4096x2048, .f32⟩
  | .hbm, ⟨52, _⟩ => ⟨S1x1x2048, .f32⟩
  | .hbm, ⟨53, _⟩ => ⟨S4x4096x2048, .f32⟩
  | .hbm, ⟨54, _⟩ => ⟨S4x4096x2048, .f32⟩
  | .hbm, ⟨55, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Project.lean ====
abbrev S4x4096x2048 : Shape := ⟨3, ![4, 4096, 2048]⟩
abbrev S2048x6144 : Shape := ⟨2, ![2048, 6144]⟩
abbrev S16384x2048 : Shape := ⟨2, ![16384, 2048]⟩
abbrev S16384x6144 : Shape := ⟨2, ![16384, 6144]⟩
abbrev S1024x2048 : Shape := ⟨2, ![1024, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x6144, .f32⟩
  | .hbm, ⟨2, _⟩ => ⟨S16384x2048, .f32⟩
  | .hbm, ⟨3, _⟩ => ⟨S2048x6144, .bf16⟩
  | .hbm, ⟨4, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectRefIdeal.lean ====
abbrev S4x4096x2048 : Shape := ⟨3, ![4, 4096, 2048]⟩
abbrev S2048x6144 : Shape := ⟨2, ![2048, 6144]⟩
abbrev S4x4096x6144 : Shape := ⟨3, ![4, 4096, 6144]⟩
abbrev S16384x6144 : Shape := ⟨2, ![16384, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x6144, .f32⟩
  | .hbm, ⟨2, _⟩ => ⟨S4x4096x6144, .f32⟩
  | .hbm, ⟨3, _⟩ => ⟨S4x4096x6144, .bf16⟩
  | .hbm, ⟨4, _⟩ => ⟨S16384x6144, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Outproj.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x2048, .bf16⟩
  | .hbm, ⟨7, _⟩ => ⟨S2048x2048, .bf16⟩
  | .hbm, ⟨8, _⟩ => ⟨S16384x2048, .f32⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojRefIdeal.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S1x1x2048, .f32⟩
  | .hbm, ⟨37, _⟩ => ⟨S4x4096x2048, .f32⟩
  | .hbm, ⟨38, _⟩ => ⟨S4x4096x2048, .f32⟩
  | .hbm, ⟨39, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== ProjectQkv.lean ====
abbrev S4x4096x2048 : Shape := ⟨3, ![4, 4096, 2048]⟩
abbrev S2048x6656 : Shape := ⟨2, ![2048, 6656]⟩
abbrev S16384x2048 : Shape := ⟨2, ![16384, 2048]⟩
abbrev S2048x4608 : Shape := ⟨2, ![2048, 4608]⟩
abbrev S16384x4608 : Shape := ⟨2, ![16384, 4608]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x6656, .f32⟩
  | .hbm, ⟨2, _⟩ => ⟨S16384x2048, .f32⟩
  | .hbm, ⟨3, _⟩ => ⟨S2048x4608, .f32⟩
  | .hbm, ⟨4, _⟩ => ⟨S2048x4608, .bf16⟩
  | .hbm, ⟨5, _⟩ => ⟨S16384x4608, .f32⟩
  | .local _ .vmem, ⟨0, _⟩ => ⟨S1024x2048, .f32⟩
  | .local _ .vmem, ⟨1, _⟩ => ⟨S1024x2048, .f32⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectQkvRefIdeal.lean ====
abbrev S4x4096x2048 : Shape := ⟨3, ![4, 4096, 2048]⟩
abbrev S2048x6656 : Shape := ⟨2, ![2048, 6656]⟩
abbrev S4x4096x6656 : Shape := ⟨3, ![4, 4096, 6656]⟩
abbrev S4x4096x4608 : Shape := ⟨3, ![4, 4096, 4608]⟩
abbrev S16384x4608 : Shape := ⟨2, ![16384, 4608]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x6656, .f32⟩
  | .hbm, ⟨2, _⟩ => ⟨S4x4096x6656, .f32⟩
  | .hbm, ⟨3, _⟩ => ⟨S4x4096x4608, .f32⟩
  | .hbm, ⟨4, _⟩ => ⟨S16384x4608, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjectUv.lean ====
abbrev S4x4096x2048 : Shape := ⟨3, ![4, 4096, 2048]⟩
abbrev S2048x6656 : Shape := ⟨2, ![2048, 6656]⟩
abbrev S16384x2048 : Shape := ⟨2, ![16384, 2048]⟩
abbrev S2048x2048 : Shape := ⟨2, ![2048, 2048]⟩
abbrev S1024x2048 : Shape := ⟨2, ![1024, 2048]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x6656, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectUvRefIdeal.lean ====
abbrev S4x4096x2048 : Shape := ⟨3, ![4, 4096, 2048]⟩
abbrev S2048x6656 : Shape := ⟨2, ![2048, 6656]⟩
abbrev S4x4096x6656 : Shape := ⟨3, ![4, 4096, 6656]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x6656, .f32⟩
  | .hbm, ⟨2, _⟩ => ⟨S4x4096x6656, .f32⟩
  | .hbm, ⟨3, _⟩ => ⟨S4x4096x2048, .f32⟩
  | .hbm, ⟨4, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Reals.lean ====
module

public import Idealize.ShloMosaic.Lib.Pipeline.ValueKit
public import Idealize.ShloMosaic.Lib.ReduceAll

/-! Facts about extended reals: which values are real numbers, and the softmax quotient taken before or after the
    weighted sum. -/

@[expose] public section

noncomputable section

open Idealize.ShloMosaic

namespace Cert.Reals

/-- `x` is a real number. -/
def IsReal (x : EReal) : Prop := ∃ r : ℝ, x = r

/-- What is neither infinity is a real number. -/
theorem IsReal.of_ne {x : EReal} (h : x ≠ ⊤) (h' : x ≠ ⊥) : IsReal x :=
  ⟨x.toReal, (EReal.coe_toReal h h').symm⟩

/-- A product of real numbers is one. -/
theorem IsReal.mul {x y : EReal} : IsReal x → IsReal y → IsReal (x * y) := by
  rintro ⟨a, rfl⟩ ⟨b, rfl⟩
  exact ⟨a * b, (EReal.coe_mul a b).symm⟩

/-- A finite sum of real numbers is the real number their sum is. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of real numbers is one. -/
theorem IsReal.sum {ι : Type} (S : Finset ι) {f : ι → EReal} (h : ∀ i, IsReal (f i)) : IsReal (∑ i ∈ S, f i) := by
  choose g hg using h
  exact ⟨∑ i ∈ S, g i, by rw [coe_sum]; exact Finset.sum_congr rfl fun i _ => hg i⟩

/-- A value whose absolute value compares below infinity is a real number. -/
theorem IsReal.of_abs_lt {x : EReal} (h : (x.abs : EReal) < ⊤) : IsReal x := by
  refine .of_ne (fun hx => ?_) (fun hx => ?_) <;> · subst hx; simp at h

/-- A nonnegative real factor moves into a finite sum. -/
theorem sum_mul_real {ι : Type} (S : Finset ι) (f : ι → EReal) {a : EReal} (h0 : 0 ≤ a) (ht : a ≠ ⊤) :
    (∑ i ∈ S, f i) * a = ∑ i ∈ S, f i * a := by
  classical
  induction S using Finset.induction_on with
  | empty => simp
  | insert b S hb ih =>
    rw [Finset.sum_insert hb, Finset.sum_insert hb, EReal.right_distrib_of_nonneg_of_ne_top h0 ht, ih]

/-- The greatest of finitely many real numbers (from minus infinity, at least one of them) is a real number. -/
theorem IsReal.foldMax {n : ℕ} [NeZero n] {s : Fin n → EReal} (h : ∀ k, IsReal (s k)) :
    IsReal (Finset.univ.fold max ⊥ s) := by
  refine .of_ne (ne_of_lt ?_) (ne_of_gt ?_)
  · refine (Finset.fold_max_lt _).2 ⟨bot_lt_top, fun k _ => ?_⟩
    obtain ⟨r, hr⟩ := h k
    rw [hr]; exact EReal.coe_lt_top r
  · obtain ⟨r, hr⟩ := h 0
    exact lt_of_lt_of_le (by rw [hr]; exact EReal.bot_lt_coe r) ((Finset.le_fold_max _).2 (.inr ⟨0, Finset.mem_univ _, le_rfl⟩))

/-- The exponential of a difference of real numbers. -/
theorem exp_sub_coe (a b : ℝ) : Ideal.exp ((a : EReal) - b) = (Real.exp (a - b) : ℝ) := by
  rw [← EReal.coe_sub]; rfl

/-- SOFTMAX. On real scores, dividing the weighted sum by the normaliser is weighting by the divided exponentials. -/
theorem softmax_quotient {n : ℕ} [NeZero n] {s : Fin n → EReal} (v : Fin n → EReal) (h : ∀ k, IsReal (s k)) :
    Ideal.div (∑ k, Ideal.exp (s k - Finset.univ.fold max ⊥ s) * v k) (∑ k, Ideal.exp (s k - Finset.univ.fold max ⊥ s))
      = ∑ k, v k * Ideal.div (Ideal.exp (s k - Finset.univ.fold max ⊥ s))
          (∑ k, Ideal.exp (s k - Finset.univ.fold max ⊥ s)) := by
  obtain ⟨μ, hμ⟩ := IsReal.foldMax h
  rw [hμ]
  choose σ hσ using h
  have hl : (∑ k, Ideal.exp (s k - μ)) = ((∑ k, Real.exp (σ k - μ) : ℝ) : EReal) := by
    rw [coe_sum]; exact Finset.sum_congr rfl fun k _ => by rw [hσ k, exp_sub_coe]
  have hpos : 0 < ∑ k, Real.exp (σ k - μ) := Finset.sum_pos (fun k _ => Real.exp_pos _) ⟨0, Finset.mem_univ _⟩
  rw [hl]
  have hne : ((∑ k, Real.exp (σ k - μ) : ℝ) : EReal) ≠ 0 := by exact_mod_cast hpos.ne'
  have hinv : 0 ≤ ((∑ k, Real.exp (σ k - μ) : ℝ) : EReal)⁻¹ := EReal.inv_nonneg_of_nonneg (by exact_mod_cast hpos.le)
  have htop : ((∑ k, Real.exp (σ k - μ) : ℝ) : EReal)⁻¹ ≠ ⊤ := by
    rw [← EReal.coe_inv]; exact EReal.coe_ne_top _
  simp only [Ideal.div, if_neg hne]
  rw [sum_mul_real _ _ hinv htop]
  exact Finset.sum_congr rfl fun k _ => by rw [mul_comm _ (v k), mul_assoc]

/-- The word of minus infinity. -/
theorem ofBits_bot : Ideal.ofBits .f32 0xFF800000#32 = ⊥ := by simp [Ideal.ofBits, Ideal.ieee]

/-- The word of infinity. -/
theorem ofBits_top : Ideal.ofBits .f32 0x7F800000#32 = ⊤ := by simp [Ideal.ofBits, Ideal.ieee]

/-- The word of the float nearest to one over the square root of 512 is a real number. -/
theorem isReal_scale : IsReal (Ideal.ofBits .f32 0x3D3504F3#32) := by
  simp only [Ideal.ofBits, Ideal.ieee]
  norm_num
  exact ⟨_, rfl⟩

/-- The running maximum of a rank-four array along its last axis. -/
theorem reduceMax_last {n0 n1 n2 n3 : ℕ} {u : Shape} (A : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (j) :
    Host.reduce (max : EReal → EReal → EReal) A init h hu j
      = Finset.univ.fold max (init (Shape.Idx.first hu)) fun k : Fin n3 => A (ix4 (j 0) (j 1) (j 2) k) := by
  simp only [pointwise]

end Cert.Reals

end
-- ==== Proof.MemoryRef.lean ====
module

public import proofs.«01_k».proof.Proof.Gen.MemoryRefIdeal.Read
public import proofs.«01_k».proof.Pre_finite_scores
public import proofs.«01_k».proof.Proof.Reals

/-! The memory attention's reference, index by index: queries, scores, softmax weights and the heads' outputs. -/

@[expose] public section

set_option maxRecDepth 16384

noncomputable section

open Idealize.ShloMosaic Idealize.ShloMosaic.TcCoe Idealize.SL.Sem

namespace Cert.MemoryRef

open Cert.MemoryRefIdeal Cert.MemoryRefIdeal.Read Cert.Reals

/-- The score of query row `(b, s)` against memory row `k` in head `h`. -/
def score (x : FVec Ideal S4x4096x2048 .f32) (kv : FVec Ideal S4x256x4096 .f32) (w : FVec Ideal S2048x2048 .f32)
    (b h : Fin 4) (s : Fin 4096) (k : Fin 256) : EReal :=
  (∑ c : Fin 512, (∑ d : Fin 2048, x (ix3 b s d) * w (ix2 d ⟨h * 512 + c, by omega⟩)) * kv (ix3 b k ⟨h * 512 + c, by omega⟩))
    * Ideal.ofBits .f32 0x3D3504F3#32

theorem query_at (x w) (b : Fin 4) (s : Fin 4096) (h : Fin 4) (c : Fin 512) :
    val_main_v1 (F := Ideal) x w (ix4 b s h c) = ∑ d : Fin 2048, x (ix3 b s d) * w (ix2 d ⟨h * 512 + c, by omega⟩) := by
  pointwise [val_main_v1, val_main_v0]
  blk_ext

theorem key_at (kv) (b : Fin 4) (k : Fin 256) (h : Fin 4) (c : Fin 512) :
    val_main_v4 (F := Ideal) kv (ix4 b k h c) = kv (ix3 b k ⟨h * 512 + c, by omega⟩) := by
  pointwise [val_main_v4, val_main_v2]
  blk_ext

theorem value_at (kv) (b : Fin 4) (k : Fin 256) (h : Fin 4) (c : Fin 512) :
    val_main_v5 (F := Ideal) kv (ix4 b k h c) = kv (ix3 b k ⟨2048 + (h * 512 + c), by omega⟩) := by
  pointwise [val_main_v5, val_main_v3]
  blk_ext

theorem score_at (x kv w) (b h : Fin 4) (s : Fin 4096) (k : Fin 256) :
    val_main_v8 (F := Ideal) x kv w (ix4 b h s k) = score x kv w b h s k := by
  pointwise [val_main_v8, val_main_v7, val_main_v6, val_main_cst]
  simp only [query_at, key_at, score]

/-- The greatest score of a query row. -/
theorem max_at (x kv w) (b h : Fin 4) (s : Fin 4096) :
    val_main_v9 (F := Ideal) x kv w (ix3 b h s) = Finset.univ.fold max ⊥ (score x kv w b h s) := by
  have e : val_main_v9 (F := Ideal) x kv w (ix3 b h s)
      = Finset.univ.fold max (Ideal.ofBits .f32 0xFF800000#32) fun k : Fin 256 => val_main_v8 (F := Ideal) x kv w (ix4 b h s k) := by
    unfold val_main_v9
    generalize val_main_v8 (F := Ideal) x kv w = A
    exact reduceMax_last A _ _ _ _
  rw [e, ofBits_bot]
  exact congrArg (fun f => Finset.univ.fold max ⊥ f) (funext fun k => score_at x kv w b h s k)

/-- The exponential of a score less the row's greatest. -/
theorem exp_at (x kv w) (b h : Fin 4) (s : Fin 4096) (k : Fin 256) :
    val_main_v15 (F := Ideal) x kv w (ix4 b h s k)
      = Ideal.exp (score x kv w b h s k - Finset.univ.fold max ⊥ (score x kv w b h s)) := by
  have e1 : idx_main_v12 (idx_main_v13 (ix4 b h s k)) = ix3 b h s := by funext a; fin_cases a <;> rfl
  rw [val_main_v15_apply, val_main_v14_apply, val_main_v13_apply, val_main_v12_apply, e1, val_main_v11_apply, max_at,
    val_main_v10_apply, val_main_cst_1_apply, score_at]
  show Ideal.exp (_ - max (Ideal.ofBits .f32 0xFF800000#32) _) = _
  rw [ofBits_bot, max_eq_right bot_le]

/-- The softmax weight. -/
theorem weight_at (x kv w) (b h : Fin 4) (s : Fin 4096) (k : Fin 256) :
    val_main_v19 (F := Ideal) x kv w (ix4 b h s k)
      = Ideal.div (Ideal.exp (score x kv w b h s k - Finset.univ.fold max ⊥ (score x kv w b h s)))
          (∑ k, Ideal.exp (score x kv w b h s k - Finset.univ.fold max ⊥ (score x kv w b h s))) := by
  have e1 : idx_main_v17 (idx_main_v18 (ix4 b h s k)) = ix3 b h s := by funext a; fin_cases a <;> rfl
  have e2 : ∀ k', idx_main_v16 (ix3 b h s) k' = ix4 b h s k' := fun k' => by funext a; fin_cases a <;> rfl
  rw [val_main_v19_apply, val_main_v18_apply, val_main_v17_apply, e1, val_main_v16_apply, val_main_cst_2_apply]
  simp only [e2, exp_at]
  show Ideal.div _ (Ideal.ofBits .f32 0x00000000#32 + _) = _
  rw [Ideal.ofBits_zero_f32, zero_add]

/-- The result: head `h`'s weights over the memory rows' values. -/
theorem result_at (x kv w) (b h : Fin 4) (s : Fin 4096) (e : Fin 512) :
    val_main_v23 (F := Ideal) x kv w (ix2 ⟨b * 4096 + s, by omega⟩ ⟨h * 512 + e, by omega⟩)
      = ∑ k : Fin 256, kv (ix3 b k ⟨2048 + (h * 512 + e), by omega⟩)
          * Ideal.div (Ideal.exp (score x kv w b h s k - Finset.univ.fold max ⊥ (score x kv w b h s)))
              (∑ k, Ideal.exp (score x kv w b h s k - Finset.univ.fold max ⊥ (score x kv w b h s))) := by
  pointwise [val_main_v23, val_main_v22, val_main_v21, val_main_v20]
  have e1 : ((b : ℕ) * 4096 + s) / 4096 = b := by omega
  have e2 : ((b : ℕ) * 4096 + s) % 4096 = s := by omega
  have e3 : ((h : ℕ) * 512 + e) / 512 = h := by omega
  have e4 : ((h : ℕ) * 512 + e) % 512 = e := by omega
  simp only [weight_at, value_at]

/-! ## The precondition -/

/-- A magnitude compared less than infinity is a real number's. -/
theorem isReal_of_cmp {x : EReal} (h : Ideal.cmp .olt (max x (-x)) (Ideal.ofBits .f32 0x7F800000#32) = 1#1) : IsReal x := by
  rw [ofBits_top] at h
  have hx : max x (-x) < ⊤ := by
    by_contra hx
    simp [Ideal.cmp, hx] at h
  refine .of_ne (fun e => ?_) (fun e => ?_) <;> simp [e] at hx

/-- The precondition makes every score a real number. -/
theorem isReal_score [Cert.Pre_finite_scores.Facts] (x kv w)
    (h : Cert.Pre_finite_scores.fn (F := Ideal) x kv w = fun _ => 1#1) (b hd : Fin 4) (s : Fin 4096) (k : Fin 256) :
    IsReal (score x kv w b hd s k) := by
  have h0 := congrFun h ix0
  obtain ⟨h1, hw⟩ := IntOp.andi_eq_one.1 (h0 : IntOp.andi _ _ = 1#1)
  obtain ⟨hx, hk⟩ := IntOp.andi_eq_one.1 (h1 : IntOp.andi _ _ = 1#1)
  have rx : ∀ i, IsReal (x i) := fun i => isReal_of_cmp (Host.reduce_andi_all _ _ _ _ _ hx i)
  have rw' : ∀ i, IsReal (w i) := fun i => isReal_of_cmp (Host.reduce_andi_all _ _ _ _ _ hw i)
  have rk : ∀ (b : Fin 4) (k : Fin 256) (c : Fin 2048), IsReal (kv (ix3 b k ⟨c, by omega⟩)) := fun b k c => by
    have e := isReal_of_cmp (Host.reduce_andi_all _ _ _ _ _ hk (ix3 b k c))
    refine Eq.subst (motive := IsReal) ?_ e
    pointwise
    blk_ext
  unfold score
  refine (IsReal.sum _ fun c => ?_).mul isReal_scale
  exact (IsReal.sum _ fun d => (rx _).mul (rw' _)).mul (rk b k ⟨hd * 512 + c, by omega⟩)

end Cert.MemoryRef

end
-- ==== Proof.MemoryValue.lean ====
module

public import proofs.«01_k».proof.Proof.Gen.MemoryIdeal.Value
public import proofs.«01_k».proof.Proof.MemoryRef
public import Idealize.ShloMosaic.Lib.Pipeline.ValueKit

/-! The memory attention's kernel: each point's block of the result, head by head, is the reference's. -/

@[expose] public section

set_option maxRecDepth 16384

noncomputable section

open Idealize.ShloMosaic Idealize.ShloMosaic.TcCoe Idealize.SL.Sem
open Idealize.ShloMosaic.Pipeline

namespace Cert.MemoryIdeal.Value

open Cert.MemoryIdeal Cert.MemoryIdeal.Gen Cert.Reals

variable (m : (ℓ : Loc nD τ sig) → Buf (Elt Ideal) ℓ)

/-! ## The blocks a point reads -/

/-- The block indices of the four operands and the result: row tile `t`, batch `t / 4`. -/
theorem idx_facts : ∀ t : Fin cfg0.N, win0_0.index t = ![t.val, 0] ∧ win0_1.index t = ![0, 0]
    ∧ win0_2.index t = ![t.val / 4, 0] ∧ win0_3.index t = ![t.val / 4, 1] ∧ win0_4.index t = ![t.val, 0] :=
  (by decide +kernel : ∀ t : Fin grid0.N, _)

theorem lt_points (t : Fin cfg0.N) : t.val < 16 := lt_of_lt_of_eq t.isLt N_0

theorem weight_read (c : Fin nD) (t : Fin cfg0.N) (r d : Fin 2048) :
    iblk m c 1 t (ix2 r d) = m ((c : Thread nD τ).loc main_arg2) (ix2 r d) := by
  simp only [iblk]
  entry_read
  show m ((c : Thread nD τ).loc main_arg2) _ = _
  blk_ext [idx_facts t]

/-- The reshape of the queries' input that the host makes, at one index. -/
theorem reshape_x (A : FVec Ideal S4x4096x2048 .f32) (t : ℕ) (ht : t < 16) (r : Fin 1024) (d : Fin 2048) :
    shapeCast S16384x2048 A shapeCasts_S4x4096x2048_S16384x2048 (ix2 (n0 := 16384) (n1 := 2048) ⟨t * 1024 + r, by omega⟩ d)
      = A (ix3 ⟨t / 4, by omega⟩ ⟨t % 4 * 1024 + r, by omega⟩ d) := by
  pointwise
  blk_ext

/-- The reshape of the memory's keys and values that the host makes, at one index. -/
theorem reshape_kv (A : FVec Ideal S4x256x4096 .f32) (b : ℕ) (hb : b < 4) (r : Fin 256) (d : Fin 4096) :
    shapeCast S1024x4096 A shapeCasts_S4x256x4096_S1024x4096 (ix2 (n0 := 1024) (n1 := 4096) ⟨b * 256 + r, by omega⟩ d)
      = A (ix3 ⟨b, hb⟩ r d) := by
  pointwise
  blk_ext

theorem x_read (c : Fin nD) (t : Fin cfg0.N) (r : Fin 1024) (d : Fin 2048) :
    iblk m c 0 t (ix2 r d)
      = m ((c : Thread nD τ).loc main_arg0) (ix3 ⟨t / 4, by have := lt_points t; omega⟩ ⟨t % 4 * 1024 + r, by omega⟩ d) := by
  have ht := lt_points t
  have emb : ((cfg0.win 0).blk t).view.emb (ix2 r d) = ix2 (n0 := 16384) (n1 := 2048) ⟨t * 1024 + r, by omega⟩ d := by
    blk_ext [idx_facts t]
  simp only [iblk]
  entry_read
  change shapeCast S16384x2048 (m ((c : Thread nD τ).loc main_arg0)) shapeCasts_S4x4096x2048_S16384x2048
    (((cfg0.win 0).blk t).view.emb (ix2 r d)) = _
  rw [emb]
  exact reshape_x (m ((c : Thread nD τ).loc main_arg0)) t ht r d

theorem key_read (c : Fin nD) (t : Fin cfg0.N) (r : Fin 256) (d : Fin 2048) :
    iblk m c 2 t (ix2 r d)
      = m ((c : Thread nD τ).loc main_arg1) (ix3 ⟨t / 4, by have := lt_points t; omega⟩ r ⟨d, by omega⟩) := by
  have ht := lt_points t
  have emb : ((cfg0.win 2).blk t).view.emb (ix2 r d) = ix2 (n0 := 1024) (n1 := 4096) ⟨t / 4 * 256 + r, by omega⟩ ⟨d, by omega⟩ := by
    blk_ext [idx_facts t]
  simp only [iblk]
  entry_read
  change shapeCast S1024x4096 (m ((c : Thread nD τ).loc main_arg1)) shapeCasts_S4x256x4096_S1024x4096
    (((cfg0.win 2).blk t).view.emb (ix2 r d)) = _
  rw [emb]
  exact reshape_kv (m ((c : Thread nD τ).loc main_arg1)) (t / 4) (by omega) r ⟨d, by omega⟩

theorem value_read (c : Fin nD) (t : Fin cfg0.N) (r : Fin 256) (d : Fin 2048) :
    iblk m c 3 t (ix2 r d)
      = m ((c : Thread nD τ).loc main_arg1) (ix3 ⟨t / 4, by have := lt_points t; omega⟩ r ⟨2048 + d, by omega⟩) := by
  have ht := lt_points t
  have emb : ((cfg0.win 3).blk t).view.emb (ix2 r d) = ix2 (n0 := 1024) (n1 := 4096) ⟨t / 4 * 256 + r, by omega⟩ ⟨2048 + d, by omega⟩ := by
    blk_ext [idx_facts t]
  simp only [iblk]
  entry_read
  change shapeCast S1024x4096 (m ((c : Thread nD τ).loc main_arg1)) shapeCasts_S4x256x4096_S1024x4096
    (((cfg0.win 3).blk t).view.emb (ix2 r d)) = _
  rw [emb]
  exact reshape_kv (m ((c : Thread nD τ).loc main_arg1)) (t / 4) (by omega) r ⟨2048 + d, by omega⟩

/-! ## One head -/

theorem pay1_eq (x w k v) : k0_pay1 (F := Ideal) (k0_pay2 x) w k v = k0_pay3 x w k v := rfl

theorem pay6_eq (x w k v) : k0_pay6 (F := Ideal) (k0_pay2 x) w k v = k0_pay3 x w k v := rfl

theorem pay5_eq (x w k v) :
    k0_pay5 (F := Ideal) (k0_pay4 x w k) (Scalar.ofBits .f32 0x3D3504F3#32) v = k0_pay3 x w k v := rfl

/-- A head of the kernel's body at one index: the exponentials over the values, divided by their sum. -/
theorem head_at (x : FVec Ideal S1024x2048 .f32) (w : FVec Ideal S2048x512 .bf16) (k v : FVec Ideal S256x512 .bf16)
    (r : Fin 1024) (e : Fin 512) (s : Fin 256 → EReal)
    (hs : ∀ j, (∑ c : Fin 512, (∑ d : Fin 2048, x (ix2 r d) * w (ix2 d c)) * k (ix2 j c)) * Ideal.ofBits .f32 0x3D3504F3#32 = s j)
    (hr : ∀ j, IsReal (s j)) :
    k0_pay3 (F := Ideal) x w k v (ix2 r e)
      = ∑ j, v (ix2 j e) * Ideal.div (Ideal.exp (s j - Finset.univ.fold max ⊥ s))
          (∑ j, Ideal.exp (s j - Finset.univ.fold max ⊥ s)) := by
  rw [← softmax_quotient (fun j => v (ix2 j e)) hr]
  pointwise [k0_pay3, k0_pay2]
  simp only [hs, ofBits_bot]

variable [Cert.Pre_finite_scores.Facts]

/-- The result of the reference on the launch's arrays. -/
abbrev refResult (c : Dev nD) : FVec Ideal S16384x2048 .f32 :=
  Cert.MemoryRefIdeal.Read.val_main_v23 (F := Ideal) (m ((c : Thread nD τ).loc main_arg0)) (m ((c : Thread nD τ).loc main_arg1))
    (m ((c : Thread nD τ).loc main_arg2))

/-- Head `h` of point `t`: the payload over the head's columns of the three operands is the reference's block. -/
theorem head_point (c : Dev nD) (hpre : Cert.Pre_finite_scores.fn (F := Ideal) (m ((c : Thread nD τ).loc main_arg0))
      (m ((c : Thread nD τ).loc main_arg1)) (m ((c : Thread nD τ).loc main_arg2)) = fun _ => 1#1)
    (t : Fin cfg0.N) (h : Fin 4) (x w k v)
    (hx : ∀ r d, x (ix2 r d) = iblk m c 0 t (ix2 r d))
    (hw : ∀ (d : Fin 2048) (e : Fin 512), w (ix2 d e) = iblk m c 1 t (ix2 d ⟨h * 512 + e, by omega⟩))
    (hk : ∀ (j : Fin 256) (e : Fin 512), k (ix2 j e) = iblk m c 2 t (ix2 j ⟨h * 512 + e, by omega⟩))
    (hv : ∀ (j : Fin 256) (e : Fin 512), v (ix2 j e) = iblk m c 3 t (ix2 j ⟨h * 512 + e, by omega⟩))
    (r : Fin 1024) (e : Fin 512) :
    k0_pay3 (F := Ideal) x w k v (ix2 r e)
      = refResult m c (ix2 ⟨t * 1024 + r, by have := lt_points t; omega⟩ ⟨h * 512 + e, by omega⟩) := by
  have ht := lt_points t
  have key := Cert.MemoryRef.result_at (m ((c : Thread nD τ).loc main_arg0)) (m ((c : Thread nD τ).loc main_arg1))
    (m ((c : Thread nD τ).loc main_arg2)) ⟨t / 4, by omega⟩ h ⟨t % 4 * 1024 + r, by omega⟩ e
  have e1 : (t : ℕ) / 4 * 4096 + ((t : ℕ) % 4 * 1024 + r) = t * 1024 + r := by omega
  simp only [e1] at key
  rw [refResult, key]
  rw [head_at x w k v r e (Cert.MemoryRef.score (m ((c : Thread nD τ).loc main_arg0)) (m ((c : Thread nD τ).loc main_arg1))
    (m ((c : Thread nD τ).loc main_arg2)) ⟨t / 4, by omega⟩ h ⟨t % 4 * 1024 + r, by omega⟩) ?_
    (Cert.MemoryRef.isReal_score _ _ _ hpre _ _ _)]
  · simp only [hv, value_read]
  · intro j
    simp only [hx, hw, hk, x_read, weight_read, key_read, Cert.MemoryRef.score]

/-! ## The block and the array -/

/-- The place of a block's index in the result. -/
theorem result_emb (t : Fin cfg0.N) (y : S1024x2048.Idx) :
    ((cfg0.win 4).blk t).view.emb y = ix2 (n0 := 16384) (n1 := 2048) ⟨t * 1024 + y 0, by have := lt_points t; have := (y 0).isLt; change _ < 1024 at this; omega⟩ (y 1) := by
  blk_ext [idx_facts t]

/-- A load of the whole block. -/
theorem load_x (X : Vec Ideal S1024x2048 .f32) (r : Fin 1024) (d : Fin 2048) : (View.ld (Val := Elt Ideal) (e' := .f32) X r0_0 (ix2 r d) : EReal) = X (ix2 r d) := by
  pointwise
  blk_ext

/-- A load of a head's columns of the weights. -/
theorem load_w (X : Vec Ideal S2048x2048 .bf16) (o h : ℕ) (ho : o = h * 512) (hh : h < 4)
    (hb : ∀ d : Fin S2048x2048.rank, ![0, o] d + S2048x512.size d ≤ S2048x2048.size d) (d : Fin 2048) (e : Fin 512) :
    (View.ld (Val := Elt Ideal) (e' := .bf16) X (Rect.unit (s := S2048x2048) ![0, o] S2048x512.size hb) (ix2 d e) : EReal) = X (ix2 d ⟨h * 512 + e, by omega⟩) := by
  subst ho
  pointwise
  blk_ext

/-- A load of a head's columns of the keys or the values. -/
theorem load_kv (X : Vec Ideal S256x2048 .bf16) (o h : ℕ) (ho : o = h * 512) (hh : h < 4)
    (hb : ∀ d : Fin S256x2048.rank, ![0, o] d + S256x512.size d ≤ S256x2048.size d) (d : Fin 256) (e : Fin 512) :
    (View.ld (Val := Elt Ideal) (e' := .bf16) X (Rect.unit (s := S256x2048) ![0, o] S256x512.size hb) (ix2 d e) : EReal) = X (ix2 d ⟨h * 512 + e, by omega⟩) := by
  subst ho
  pointwise
  blk_ext

/-- Head `h`'s piece of point `t`'s block. -/
theorem head_piece (c : Dev nD) (hpre : Cert.Pre_finite_scores.fn (F := Ideal) (m ((c : Thread nD τ).loc main_arg0))
      (m ((c : Thread nD τ).loc main_arg1)) (m ((c : Thread nD τ).loc main_arg2)) = fun _ => 1#1)
    (t : Fin cfg0.N) (h : Fin 4) (w k v) (y : S1024x2048.Idx) (x : S1024x512.Idx) (h0 : (y 0 : ℕ) = x 0) (h1 : (y 1 : ℕ) = h * 512 + x 1)
    (hw : ∀ (d : Fin 2048) (e : Fin 512), w (ix2 d e) = iblk m c 1 t (ix2 d ⟨h * 512 + e, by omega⟩))
    (hk : ∀ (j : Fin 256) (e : Fin 512), k (ix2 j e) = iblk m c 2 t (ix2 j ⟨h * 512 + e, by omega⟩))
    (hv : ∀ (j : Fin 256) (e : Fin 512), v (ix2 j e) = iblk m c 3 t (ix2 j ⟨h * 512 + e, by omega⟩)) :
    k0_pay3 (F := Ideal) (View.ld (iblk m c 0 t) r0_0) w k v x = refResult m c (((cfg0.win 4).blk t).view.emb y) := by
  have hx : x = ix2 (x 0) (x 1) := by blk_ext
  rw [hx, result_emb]
  refine (head_point m c hpre t h _ w k v (load_x (iblk m c 0 t)) hw hk hv (x 0) (x 1)).trans (congrArg (refResult m c) ?_)
  funext a
  fin_cases a
  · exact Fin.ext (by show (t : ℕ) * 1024 + (x 0 : ℕ) = t * 1024 + (y 0 : ℕ); omega)
  · exact Fin.ext h1.symm

/-- Point `t`'s block of the result is the reference's, at every index. -/
theorem point (c : Dev nD) (hpre : Cert.Pre_finite_scores.fn (F := Ideal) (m ((c : Thread nD τ).loc main_arg0))
      (m ((c : Thread nD τ).loc main_arg1)) (m ((c : Thread nD τ).loc main_arg2)) = fun _ => 1#1)
    (t : Fin cfg0.N) (y) :
    out0_4 (iblk m c 0 t) (iblk m c 1 t) (iblk m c 2 t) (iblk m c 3 t) y
      = refResult m c (((cfg0.win 4).blk t).view.emb y) := by
  unfold out0_4
  canon_tiles x h
  · exact (congrFun (pay1_eq (View.ld (iblk m c 0 t) r0_0) _ _ _) x).trans (
      head_piece m c hpre t 3 _ _ _ y x h0 (by show (y 1 : ℕ) = 3 * 512 + (x 1 : ℕ); omega)
      (load_w (iblk m c 1 t) 1536 3 rfl (by omega) _) (load_kv (iblk m c 2 t) 1536 3 rfl (by omega) _)
      (load_kv (iblk m c 3 t) 1536 3 rfl (by omega) _))
  · exact (congrFun (pay6_eq (View.ld (iblk m c 0 t) r0_0) _ _ _) x).trans (
      head_piece m c hpre t 2 _ _ _ y x h0 (by show (y 1 : ℕ) = 2 * 512 + (x 1 : ℕ); omega)
      (load_w (iblk m c 1 t) 1024 2 rfl (by omega) _) (load_kv (iblk m c 2 t) 1024 2 rfl (by omega) _)
      (load_kv (iblk m c 3 t) 1024 2 rfl (by omega) _))
  · exact (congrFun (pay5_eq (View.ld (iblk m c 0 t) r0_0) _ _ _) x).trans (
      head_piece m c hpre t 1 _ _ _ y x h0 (by show (y 1 : ℕ) = 1 * 512 + (x 1 : ℕ); omega)
      (load_w (iblk m c 1 t) 512 1 rfl (by omega) _) (load_kv (iblk m c 2 t) 512 1 rfl (by omega) _)
      (load_kv (iblk m c 3 t) 512 1 rfl (by omega) _))
  · exact head_piece m c hpre t 0 _ _ _ y x h0 (by show (y 1 : ℕ) = 0 * 512 + (x 1 : ℕ); omega)
      (load_w (iblk m c 1 t) 0 0 rfl (by omega) _) (load_kv (iblk m c 2 t) 0 0 rfl (by omega) _)
      (load_kv (iblk m c 3 t) 0 0 rfl (by omega) _)

/-- The kernel's result is the reference's. -/
theorem final (c : Dev nD) (hpre : Cert.Pre_finite_scores.fn (F := Ideal) (m ((c : Thread nD τ).loc main_arg0))
      (m ((c : Thread nD τ).loc main_arg1)) (m ((c : Thread nD τ).loc main_arg2)) = fun _ => 1#1) :
    (dats m 0 c).arrAt 4 (cfgs 0).N = refResult m c := by
  refine (dats m 0 c).arrAt_eq_of_covers 4 _ (by decide +kernel) fun t _ y => ?_
  blk_simp
  rw [after0_4]
  exact point m c hpre t y

end Cert.MemoryIdeal.Value

end
-- ==== Proof.MemoryClaims.lean ====
module

public import proofs.«01_k».proof.Defs
public import proofs.«01_k».proof.Proof.Gen.Memory.Frame
public import proofs.«01_k».proof.Proof.Gen.MemoryIdeal.Frame
public import proofs.«01_k».proof.Proof.Gen.MemoryRefIdeal.Run
public import proofs.«01_k».proof.Proof.MemoryValue

/-! The claims about the memory attention. -/

@[expose] public section

noncomputable section

namespace Cert.Proof

open Idealize.ShloMosaic Idealize.SL.Sem

/-- The kernel ends with its arguments kept and its counters at zero. -/
theorem memory_frame : Cert.quiescent_Memory := fun m ρ _ => Cert.Memory.Gen.frame m ρ

/-- So does the kernel over the ideal fields. -/
theorem memory_frame_ideal : Cert.quiescent_MemoryIdeal := fun m ρ _ => Cert.MemoryIdeal.Gen.frame m ρ

/-- The reference keeps its arguments; it has no counters. -/
theorem memory_frame_reference : Cert.quiescent_MemoryRefIdeal := fun m ρ _ =>
  (θ_run Cert.MemoryRefIdeal.defs _ _).mono (fun r h => ⟨fun c => (h c).2, sem_eq_zero_of_no_sems (by decide) r.2⟩)
    (Cert.MemoryRefIdeal.Value.run (F := Ideal) m ρ)

variable [Cert.Pre_finite_scores.Facts]

theorem memory_frame_ideal_pre : Cert.quiescent_MemoryIdeal_pre_finite_scores := fun m ρ _ => Cert.MemoryIdeal.Gen.frame m ρ

theorem memory_frame_reference_pre : Cert.quiescent_MemoryRefIdeal_pre_finite_scores := fun m ρ _ =>
  memory_frame_reference m ρ trivial

/-- On finite inputs the kernel and the reference end with the same result. -/
theorem memory_algebraic : Cert.algebraic_MemoryIdeal_MemoryRefIdeal_pre_finite_scores := by
  intro m g m' g' hpre hagree
  refine ⟨fun c => Cert.MemoryIdeal.Value.refResult m c, ?_, ?_⟩
  · refine (θ_run Cert.MemoryIdeal.defs _ _).mono (fun r h c => ?_) (Cert.MemoryIdeal.Value.run_blocks m g)
    obtain ⟨h4, h0, h1, h2⟩ := h c
    exact ⟨h4.trans (Cert.MemoryIdeal.Value.final m c (hpre c)), h0, h1, h2⟩
  · refine (θ_run Cert.MemoryRefIdeal.defs _ _).mono (fun r h c => ?_) (Cert.MemoryRefIdeal.Value.run m' g')
    obtain ⟨hv, h0, h1, h2⟩ := h c
    refine ⟨(hv.trans (Cert.MemoryRefIdeal.Read.val_main_v23_eq (F := Ideal) _ _ _)).trans ?_, h0, h1, h2⟩
    rw [(hagree c).1, (hagree c).2.1, (hagree c).2.2]

end Cert.Proof

end
-- ==== Proof.FfnNames.lean ====
/-
  Names for what the feed-forward kernel's body works on: its two-slot staging buffers for weight tiles, the
  semaphore cells its copies complete on, and the tiles of the two weight arrays that stay in main memory. The
  body computes each slice from the trip number; the equations below give every such slice its name.
-/
module

public import proofs.«01_k».proof.Proof.Gen.FfnIdeal.Launch
public import proofs.«01_k».proof.Proof.Gen.FfnIdeal.Skeleton
public import proofs.«01_k».proof.Proof.Gen.FfnIdeal.Loops
public import proofs.«01_k».proof.Proof.Gen.FfnIdeal.Points
public import proofs.«01_k».proof.Proof.Gen.FfnIdeal.Frame
public import Idealize.ShloMosaic.Lib.Pipeline.FrameBody
public import Idealize.ShloMosaic.Lib.Ring
public import Idealize.ShloMosaic.Lib.Tactic

@[expose] public section

noncomputable section

namespace Cert.FfnHand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The buffers -/

/-- The joint gate and up weight, in main memory. -/
abbrev inM : Memref sig .tc .hbm S2048x11008 .bf16 := Memref.whole main_v1
/-- The output weight, in main memory. -/
abbrev outM : Memref sig .tc .hbm S5504x2048 .bf16 := Memref.whole main_v2
/-- The rounded rows of the block. -/
abbrev xbM : Memref sig .tc .vmem S512x2048 .bf16 := Memref.whole cc0_scratch0
/-- The accumulator. -/
abbrev accM : Memref sig .tc .vmem S512x2048 .f32 := Memref.whole cc0_scratch1
/-- The sum before normalisation, carried to the next block. -/
abbrev yM : Memref sig .tc .vmem S512x2048 .f32 := Memref.whole cc0_scratch2
/-- The resident gate tile. -/
abbrev g0M : Memref sig .tc .vmem S2048x512 .bf16 := Memref.whole cc0_scratch3
/-- The resident up tile. -/
abbrev u0M : Memref sig .tc .vmem S2048x512 .bf16 := Memref.whole cc0_scratch4
/-- The resident output tile. -/
abbrev w0M : Memref sig .tc .vmem S512x2048 .bf16 := Memref.whole cc0_scratch5
/-- The two slots for gate tiles. -/
abbrev gbM : Memref sig .tc .vmem S2x2048x512 .bf16 := Memref.whole cc0_scratch6
/-- The two slots for up tiles. -/
abbrev ubM : Memref sig .tc .vmem S2x2048x512 .bf16 := Memref.whole cc0_scratch7
/-- The two slots for output tiles. -/
abbrev wbM : Memref sig .tc .vmem S2x512x2048 .bf16 := Memref.whole cc0_scratch8

/-! ## Slots, cells and tiles -/

/-- Where slot `s` of a two-slot buffer starts. -/
def slotOff (s : Fin 2) : Fin 3 → Nat := ![s.val, 0, 0]
/-- Where cell `(s, j)` sits among the six cells of the slots. -/
def cellOff (s : Fin 2) (j : Fin 3) : Fin 2 → Nat := ![s.val, j.val]
/-- Where gate tile `b` starts. -/
def gateOff (b : Fin 10) : Fin 2 → Nat := ![0, 512 * b.val]
/-- Where up tile `b` starts. -/
def upOff (b : Fin 10) : Fin 2 → Nat := ![0, 5504 + 512 * b.val]
/-- Where output tile `b` starts. -/
def rowOff (b : Fin 10) : Fin 2 → Nat := ![512 * b.val, 0]

theorem slotOff_col (s : Fin 2) : ∀ a, slotOff s a + S1x2048x512.size a ≤ S2x2048x512.size a := by revert s; decide
theorem slotOff_row (s : Fin 2) : ∀ a, slotOff s a + S1x512x2048.size a ≤ S2x512x2048.size a := by revert s; decide
theorem cellOff_inb (s : Fin 2) (j : Fin 3) : ∀ a, cellOff s j a + S1x1.size a ≤ S2x3.size a := by revert s j; decide
theorem gateOff_inb (b : Fin 10) : ∀ a, gateOff b a + S2048x512.size a ≤ S2048x11008.size a := by revert b; decide
theorem upOff_inb (b : Fin 10) : ∀ a, upOff b a + S2048x512.size a ≤ S2048x11008.size a := by revert b; decide
theorem rowOff_inb (b : Fin 10) : ∀ a, rowOff b a + S512x2048.size a ≤ S5504x2048.size a := by revert b; decide

/-- Slot `s` of the gate buffer. -/
def gSlot (s : Fin 2) : Memref sig .tc .vmem S2048x512 .bf16 :=
  (gbM.slice (Rect.unit (s := S2x2048x512) (slotOff s) S1x2048x512.size (slotOff_col s)) (fun _ => rfl)).squeeze S2048x512 squeezes_S1x2048x512_S2048x512
/-- Slot `s` of the up buffer. -/
def uSlot (s : Fin 2) : Memref sig .tc .vmem S2048x512 .bf16 :=
  (ubM.slice (Rect.unit (s := S2x2048x512) (slotOff s) S1x2048x512.size (slotOff_col s)) (fun _ => rfl)).squeeze S2048x512 squeezes_S1x2048x512_S2048x512
/-- Slot `s` of the output-weight buffer. -/
def wSlot (s : Fin 2) : Memref sig .tc .vmem S512x2048 .bf16 :=
  (wbM.slice (Rect.unit (s := S2x512x2048) (slotOff s) S1x512x2048.size (slotOff_row s)) (fun _ => rfl)).squeeze S512x2048 squeezes_S1x512x2048_S512x2048
/-- The cell that copy `j` into slot `s` completes on. -/
def cell (s : Fin 2) (j : Fin 3) : DmaSems sig S_ :=
  (cc0_scratch10.slice (Rect.unit (s := S2x3) (cellOff s j) S1x1.size (cellOff_inb s j))).squeeze S_ squeezes_S1x1_S_
/-- Gate tile `b`: 512 columns of the gate half. -/
def gateT (b : Fin 10) : Memref sig .tc .hbm S2048x512 .bf16 :=
  inM.slice (Rect.unit (s := S2048x11008) (gateOff b) S2048x512.size (gateOff_inb b)) (fun _ => rfl)
/-- Up tile `b`: 512 columns of the up half. -/
def upT (b : Fin 10) : Memref sig .tc .hbm S2048x512 .bf16 :=
  inM.slice (Rect.unit (s := S2048x11008) (upOff b) S2048x512.size (upOff_inb b)) (fun _ => rfl)
/-- Output tile `b`: 512 rows of the output weight. -/
def rowT (b : Fin 10) : Memref sig .tc .hbm S512x2048 .bf16 :=
  outM.slice (Rect.unit (s := S5504x2048) (rowOff b) S512x2048.size (rowOff_inb b)) (fun _ => rfl)

/-! ## Slices with equal offsets are equal -/

theorem gSlot_of {off : Fin 3 → Nat} {s : Fin 2} (e : off = slotOff s) (hh hs) :
    (gbM.slice (Rect.unit (s := S2x2048x512) off S1x2048x512.size hh) hs).squeeze S2048x512 squeezes_S1x2048x512_S2048x512 = gSlot s := by
  subst e; rfl
theorem uSlot_of {off : Fin 3 → Nat} {s : Fin 2} (e : off = slotOff s) (hh hs) :
    (ubM.slice (Rect.unit (s := S2x2048x512) off S1x2048x512.size hh) hs).squeeze S2048x512 squeezes_S1x2048x512_S2048x512 = uSlot s := by
  subst e; rfl
theorem wSlot_of {off : Fin 3 → Nat} {s : Fin 2} (e : off = slotOff s) (hh hs) :
    (wbM.slice (Rect.unit (s := S2x512x2048) off S1x512x2048.size hh) hs).squeeze S512x2048 squeezes_S1x512x2048_S512x2048 = wSlot s := by
  subst e; rfl
theorem cell_of {off : Fin 2 → Nat} {s : Fin 2} {j : Fin 3} (e : off = cellOff s j) (hh) :
    (cc0_scratch10.slice (Rect.unit (s := S2x3) off S1x1.size hh)).squeeze S_ squeezes_S1x1_S_ = cell s j := by
  subst e; rfl
theorem gateT_of {off : Fin 2 → Nat} {b : Fin 10} (e : off = gateOff b) (hh hs) :
    inM.slice (Rect.unit (s := S2048x11008) off S2048x512.size hh) hs = gateT b := by subst e; rfl
theorem upT_of {off : Fin 2 → Nat} {b : Fin 10} (e : off = upOff b) (hh hs) :
    inM.slice (Rect.unit (s := S2048x11008) off S2048x512.size hh) hs = upT b := by subst e; rfl
theorem rowT_of {off : Fin 2 → Nat} {b : Fin 10} (e : off = rowOff b) (hh hs) :
    outM.slice (Rect.unit (s := S5504x2048) off S512x2048.size hh) hs = rowT b := by subst e; rfl

/-! ## The loop's slices at trip `k`: tile `k + 1` is waited for, tile `k + 2` is started -/

abbrev Trip : Type := Fin k0_t1_loop.trips

theorem off_dst : ∀ k : Trip, k0_off2 k = slotOff (Ring.sl 2 k.val) ∧ k0_off7 k = slotOff (Ring.sl 2 k.val) := by decide +kernel
theorem off_cur : ∀ k : Trip, k0_off10 k = slotOff (Ring.sl 2 (k.val + 1)) ∧ k0_off15 k = slotOff (Ring.sl 2 (k.val + 1)) := by decide +kernel
theorem off_cell_dst : ∀ k : Trip, k0_off1 k = cellOff (Ring.sl 2 k.val) 0 ∧ k0_off4 k = cellOff (Ring.sl 2 k.val) 1
    ∧ k0_off6 k = cellOff (Ring.sl 2 k.val) 2 := by decide +kernel
theorem off_cell_cur : ∀ k : Trip, k0_off9 k = cellOff (Ring.sl 2 (k.val + 1)) 0 ∧ k0_off12 k = cellOff (Ring.sl 2 (k.val + 1)) 1
    ∧ k0_off14 k = cellOff (Ring.sl 2 (k.val + 1)) 2 := by decide +kernel
theorem off_src : ∀ k : Trip, k0_off3 k = gateOff (Ring.bk 10 (k.val + 2)) ∧ k0_off5 k = upOff (Ring.bk 10 (k.val + 2))
    ∧ k0_off8 k = rowOff (Ring.bk 10 (k.val + 2)) := by decide +kernel
theorem off_src_cur : ∀ k : Trip, k0_off11 k = gateOff (Ring.bk 10 (k.val + 1)) ∧ k0_off13 k = upOff (Ring.bk 10 (k.val + 1))
    ∧ k0_off16 k = rowOff (Ring.bk 10 (k.val + 1)) := by decide +kernel

@[sl_canon] theorem gSlot_dst (k : Trip) (hh hs) :
    (gbM.slice (Rect.unit (s := S2x2048x512) (k0_off2 k) S1x2048x512.size hh) hs).squeeze S2048x512 squeezes_S1x2048x512_S2048x512 = gSlot (Ring.sl 2 k.val) := gSlot_of (off_dst k).1 _ _
@[sl_canon] theorem uSlot_dst (k : Trip) (hh hs) :
    (ubM.slice (Rect.unit (s := S2x2048x512) (k0_off2 k) S1x2048x512.size hh) hs).squeeze S2048x512 squeezes_S1x2048x512_S2048x512 = uSlot (Ring.sl 2 k.val) := uSlot_of (off_dst k).1 _ _
@[sl_canon] theorem wSlot_dst (k : Trip) (hh hs) :
    (wbM.slice (Rect.unit (s := S2x512x2048) (k0_off7 k) S1x512x2048.size hh) hs).squeeze S512x2048 squeezes_S1x512x2048_S512x2048 = wSlot (Ring.sl 2 k.val) := wSlot_of (off_dst k).2 _ _
@[sl_canon] theorem gSlot_cur (k : Trip) (hh hs) :
    (gbM.slice (Rect.unit (s := S2x2048x512) (k0_off10 k) S1x2048x512.size hh) hs).squeeze S2048x512 squeezes_S1x2048x512_S2048x512 = gSlot (Ring.sl 2 (k.val + 1)) := gSlot_of (off_cur k).1 _ _
@[sl_canon] theorem uSlot_cur (k : Trip) (hh hs) :
    (ubM.slice (Rect.unit (s := S2x2048x512) (k0_off10 k) S1x2048x512.size hh) hs).squeeze S2048x512 squeezes_S1x2048x512_S2048x512 = uSlot (Ring.sl 2 (k.val + 1)) := uSlot_of (off_cur k).1 _ _
@[sl_canon] theorem wSlot_cur (k : Trip) (hh hs) :
    (wbM.slice (Rect.unit (s := S2x512x2048) (k0_off15 k) S1x512x2048.size hh) hs).squeeze S512x2048 squeezes_S1x512x2048_S512x2048 = wSlot (Ring.sl 2 (k.val + 1)) := wSlot_of (off_cur k).2 _ _
@[sl_canon] theorem cell_dst0 (k : Trip) (hh) :
    (cc0_scratch10.slice (Rect.unit (s := S2x3) (k0_off1 k) S1x1.size hh)).squeeze S_ squeezes_S1x1_S_ = cell (Ring.sl 2 k.val) 0 := cell_of (off_cell_dst k).1 _
@[sl_canon] theorem cell_dst1 (k : Trip) (hh) :
    (cc0_scratch10.slice (Rect.unit (s := S2x3) (k0_off4 k) S1x1.size hh)).squeeze S_ squeezes_S1x1_S_ = cell (Ring.sl 2 k.val) 1 := cell_of (off_cell_dst k).2.1 _
@[sl_canon] theorem cell_dst2 (k : Trip) (hh) :
    (cc0_scratch10.slice (Rect.unit (s := S2x3) (k0_off6 k) S1x1.size hh)).squeeze S_ squeezes_S1x1_S_ = cell (Ring.sl 2 k.val) 2 := cell_of (off_cell_dst k).2.2 _
@[sl_canon] theorem cell_cur0 (k : Trip) (hh) :
    (cc0_scratch10.slice (Rect.unit (s := S2x3) (k0_off9 k) S1x1.size hh)).squeeze S_ squeezes_S1x1_S_ = cell (Ring.sl 2 (k.val + 1)) 0 := cell_of (off_cell_cur k).1 _
@[sl_canon] theorem cell_cur1 (k : Trip) (hh) :
    (cc0_scratch10.slice (Rect.unit (s := S2x3) (k0_off12 k) S1x1.size hh)).squeeze S_ squeezes_S1x1_S_ = cell (Ring.sl 2 (k.val + 1)) 1 := cell_of (off_cell_cur k).2.1 _
@[sl_canon] theorem cell_cur2 (k : Trip) (hh) :
    (cc0_scratch10.slice (Rect.unit (s := S2x3) (k0_off14 k) S1x1.size hh)).squeeze S_ squeezes_S1x1_S_ = cell (Ring.sl 2 (k.val + 1)) 2 := cell_of (off_cell_cur k).2.2 _
@[sl_canon] theorem gateT_next (k : Trip) (hh hs) :
    inM.slice (Rect.unit (s := S2048x11008) (k0_off3 k) S2048x512.size hh) hs = gateT (Ring.bk 10 (k.val + 2)) := gateT_of (off_src k).1 _ _
@[sl_canon] theorem upT_next (k : Trip) (hh hs) :
    inM.slice (Rect.unit (s := S2048x11008) (k0_off5 k) S2048x512.size hh) hs = upT (Ring.bk 10 (k.val + 2)) := upT_of (off_src k).2.1 _ _
@[sl_canon] theorem rowT_next (k : Trip) (hh hs) :
    outM.slice (Rect.unit (s := S5504x2048) (k0_off8 k) S512x2048.size hh) hs = rowT (Ring.bk 10 (k.val + 2)) := rowT_of (off_src k).2.2 _ _
@[sl_canon] theorem gateT_cur (k : Trip) (hh hs) :
    inM.slice (Rect.unit (s := S2048x11008) (k0_off11 k) S2048x512.size hh) hs = gateT (Ring.bk 10 (k.val + 1)) := gateT_of (off_src_cur k).1 _ _
@[sl_canon] theorem upT_cur (k : Trip) (hh hs) :
    inM.slice (Rect.unit (s := S2048x11008) (k0_off13 k) S2048x512.size hh) hs = upT (Ring.bk 10 (k.val + 1)) := upT_of (off_src_cur k).2.1 _ _
@[sl_canon] theorem rowT_cur (k : Trip) (hh hs) :
    outM.slice (Rect.unit (s := S5504x2048) (k0_off16 k) S512x2048.size hh) hs = rowT (Ring.bk 10 (k.val + 1)) := rowT_of (off_src_cur k).2.2 _ _

/-! ## The slices at fixed offsets: the resident tiles, the first and the last streamed tile, the narrow tail -/

/-- The cell that resident copy `j` completes on. -/
def cellA (j : Fin 3) : DmaSems sig S_ :=
  (cc0_scratch9.slice (Rect.unit (s := S3) ![j.val] S1.size (by revert j; decide))).squeeze S_ squeezes_S1_S_
/-- The resident gate buffer, as a copy's destination. -/
def g0S : Memref sig .tc .vmem S2048x512 .bf16 := g0M.slice (Rect.unit (s := S2048x512) ![0, 0] S2048x512.size inb_S2048x512_S2048x512_0_0) (fun _ => rfl)
/-- The resident up buffer, as a copy's destination. -/
def u0S : Memref sig .tc .vmem S2048x512 .bf16 := u0M.slice (Rect.unit (s := S2048x512) ![0, 0] S2048x512.size inb_S2048x512_S2048x512_0_0) (fun _ => rfl)
/-- The resident output buffer, as a copy's destination. -/
def w0S : Memref sig .tc .vmem S512x2048 .bf16 := w0M.slice (Rect.unit (s := S512x2048) ![0, 0] S512x2048.size inb_S512x2048_S512x2048_0_0) (fun _ => rfl)

@[sl_canon] theorem cellA_0 (hh) : (cc0_scratch9.slice (Rect.unit (s := S3) ![0] S1.size hh)).squeeze S_ squeezes_S1_S_ = cellA 0 := Eq.trans rfl rfl
@[sl_canon] theorem cellA_1 (hh) : (cc0_scratch9.slice (Rect.unit (s := S3) ![1] S1.size hh)).squeeze S_ squeezes_S1_S_ = cellA 1 := Eq.trans rfl rfl
@[sl_canon] theorem cellA_2 (hh) : (cc0_scratch9.slice (Rect.unit (s := S3) ![2] S1.size hh)).squeeze S_ squeezes_S1_S_ = cellA 2 := Eq.trans rfl rfl
@[sl_canon] theorem g0S_eq (hh hs) : g0M.slice (Rect.unit (s := S2048x512) ![0, 0] S2048x512.size hh) hs = g0S := Eq.trans rfl rfl
@[sl_canon] theorem u0S_eq (hh hs) : u0M.slice (Rect.unit (s := S2048x512) ![0, 0] S2048x512.size hh) hs = u0S := Eq.trans rfl rfl
@[sl_canon] theorem w0S_eq (hh hs) : w0M.slice (Rect.unit (s := S512x2048) ![0, 0] S512x2048.size hh) hs = w0S := Eq.trans rfl rfl

/-- The narrow window of slot 0 of the gate buffer that the tail tile fills. -/
def gTail : Memref sig .tc .vmem S2048x384 .bf16 :=
  (gbM.slice (Rect.unit (s := S2x2048x512) ![0, 0, 0] S1x2048x384.size inb_S2x2048x512_S1x2048x384_0_0_0) (fun _ => rfl)).squeeze S2048x384 squeezes_S1x2048x384_S2048x384
/-- The narrow window of slot 0 of the up buffer that the tail tile fills. -/
def uTail : Memref sig .tc .vmem S2048x384 .bf16 :=
  (ubM.slice (Rect.unit (s := S2x2048x512) ![0, 0, 0] S1x2048x384.size inb_S2x2048x512_S1x2048x384_0_0_0) (fun _ => rfl)).squeeze S2048x384 squeezes_S1x2048x384_S2048x384
/-- The short window of slot 0 of the output-weight buffer that the tail tile fills. -/
def wTail : Memref sig .tc .vmem S384x2048 .bf16 :=
  (wbM.slice (Rect.unit (s := S2x512x2048) ![0, 0, 0] S1x384x2048.size inb_S2x512x2048_S1x384x2048_0_0_0) (fun _ => rfl)).squeeze S384x2048 squeezes_S1x384x2048_S384x2048
/-- The last 384 columns of the gate half. -/
def gateL : Memref sig .tc .hbm S2048x384 .bf16 :=
  inM.slice (Rect.unit (s := S2048x11008) ![0, 5120] S2048x384.size inb_S2048x11008_S2048x384_0_5120) (fun _ => rfl)
/-- The last 384 columns of the up half. -/
def upL : Memref sig .tc .hbm S2048x384 .bf16 :=
  inM.slice (Rect.unit (s := S2048x11008) ![0, 10624] S2048x384.size inb_S2048x11008_S2048x384_0_10624) (fun _ => rfl)
/-- The last 384 rows of the output weight. -/
def rowL : Memref sig .tc .hbm S384x2048 .bf16 :=
  outM.slice (Rect.unit (s := S5504x2048) ![5120, 0] S384x2048.size inb_S5504x2048_S384x2048_5120_0) (fun _ => rfl)

@[sl_canon] theorem gTail_eq (hh hs) : (gbM.slice (Rect.unit (s := S2x2048x512) ![0, 0, 0] S1x2048x384.size hh) hs).squeeze S2048x384 squeezes_S1x2048x384_S2048x384 = gTail := Eq.trans rfl rfl
@[sl_canon] theorem uTail_eq (hh hs) : (ubM.slice (Rect.unit (s := S2x2048x512) ![0, 0, 0] S1x2048x384.size hh) hs).squeeze S2048x384 squeezes_S1x2048x384_S2048x384 = uTail := Eq.trans rfl rfl
@[sl_canon] theorem wTail_eq (hh hs) : (wbM.slice (Rect.unit (s := S2x512x2048) ![0, 0, 0] S1x384x2048.size hh) hs).squeeze S384x2048 squeezes_S1x384x2048_S384x2048 = wTail := Eq.trans rfl rfl
@[sl_canon] theorem gateL_eq (hh hs) : inM.slice (Rect.unit (s := S2048x11008) ![0, 5120] S2048x384.size hh) hs = gateL := Eq.trans rfl rfl
@[sl_canon] theorem upL_eq (hh hs) : inM.slice (Rect.unit (s := S2048x11008) ![0, 10624] S2048x384.size hh) hs = upL := Eq.trans rfl rfl
@[sl_canon] theorem rowL_eq (hh hs) : outM.slice (Rect.unit (s := S5504x2048) ![5120, 0] S384x2048.size hh) hs = rowL := Eq.trans rfl rfl

@[sl_canon] theorem gateT_0 (hh hs) : inM.slice (Rect.unit (s := S2048x11008) ![0, 0] S2048x512.size hh) hs = gateT 0 := gateT_of (by decide) _ _
@[sl_canon] theorem upT_0 (hh hs) : inM.slice (Rect.unit (s := S2048x11008) ![0, 5504] S2048x512.size hh) hs = upT 0 := upT_of (by decide) _ _
@[sl_canon] theorem rowT_0 (hh hs) : outM.slice (Rect.unit (s := S5504x2048) ![0, 0] S512x2048.size hh) hs = rowT 0 := rowT_of (by decide) _ _
@[sl_canon] theorem gateT_1 (hh hs) : inM.slice (Rect.unit (s := S2048x11008) ![0, 512] S2048x512.size hh) hs = gateT 1 := gateT_of (by decide) _ _
@[sl_canon] theorem upT_1 (hh hs) : inM.slice (Rect.unit (s := S2048x11008) ![0, 6016] S2048x512.size hh) hs = upT 1 := upT_of (by decide) _ _
@[sl_canon] theorem rowT_1 (hh hs) : outM.slice (Rect.unit (s := S5504x2048) ![512, 0] S512x2048.size hh) hs = rowT 1 := rowT_of (by decide) _ _
@[sl_canon] theorem gateT_9 (hh hs) : inM.slice (Rect.unit (s := S2048x11008) ![0, 4608] S2048x512.size hh) hs = gateT 9 := gateT_of (by decide) _ _
@[sl_canon] theorem upT_9 (hh hs) : inM.slice (Rect.unit (s := S2048x11008) ![0, 10112] S2048x512.size hh) hs = upT 9 := upT_of (by decide) _ _
@[sl_canon] theorem rowT_9 (hh hs) : outM.slice (Rect.unit (s := S5504x2048) ![4608, 0] S512x2048.size hh) hs = rowT 9 := rowT_of (by decide) _ _

@[sl_canon] theorem gSlot_0 (hh hs) :
    (gbM.slice (Rect.unit (s := S2x2048x512) ![0, 0, 0] S1x2048x512.size hh) hs).squeeze S2048x512 squeezes_S1x2048x512_S2048x512 = gSlot 0 := gSlot_of (by decide) _ _
@[sl_canon] theorem uSlot_0 (hh hs) :
    (ubM.slice (Rect.unit (s := S2x2048x512) ![0, 0, 0] S1x2048x512.size hh) hs).squeeze S2048x512 squeezes_S1x2048x512_S2048x512 = uSlot 0 := uSlot_of (by decide) _ _
@[sl_canon] theorem wSlot_0 (hh hs) :
    (wbM.slice (Rect.unit (s := S2x512x2048) ![0, 0, 0] S1x512x2048.size hh) hs).squeeze S512x2048 squeezes_S1x512x2048_S512x2048 = wSlot 0 := wSlot_of (by decide) _ _
@[sl_canon] theorem gSlot_1 (hh hs) :
    (gbM.slice (Rect.unit (s := S2x2048x512) ![1, 0, 0] S1x2048x512.size hh) hs).squeeze S2048x512 squeezes_S1x2048x512_S2048x512 = gSlot 1 := gSlot_of (by decide) _ _
@[sl_canon] theorem uSlot_1 (hh hs) :
    (ubM.slice (Rect.unit (s := S2x2048x512) ![1, 0, 0] S1x2048x512.size hh) hs).squeeze S2048x512 squeezes_S1x2048x512_S2048x512 = uSlot 1 := uSlot_of (by decide) _ _
@[sl_canon] theorem wSlot_1 (hh hs) :
    (wbM.slice (Rect.unit (s := S2x512x2048) ![1, 0, 0] S1x512x2048.size hh) hs).squeeze S512x2048 squeezes_S1x512x2048_S512x2048 = wSlot 1 := wSlot_of (by decide) _ _
@[sl_canon] theorem cell_00 (hh) : (cc0_scratch10.slice (Rect.unit (s := S2x3) ![0, 0] S1x1.size hh)).squeeze S_ squeezes_S1x1_S_ = cell 0 0 := cell_of (by decide) _
@[sl_canon] theorem cell_01 (hh) : (cc0_scratch10.slice (Rect.unit (s := S2x3) ![0, 1] S1x1.size hh)).squeeze S_ squeezes_S1x1_S_ = cell 0 1 := cell_of (by decide) _
@[sl_canon] theorem cell_02 (hh) : (cc0_scratch10.slice (Rect.unit (s := S2x3) ![0, 2] S1x1.size hh)).squeeze S_ squeezes_S1x1_S_ = cell 0 2 := cell_of (by decide) _
@[sl_canon] theorem cell_10 (hh) : (cc0_scratch10.slice (Rect.unit (s := S2x3) ![1, 0] S1x1.size hh)).squeeze S_ squeezes_S1x1_S_ = cell 1 0 := cell_of (by decide) _
@[sl_canon] theorem cell_11 (hh) : (cc0_scratch10.slice (Rect.unit (s := S2x3) ![1, 1] S1x1.size hh)).squeeze S_ squeezes_S1x1_S_ = cell 1 1 := cell_of (by decide) _
@[sl_canon] theorem cell_12 (hh) : (cc0_scratch10.slice (Rect.unit (s := S2x3) ![1, 2] S1x1.size hh)).squeeze S_ squeezes_S1x1_S_ = cell 1 2 := cell_of (by decide) _

end Cert.FfnHand

end
-- ==== Proof.FfnTrip.lean ====
/-
  One trip of the feed-forward kernel's loop over weight tiles, and the loop's invariant. Before trip `k` tile
  `k + 1` is on its way into one slot and the other slot is idle. The trip starts tile `k + 2` into the idle slot,
  waits for tile `k + 1` and adds that tile's part of the product to the accumulator.
-/
module

public import proofs.«01_k».proof.Proof.FfnNames
public import Idealize.ShloMosaic.Lib.VecWindow

@[expose] public section

noncomputable section

namespace Cert.FfnHand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The pieces -/

section Pieces

variable (c : Dev nD)
  (XI : Buf (Elt F) (inM.view.loc (c : Thread nD τ))) (XO : Buf (Elt F) (outM.view.loc (c : Thread nD τ)))

/-- A cell at zero. -/
abbrev cellP (s : Fin 2) (j : Fin 3) : sProp 𝕄 := semVal ((c : Thread nD τ), SemLoc.dma (cell s j).sem) 0

/-- The share of the joint weight that gate copies into slot `s` read through. -/
def qg (s : Fin 2) : PosShare TreeShare := if s = 0 then fullShare.left.left else fullShare.left.right
/-- The share of the joint weight that up copies into slot `s` read through. -/
def qu (s : Fin 2) : PosShare TreeShare := if s = 0 then fullShare.right.left else fullShare.right.right
/-- The share of the output weight that copies into slot `s` read through. -/
def qo (s : Fin 2) : PosShare TreeShare := if s = 0 then fullShare.left else fullShare.right

/-- A memref's own elements at a share. -/
abbrev ownP {sp : Space} {S : Shape} {e : EltTy} (M : Memref sig .tc sp S e) (q : PosShare TreeShare)
    (f : Buf (Elt F) (M.view.loc (c : Thread nD τ))) : sProp 𝕄 := M.view.loc (c : Thread nD τ) ↦[M.view.set]{q} f
/-- The elements of a memref's array outside it, at a share. -/
def restP {sp : Space} {S : Shape} {e : EltTy} (M : Memref sig .tc sp S e) (q : PosShare TreeShare)
    (f : Buf (Elt F) (M.view.loc (c : Thread nD τ))) : sProp 𝕄 := M.view.loc (c : Thread nD τ) ↦[Finset.univ \ M.view.set]{q} f
/-- A memref's whole array at a share. -/
def allP {sp : Space} {S : Shape} {e : EltTy} (M : Memref sig .tc sp S e) (q : PosShare TreeShare)
    (f : Buf (Elt F) (M.view.loc (c : Thread nD τ))) : sProp 𝕄 := M.view.loc (c : Thread nD τ) ↦[Finset.univ]{q} f

omit [FloatOps F] in
/-- An array at a share is a memref's elements beside the others. -/
theorem allP_split {sp : Space} {S : Shape} {e : EltTy} (M : Memref sig .tc sp S e) (q : PosShare TreeShare)
    (f : Buf (Elt F) (M.view.loc (c : Thread nD τ))) : allP c M q f = iprop(ownP c M q f ∗ restP c M q f) := by
  unfold allP ownP restP
  exact BI.Entails.antisymm (pointsTo_split_subset (Finset.subset_univ _)).1 (pointsTo_split_subset (Finset.subset_univ _)).2

/-- What a copy of the memref `src` leaves in the memref `dst`. -/
abbrev landed {sp sp' : Space} {S : Shape} {e : EltTy} (dst : Memref sig .tc sp S e) (src : Memref sig .tc sp' S e)
    (X : Buf (Elt F) (src.view.loc (c : Thread nD τ))) (f : Buf (Elt F) (dst.view.loc (c : Thread nD τ))) :
    Buf (Elt F) (dst.view.loc (c : Thread nD τ)) :=
  dst.view.writes (Elt F) f [⟨Rect.whole S, ReadAs.same.apply (src.view.read (Elt F) X)⟩]

/-- A copy on its way from `src` into `dst`, completing on `sem`. -/
abbrev flyP {sp sp' : Space} {S : Shape} {e : EltTy} (dst : Memref sig .tc sp S e) (src : Memref sig .tc sp' S e)
    (sem : DmaSems sig S_) (q : PosShare TreeShare) (n : ℕ)
    (X : Buf (Elt F) (src.view.loc (c : Thread nD τ))) (f : Buf (Elt F) (dst.view.loc (c : Thread nD τ))) : sProp 𝕄 :=
  Transfers.Flight countersEmb (c : Thread nD τ) (SemLoc.dma sem.sem) () n iprop(ownP c dst fullShare (landed c dst src X f) ∗ ownP c src q X)

/-- Slot `s` idle: its cells at zero, its buffers held at some contents, its shares of the weights whole. -/
def idleP (s : Fin 2) : sProp 𝕄 :=
  iprop((cellP c s 0 ∗ cellP c s 1 ∗ cellP c s 2)
    ∗ ((∃ f, ownP c (gSlot s) fullShare f) ∗ (∃ f, ownP c (uSlot s) fullShare f) ∗ (∃ f, ownP c (wSlot s) fullShare f))
    ∗ (allP c inM (qg s) XI ∗ allP c inM (qu s) XI ∗ allP c outM (qo s) XO))
/-- Slot `s` with tile `b` on its way into it. -/
def flyingP (s : Fin 2) (b : Fin 10) : sProp 𝕄 :=
  iprop(((∃ f, flyP c (gSlot s) (gateT b) (cell s 0) (qg s) 65536 XI f) ∗ (∃ f, flyP c (uSlot s) (upT b) (cell s 1) (qu s) 65536 XI f)
      ∗ (∃ f, flyP c (wSlot s) (rowT b) (cell s 2) (qo s) 65536 XO f))
    ∗ (restP c (gateT b) (qg s) XI ∗ restP c (upT b) (qu s) XI ∗ restP c (rowT b) (qo s) XO))

omit [FloatOps F] in
/-- The joint weight at a share, opened at gate tile `b`. -/
theorem gate_open (b : Fin 10) (q : PosShare TreeShare) : allP c inM q XI ⊢ iprop(ownP c (gateT b) q XI ∗ restP c (gateT b) q XI) :=
  (allP_split c (gateT b) q XI) ▸ .rfl
omit [FloatOps F] in
/-- The joint weight at a share, opened at up tile `b`. -/
theorem up_open (b : Fin 10) (q : PosShare TreeShare) : allP c inM q XI ⊢ iprop(ownP c (upT b) q XI ∗ restP c (upT b) q XI) :=
  (allP_split c (upT b) q XI) ▸ .rfl
omit [FloatOps F] in
/-- The output weight at a share, opened at tile `b`. -/
theorem row_open (b : Fin 10) (q : PosShare TreeShare) : allP c outM q XO ⊢ iprop(ownP c (rowT b) q XO ∗ restP c (rowT b) q XO) :=
  (allP_split c (rowT b) q XO) ▸ .rfl
omit [FloatOps F] in
/-- The joint weight at a share, closed over gate tile `b`. -/
theorem gate_close (b : Fin 10) (q : PosShare TreeShare) : iprop(ownP c (gateT b) q XI ∗ restP c (gateT b) q XI) ⊢ allP c inM q XI :=
  (allP_split c (gateT b) q XI) ▸ .rfl
omit [FloatOps F] in
/-- The joint weight at a share, closed over up tile `b`. -/
theorem up_close (b : Fin 10) (q : PosShare TreeShare) : iprop(ownP c (upT b) q XI ∗ restP c (upT b) q XI) ⊢ allP c inM q XI :=
  (allP_split c (upT b) q XI) ▸ .rfl
omit [FloatOps F] in
/-- The output weight at a share, closed over tile `b`. -/
theorem row_close (b : Fin 10) (q : PosShare TreeShare) : iprop(ownP c (rowT b) q XO ∗ restP c (rowT b) q XO) ⊢ allP c outM q XO :=
  (allP_split c (rowT b) q XO) ▸ .rfl

omit [FloatOps F] in
theorem sl2_add2 (k : ℕ) : Ring.sl 2 (k + 1 + 1) = Ring.sl 2 k := by rw [show k + 1 + 1 = k + 2 from rfl, Ring.sl_add]
omit [FloatOps F] in
theorem bk10_add2 (k : ℕ) : Ring.bk 10 (k + 1 + 1) = Ring.bk 10 (k + 2) := rfl

end Pieces

/-! ## One trip -/

section Trip

variable (c : Dev nD)
  (XI : Buf (Elt F) (inM.view.loc (c : Thread nD τ))) (XO : Buf (Elt F) (outM.view.loc (c : Thread nD τ)))
  (i : grid0.Coords)
  (arg1 : Memref sig .tc .vmem S512x2048 .f32) (harg1 : arg1.IsWhole)
  (arg4 : Memref sig .tc .vmem S1x2048 .f32) (harg4 : arg4.IsWhole)
  (arg5 : Memref sig .tc .vmem S1x2048 .f32) (harg5 : arg5.IsWhole)
  (arg6 : Memref sig .tc .vmem S512x2048 .f32) (harg6 : arg6.IsWhole)
  (h2 : k0_cond2 i = 1#1) (v67 : FVec F S512x512 .bf16) (v68 : Vec F S512x2048 .bf16) (cst : FVec F S512x2048 .f32)
  (xb : Vec F S512x2048 .bf16)

/-- The whole of a 512 × 2048 buffer. -/
abbrev R00 : Rect S512x2048 := Rect.unit (s := S512x2048) ![0, 0] S512x2048.size inb_S512x2048_S512x2048_0_0

/-- A 512 × 2048 buffer holding the vector `v`. -/
abbrev holdP {e : EltTy} (M : Memref sig .tc .vmem S512x2048 e) (v : S512x2048.Idx → Elt F e) : sProp 𝕄 :=
  iprop(∃ f, ownP c M fullShare (M.view.writes (Elt F) f [⟨R00, v⟩]))

/-- A buffer whose last store is the whole vector `w` holds `w`. -/
theorem hold_of {e : EltTy} (M : Memref sig .tc .vmem S512x2048 e) (f : Buf (Elt F) (M.view.loc (c : Thread nD τ)))
    (L : List (View.Piece (Elt F) S512x2048 e)) {w v : S512x2048.Idx → Elt F e} (h : w = v) :
    ownP c M fullShare (M.view.writes (Elt F) f (⟨R00, w⟩ :: L)) ⊢ holdP c M v := by
  subst h
  iintro H
  iexists (M.view.writes (Elt F) f L)
  iexact H

/-- A load of the whole of what a copy wrote is what it wrote. -/
theorem read_landed {sp : Space} {S : Shape} {e : EltTy} (v : View sig .tc sp S e) {off : Fin S.rank → ℕ}
    (inb : ∀ a, off a + S.size a ≤ S.size a) (w : (Rect.whole S).shape.Idx → Elt F e) (L : List (View.Piece (Elt F) S e)) :
    v.readCov (⟨Rect.whole S, w⟩ :: L) (Rect.unit off S.size inb).toLoadRect = w :=
  View.readCov_full v inb (fun _ => by simp) w L

/-- Gate tile `b` as a vector. -/
abbrev gateV (b : Fin 10) : Vec F S2048x512 .bf16 := ReadAs.same.apply ((gateT b).view.read (Elt F) XI)
/-- Up tile `b` as a vector. -/
abbrev upV (b : Fin 10) : Vec F S2048x512 .bf16 := ReadAs.same.apply ((upT b).view.read (Elt F) XI)
/-- Output tile `b` as a vector. -/
abbrev rowV (b : Fin 10) : Vec F S512x2048 .bf16 := ReadAs.same.apply ((rowT b).view.read (Elt F) XO)

/-- What trip `k` works on, the accumulator holding `acc`. -/
def resAt (k : ℕ) (acc : Vec F S512x2048 .f32) : sProp 𝕄 :=
  iprop(holdP c accM acc ∗ holdP c xbM xb ∗ (∃ W, owes (c : Thread nD τ) 0 W)
    ∗ flyingP c XI XO (Ring.sl 2 (k + 1)) (Ring.bk 10 (k + 1)) ∗ idleP c XI XO (Ring.sl 2 k))

/-- Trip `k` of the loop. -/
abbrev tripG (k : Trip) : Prog (TpuEff nD τ sig (Elt F) Λ₀ .tc) Unit :=
  k0_t1_body (F := F) i arg1 harg1 inM (Memref.isWhole_whole _) outM (Memref.isWhole_whole _) arg4 harg4 arg5 harg5 arg6 harg6
    xbM (Memref.isWhole_whole _) accM (Memref.isWhole_whole _) yM (Memref.isWhole_whole _) g0M (Memref.isWhole_whole _)
    u0M (Memref.isWhole_whole _) w0M (Memref.isWhole_whole _) gbM (Memref.isWhole_whole _) ubM (Memref.isWhole_whole _)
    wbM (Memref.isWhole_whole _) cc0_scratch9 cc0_scratch10 h2 v67 v68 cst k ()

/-- The accumulator after trip `k`: tile `k + 1`'s part added. -/
abbrev nextAcc (k : ℕ) (acc : Vec F S512x2048 .f32) : Vec F S512x2048 .f32 :=
  k0_pay8 acc xb (gateV c XI (Ring.bk 10 (k + 1))) (upV c XI (Ring.bk 10 (k + 1))) (rowV c XO (Ring.bk 10 (k + 1)))

set_option maxHeartbeats 800000 in
/-- One trip adds its tile's part to the accumulator and leaves the next tile on its way. -/
theorem tripRun (k : Trip) (acc : Vec F S512x2048 .f32) :
      resAt c XI XO xb k acc ⊢ wp frame (wpE (defs₀ (F := F)) Variants.none (c : Thread nD τ) none) Set.univ
        (tripG i arg1 harg1 arg4 harg4 arg5 harg5 arg6 harg6 h2 v67 v68 cst k)
        (fun _ => resAt c XI XO xb (k.val + 1) (nextAcc c XI XO xb k.val acc)) := by
  unfold resAt idleP flyingP
  rw [sl2_add2, bk10_add2]
  iintro ⟨⟨%fa, HA⟩, ⟨%fx, HX⟩, ⟨%W, HW⟩, ⟨⟨⟨%f0, HG⟩, ⟨%f1, HU⟩, ⟨%f2, HO⟩⟩, HRG, HRU, HRO⟩, ⟨HC0, HC1, HC2⟩, ⟨⟨%e0, HS0⟩, ⟨%e1, HS1⟩, ⟨%e2, HS2⟩⟩, HAG, HAU, HAO⟩
  ihave HAG2 := (gate_open c XI (Ring.bk 10 (k.val + 2)) (qg (Ring.sl 2 k.val))) $$ HAG
  icases HAG2 with ⟨HTG, HRG2⟩
  ihave HAU2 := (up_open c XI (Ring.bk 10 (k.val + 2)) (qu (Ring.sl 2 k.val))) $$ HAU
  icases HAU2 with ⟨HTU, HRU2⟩
  ihave HAO2 := (row_open c XO (Ring.bk 10 (k.val + 2)) (qo (Ring.sl 2 k.val))) $$ HAO
  icases HAO2 with ⟨HTO, HRO2⟩
  dsimp only [tripG]
  sl_unfold [k0_t1_body]
  sl_exec
  sl_step
  isplitl [HA]
  · have e233 : tripRun.sl.v233 acc = acc := View.readCov_full _ _ _ _ _
    have e234 : tripRun.sl.v234 xb = xb := View.readCov_full _ _ _ _ _
    have e237 : tripRun.sl.v237 c XI k = gateV c XI (Ring.bk 10 (k.val + 1)) := read_landed _ _ _ _
    have e241 : tripRun.sl.v241 c XI k = upV c XI (Ring.bk 10 (k.val + 1)) := read_landed _ _ _ _
    have e249 : tripRun.sl.v249 c XO k = rowV c XO (Ring.bk 10 (k.val + 1)) := read_landed _ _ _ _
    iapply (hold_of c accM fa [⟨R00, acc⟩]
      (show k0_pay8 (tripRun.sl.v233 acc) (tripRun.sl.v234 xb) (tripRun.sl.v237 c XI k) (tripRun.sl.v241 c XI k) (tripRun.sl.v249 c XO k)
          = nextAcc c XI XO xb k.val acc by rw [e233, e234, e237, e241, e249]))
    iexact HA
  isplitl [HX]; · iexists _; iexact HX
  isplitl [HW]; · iexists _; iexact HW
  isplitl [HC0 HC1 HC2 HRG2 HRU2 HRO2]
  · isplitl [HC0 HC1 HC2]
    · isplitl [HC0]
      · iexists e0; iexact HC0
      isplitl [HC1]
      · iexists e1; iexact HC1
      iexists e2; iexact HC2
    · isplitl [HRG2]; · iexact HRG2
      isplitl [HRU2]; · iexact HRU2
      iexact HRO2
  isplitl [HG HU HO]
  · isplitl [HG]; · iexact HG
    isplitl [HU]; · iexact HU
    iexact HO
  isplitl [HG_dst HU_dst HO_dst]
  · isplitl [HG_dst]; · iexists _; iexact HG_dst
    isplitl [HU_dst]; · iexists _; iexact HU_dst
    iexists _; iexact HO_dst
  isplitl [HG_src HRG]
  · iapply (gate_close c XI); isplitl [HG_src]; · iexact HG_src
    iexact HRG
  isplitl [HU_src HRU]
  · iapply (up_close c XI); isplitl [HU_src]; · iexact HU_src
    iexact HRU
  iapply (row_close c XO); isplitl [HO_src]; · iexact HO_src
  iexact HRO

end Trip

end Cert.FfnHand

end
-- ==== Proof.FfnBody.lean ====
/-
  One point of the feed-forward kernel's grid, in its three parts: the first point fetches the resident tiles, every
  point but the last sends its block through all tiles, the last point only normalises what is left.
-/
module

public import proofs.«01_k».proof.Proof.FfnTrip

@[expose] public section

noncomputable section

namespace Cert.FfnHand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Progs

variable (i : grid0.Coords)
  (arg1 : Memref sig .tc .vmem S512x2048 .f32) (harg1 : arg1.IsWhole)
  (arg4 : Memref sig .tc .vmem S1x2048 .f32) (harg4 : arg4.IsWhole)
  (arg5 : Memref sig .tc .vmem S1x2048 .f32) (harg5 : arg5.IsWhole)
  (arg6 : Memref sig .tc .vmem S512x2048 .f32) (harg6 : arg6.IsWhole)

/-- What the first point does before its block. -/
def firstProg : Prog (TpuEff nD τ sig (Elt F) Λ₀ .tc) PUnit := do
  k0_part1 i arg1 harg1 inM (Memref.isWhole_whole _) outM (Memref.isWhole_whole _) arg4 harg4 arg5 harg5 arg6 harg6
      xbM (Memref.isWhole_whole _) accM (Memref.isWhole_whole _) yM (Memref.isWhole_whole _) g0M (Memref.isWhole_whole _) u0M (Memref.isWhole_whole _)
      w0M (Memref.isWhole_whole _) gbM (Memref.isWhole_whole _) ubM (Memref.isWhole_whole _) wbM (Memref.isWhole_whole _) cc0_scratch9 cc0_scratch10
  let v33 : DmaSems sig S1 := cc0_scratch9.slice (Rect.unit (s := S3) ![2] S1.size inb_S3_S1_2)
  let v34 : DmaSems sig S_ := v33.squeeze S_ squeezes_S1_S_
  let v35 : Memref sig .tc .vmem S512x2048 .bf16 := w0M.slice (Rect.unit (s := S512x2048) ![0, 0] S512x2048.size inb_S512x2048_S512x2048_0_0) (fun _ => rfl)
  let v36 : Memref sig .tc .hbm S512x2048 .bf16 := outM.slice (Rect.unit (s := S5504x2048) ![0, 0] S512x2048.size inb_S5504x2048_S512x2048_0_0) (fun _ => rfl)
  Prog.lift (.waitDma2 v34.sem v36 v35 ((Memref.isWhole_whole _).wordExact_slice rfl _ wordsbf16_S5504x2048_S512x2048_0_0) ((Memref.isWhole_whole _).wordExact_slice rfl _ wordsbf16_S512x2048_S512x2048_0_0))

/-- A block sent through all tiles. -/
def tileProg (k0_h2 : k0_cond2 i = 1#1) : Prog (TpuEff nD τ sig (Elt F) Λ₀ .tc) PUnit := do
  k0_part4 i arg1 harg1 inM (Memref.isWhole_whole _) outM (Memref.isWhole_whole _) arg4 harg4 arg5 harg5 arg6 harg6
      xbM (Memref.isWhole_whole _) accM (Memref.isWhole_whole _) yM (Memref.isWhole_whole _) g0M (Memref.isWhole_whole _) u0M (Memref.isWhole_whole _)
      w0M (Memref.isWhole_whole _) gbM (Memref.isWhole_whole _) ubM (Memref.isWhole_whole _) wbM (Memref.isWhole_whole _) cc0_scratch9 cc0_scratch10
  let ⟨v67, v68, cst_52⟩ : Σ' (v67 : FVec F S512x512 .bf16) (v68 : Vec F S512x2048 .bf16), FVec F S512x2048 .f32 ← k0_part5 i arg1 harg1 inM (Memref.isWhole_whole _) outM (Memref.isWhole_whole _) arg4 harg4 arg5 harg5 arg6 harg6
      xbM (Memref.isWhole_whole _) accM (Memref.isWhole_whole _) yM (Memref.isWhole_whole _) g0M (Memref.isWhole_whole _) u0M (Memref.isWhole_whole _)
      w0M (Memref.isWhole_whole _) gbM (Memref.isWhole_whole _) ubM (Memref.isWhole_whole _) wbM (Memref.isWhole_whole _) cc0_scratch9 cc0_scratch10
  k0_part6 i arg1 harg1 inM (Memref.isWhole_whole _) outM (Memref.isWhole_whole _) arg4 harg4 arg5 harg5 arg6 harg6
      xbM (Memref.isWhole_whole _) accM (Memref.isWhole_whole _) yM (Memref.isWhole_whole _) g0M (Memref.isWhole_whole _) u0M (Memref.isWhole_whole _)
      w0M (Memref.isWhole_whole _) gbM (Memref.isWhole_whole _) ubM (Memref.isWhole_whole _) wbM (Memref.isWhole_whole _) cc0_scratch9 cc0_scratch10 k0_h2 v67 v68 cst_52
  let ⟨v110, v111⟩ : Σ' (v110 : Vec F S512x2048 .f32), Vec F S512x2048 .bf16 ← k0_part7 i arg1 harg1 inM (Memref.isWhole_whole _) outM (Memref.isWhole_whole _) arg4 harg4 arg5 harg5 arg6 harg6
      xbM (Memref.isWhole_whole _) accM (Memref.isWhole_whole _) yM (Memref.isWhole_whole _) g0M (Memref.isWhole_whole _) u0M (Memref.isWhole_whole _)
      w0M (Memref.isWhole_whole _) gbM (Memref.isWhole_whole _) ubM (Memref.isWhole_whole _) wbM (Memref.isWhole_whole _) cc0_scratch9 cc0_scratch10
  k0_part8 i arg1 harg1 inM (Memref.isWhole_whole _) outM (Memref.isWhole_whole _) arg4 harg4 arg5 harg5 arg6 harg6
      xbM (Memref.isWhole_whole _) accM (Memref.isWhole_whole _) yM (Memref.isWhole_whole _) g0M (Memref.isWhole_whole _) u0M (Memref.isWhole_whole _)
      w0M (Memref.isWhole_whole _) gbM (Memref.isWhole_whole _) ubM (Memref.isWhole_whole _) wbM (Memref.isWhole_whole _) cc0_scratch9 cc0_scratch10 v110 v111
  let ⟨v150, v163⟩ : Σ' (v150 : Vec F S512x2048 .f32), FVec F S512x384 .bf16 ← k0_part9 i arg1 harg1 inM (Memref.isWhole_whole _) outM (Memref.isWhole_whole _) arg4 harg4 arg5 harg5 arg6 harg6
      xbM (Memref.isWhole_whole _) accM (Memref.isWhole_whole _) yM (Memref.isWhole_whole _) g0M (Memref.isWhole_whole _) u0M (Memref.isWhole_whole _)
      w0M (Memref.isWhole_whole _) gbM (Memref.isWhole_whole _) ubM (Memref.isWhole_whole _) wbM (Memref.isWhole_whole _) cc0_scratch9 cc0_scratch10
  let v164 : Memref sig .tc .vmem S1x512x2048 .bf16 := wbM.slice (Rect.unit (s := S2x512x2048) ![0, 0, 0] S1x512x2048.size inb_S2x512x2048_S1x512x2048_0_0_0) (fun _ => rfl)
  let v165 : Memref sig .tc .vmem S512x2048 .bf16 := v164.squeeze S512x2048 squeezes_S1x512x2048_S512x2048
  let v166 : Vec F S384x2048 .bf16 ← Prog.lift (.load v165 (Rect.unit (s := S512x2048) ![0, 0] S384x2048.size inb_S512x2048_S384x2048_0_0).toLoadRect (View.loadsAt_vmem h_S384x2048))
  let v169 : Vec F S512x2048 .f32 ← Prog.lift (.load arg1 (Rect.unit (s := S512x2048) ![0, 0] S512x2048.size inb_S512x2048_S512x2048_0_0).toLoadRect (View.loadsAt_vmem h_S512x2048))
  let v176 : Vec F S512x2048 .f32 ← Prog.lift (.load yM (Rect.unit (s := S512x2048) ![0, 0] S512x2048.size inb_S512x2048_S512x2048_0_0).toLoadRect (View.loadsAt_vmem h_S512x2048))
  Prog.lift (.store yM (Rect.unit (s := S512x2048) ![0, 0] S512x2048.size inb_S512x2048_S512x2048_0_0) (k0_pay1 v150 v163 v166 v169) Finset.univ (View.stores_vmem_bits_univ h_S512x2048 rfl) (.inl rfl))
  pure ⟨⟩

/-- What the last point does. -/
def lastProg : Prog (TpuEff nD τ sig (Elt F) Λ₀ .tc) PUnit := do
  let v9 : Vec F S512x2048 .f32 ← Prog.lift (.load yM (Rect.unit (s := S512x2048) ![0, 0] S512x2048.size inb_S512x2048_S512x2048_0_0).toLoadRect (View.loadsAt_vmem h_S512x2048))
  let v10 : Vec F S1x2048 .f32 ← Prog.lift (.load arg4 (Rect.unit (s := S1x2048) ![0, 0] S1x2048.size inb_S1x2048_S1x2048_0_0).toLoadRect (View.loadsAt_vmem h_S1x2048))
  let v12 : Vec F S1x2048 .f32 ← Prog.lift (.load arg5 (Rect.unit (s := S1x2048) ![0, 0] S1x2048.size inb_S1x2048_S1x2048_0_0).toLoadRect (View.loadsAt_vmem h_S1x2048))
  let v34 : Vec F S512x2048 .f32 ← Prog.lift (.load arg6 (Rect.unit (s := S512x2048) ![0, 0] S512x2048.size inb_S512x2048_S512x2048_0_0).toLoadRect (View.loadsAt_vmem h_S512x2048))
  Prog.lift (.store arg6 (Rect.unit (s := S512x2048) ![0, 0] S512x2048.size inb_S512x2048_S512x2048_0_0) (k0_pay2 v9 v10 v12) Finset.univ (View.stores_vmem_bits_univ h_S512x2048 rfl) (.inl rfl))
  pure ⟨⟩

/-- The body. -/
abbrev bodyProg : Prog (TpuEff nD τ sig (Elt F) Λ₀ .tc) PUnit :=
  cc0_ffn_deepnorm (F := F) i arg1 harg1 inM (Memref.isWhole_whole _) outM (Memref.isWhole_whole _) arg4 harg4 arg5 harg5 arg6 harg6
      xbM (Memref.isWhole_whole _) accM (Memref.isWhole_whole _) yM (Memref.isWhole_whole _) g0M (Memref.isWhole_whole _) u0M (Memref.isWhole_whole _)
      w0M (Memref.isWhole_whole _) gbM (Memref.isWhole_whole _) ubM (Memref.isWhole_whole _) wbM (Memref.isWhole_whole _) cc0_scratch9 cc0_scratch10

/-- The condition of the first point. -/
def isFirst (i : grid0.Coords) : BitVec 1 := Scalar.cmpi .ne (Scalar.extui (Scalar.cmpi .eq (BitVec.ofNat 32 (i 0).val) 0#32) : BitVec 32) 0#32

/-- The body at the first point. -/
theorem body_first (h1 : isFirst i = 1#1) (h2 : k0_cond2 i = 1#1) (h3 : ¬ k0_cond3 i = 1#1) :
    bodyProg (F := F) i arg1 harg1 arg4 harg4 arg5 harg5 arg6 harg6
      = (firstProg i arg1 harg1 arg4 harg4 arg5 harg5 arg6 harg6 >>= fun _ => tileProg i arg1 harg1 arg4 harg4 arg5 harg5 arg6 harg6 h2) := by
  unfold bodyProg
  rw [cc0_ffn_deepnorm_eq_skeleton]
  unfold isFirst at h1
  simp only [cc0_ffn_deepnorm_skel, dif_pos h1, dif_pos h2, dif_neg h3, firstProg, tileProg, bind_assoc, pure_bind]

/-- The body at a point that is neither the first nor the last. -/
theorem body_mid (h1 : ¬ isFirst i = 1#1) (h2 : k0_cond2 i = 1#1) (h3 : ¬ k0_cond3 i = 1#1) :
    bodyProg (F := F) i arg1 harg1 arg4 harg4 arg5 harg5 arg6 harg6 = tileProg i arg1 harg1 arg4 harg4 arg5 harg5 arg6 harg6 h2 := by
  unfold bodyProg
  rw [cc0_ffn_deepnorm_eq_skeleton]
  unfold isFirst at h1
  simp only [cc0_ffn_deepnorm_skel, dif_neg h1, dif_pos h2, dif_neg h3, tileProg, bind_assoc, pure_bind]

/-- The body at the last point. -/
theorem body_last (h1 : ¬ isFirst i = 1#1) (h2 : ¬ k0_cond2 i = 1#1) (h3 : k0_cond3 i = 1#1) :
    bodyProg (F := F) i arg1 harg1 arg4 harg4 arg5 harg5 arg6 harg6 = lastProg arg4 arg5 arg6 := by
  unfold bodyProg
  rw [cc0_ffn_deepnorm_eq_skeleton]
  unfold isFirst at h1
  simp only [cc0_ffn_deepnorm_skel, dif_neg h1, dif_neg h2, dif_pos h3, lastProg, bind_assoc, pure_bind]

end Progs

end Cert.FfnHand

end
-- ==== Proof.FfnTail.lean ====
/-
  The narrow windows of slot 0 that the tail tile fills: each is opened from its slot, and closed again with the
  tile read back through the slot.
-/
module

public import proofs.«01_k».proof.Proof.FfnTrip
public import Idealize.ShloMosaic.Lib.Pipeline.ValueKit

@[expose] public section

noncomputable section

namespace Cert.FfnHand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Tail

variable (c : Dev nD)
  (XI : Buf (Elt F) (inM.view.loc (c : Thread nD τ))) (XO : Buf (Elt F) (outM.view.loc (c : Thread nD τ)))

/-! ## The tail's windows -/

omit [FloatOps F] in
/-- The joint weight at a share, opened at its tail. -/
theorem gateL_open (q : PosShare TreeShare) : allP c inM q XI ⊢ iprop(ownP c gateL q XI ∗ restP c gateL q XI) :=
  (allP_split c gateL q XI) ▸ .rfl
omit [FloatOps F] in
/-- The joint weight at a share, closed over its tail. -/
theorem gateL_close (q : PosShare TreeShare) : iprop(ownP c gateL q XI ∗ restP c gateL q XI) ⊢ allP c inM q XI :=
  (allP_split c gateL q XI) ▸ .rfl
omit [FloatOps F] in
/-- The joint weight at a share, opened at its tail. -/
theorem upL_open (q : PosShare TreeShare) : allP c inM q XI ⊢ iprop(ownP c upL q XI ∗ restP c upL q XI) :=
  (allP_split c upL q XI) ▸ .rfl
omit [FloatOps F] in
/-- The joint weight at a share, closed over its tail. -/
theorem upL_close (q : PosShare TreeShare) : iprop(ownP c upL q XI ∗ restP c upL q XI) ⊢ allP c inM q XI :=
  (allP_split c upL q XI) ▸ .rfl
omit [FloatOps F] in
/-- The output weight at a share, opened at its tail. -/
theorem rowL_open (q : PosShare TreeShare) : allP c outM q XO ⊢ iprop(ownP c rowL q XO ∗ restP c rowL q XO) :=
  (allP_split c rowL q XO) ▸ .rfl
omit [FloatOps F] in
/-- The output weight at a share, closed over its tail. -/
theorem rowL_close (q : PosShare TreeShare) : iprop(ownP c rowL q XO ∗ restP c rowL q XO) ⊢ allP c outM q XO :=
  (allP_split c rowL q XO) ▸ .rfl

/-- The first 384 columns of a 2048 × 512 buffer. -/
abbrev R10 : Rect S2048x512 := Rect.unit (s := S2048x512) ![0, 0] S2048x384.size inb_S2048x512_S2048x384_0_0
/-- The first 384 rows of a 512 × 2048 buffer. -/
abbrev R11 : Rect S512x2048 := Rect.unit (s := S512x2048) ![0, 0] S384x2048.size inb_S512x2048_S384x2048_0_0

/-- An element of a squeezed 1 × a × b window is the window's element under a leading zero. -/
theorem squeeze_emb {d : Fin 2 → Nat} (M : Memref sig .tc .vmem ⟨3, Matrix.vecCons 1 d⟩ .bf16)
    (h : (⟨3, Matrix.vecCons 1 d⟩ : Shape).Squeezes ⟨2, d⟩) (x : (⟨2, d⟩ : Shape).Idx) :
    (M.squeeze ⟨2, d⟩ h).view.emb x = M.view.emb (Fin.cons ⟨0, Nat.zero_lt_one⟩ x) :=
  congrArg M.view.emb (Shape.reshapeEquiv_cons_one _ x)

/-- An element of the tail's window is the slot's element at the same place. -/
theorem gTail_emb (j : S2048x384.Idx) : (gSlot 0).view.emb (R10.toLoadRect.idx j) = gTail.view.emb j := by
  have e1 := squeeze_emb (d := ![2048, 512]) (gbM.slice (Rect.unit (s := S2x2048x512) (slotOff 0) S1x2048x512.size (slotOff_col 0)) (fun _ => rfl)) squeezes_S1x2048x512_S2048x512 (R10.toLoadRect.idx j)
  have e2 := squeeze_emb (d := ![2048, 384]) (gbM.slice (Rect.unit (s := S2x2048x512) ![0, 0, 0] S1x2048x384.size inb_S2x2048x512_S1x2048x384_0_0_0) (fun _ => rfl)) squeezes_S1x2048x384_S2048x384 j
  refine e1.trans (Eq.trans ?_ e2.symm)
  refine funext fun a => Fin.ext ?_
  fin_cases a
  · rfl
  · show 0 + 1 * (0 + 1 * (j 0).val) = 0 + 1 * (j 0).val; omega
  · show 0 + 1 * (0 + 1 * (j 1).val) = 0 + 1 * (j 1).val; omega
theorem gTail_subset : gTail.view.set ⊆ (gSlot 0).view.set := by
  intro x hx
  obtain ⟨j, -, rfl⟩ := Finset.mem_map.mp hx
  exact gTail_emb j ▸ View.emb_mem_set _ _

/-- Slot 0 of the gate buffer outside the tail's window. -/
def gTail_rest : sProp 𝕄 := iprop(∃ f, (gSlot 0).view.loc (c : Thread nD τ) ↦[(gSlot 0).view.set \ gTail.view.set]{fullShare} f)
omit [FloatOps F] in
/-- Slot 0 of the gate buffer is the tail's window beside the rest. -/
theorem gTail_open : iprop(∃ f, ownP (F := F) c (gSlot 0) fullShare f) ⊢ iprop((∃ f, ownP c gTail fullShare f) ∗ gTail_rest c) := by
  iintro ⟨%f, H⟩
  ihave H := (pointsTo_split_subset gTail_subset).1 $$ H
  icases H with ⟨H1, H2⟩
  isplitl [H1]; · iexists f; iexact H1
  unfold gTail_rest
  iexists f; iexact H2
/-- The tail's window and the rest are slot 0 of the gate buffer, which reads the tail back. -/
theorem gTail_join (f : Buf (Elt F) (gTail.view.loc (c : Thread nD τ))) (p : Vec F S2048x384 .bf16) :
    iprop(ownP c gTail fullShare (gTail.view.writes (Elt F) f [⟨Rect.whole S2048x384, p⟩]) ∗ gTail_rest c)
      ⊢ iprop(∃ f, ⌜(gSlot 0).view.readAt (Elt F) R10.toLoadRect f = p⌝ ∗ ownP c (gSlot 0) fullShare f) := by
  unfold gTail_rest
  iintro ⟨H, ⟨%g, HR⟩⟩
  iexists (gTail.view.set.piecewise (gTail.view.writes (Elt F) f [⟨Rect.whole S2048x384, p⟩]) g)
  isplitr
  · ipureintro
    funext j
    refine Eq.trans ?_ (congrFun (View.read_writes_whole gTail.view f p) j)
    have key : ∀ x : gTail.view.ty.Idx, x = gTail.view.emb j →
        gTail.view.set.piecewise (gTail.view.writes (Elt F) f [⟨Rect.whole _, p⟩]) g x = gTail.view.writes (Elt F) f [⟨Rect.whole _, p⟩] (gTail.view.emb j) := by
      rintro _ rfl
      exact Finset.piecewise_eq_of_mem _ _ _ (View.emb_mem_set _ _)
    exact congrArg (_root_.cast _) (key _ (gTail_emb j))
  · iapply (pointsTo_join_subset gTail_subset)
    isplitl [H]; · iexact H
    iexact HR

/-- An element of the tail's window is the slot's element at the same place. -/
theorem uTail_emb (j : S2048x384.Idx) : (uSlot 0).view.emb (R10.toLoadRect.idx j) = uTail.view.emb j := by
  have e1 := squeeze_emb (d := ![2048, 512]) (ubM.slice (Rect.unit (s := S2x2048x512) (slotOff 0) S1x2048x512.size (slotOff_col 0)) (fun _ => rfl)) squeezes_S1x2048x512_S2048x512 (R10.toLoadRect.idx j)
  have e2 := squeeze_emb (d := ![2048, 384]) (ubM.slice (Rect.unit (s := S2x2048x512) ![0, 0, 0] S1x2048x384.size inb_S2x2048x512_S1x2048x384_0_0_0) (fun _ => rfl)) squeezes_S1x2048x384_S2048x384 j
  refine e1.trans (Eq.trans ?_ e2.symm)
  refine funext fun a => Fin.ext ?_
  fin_cases a
  · rfl
  · show 0 + 1 * (0 + 1 * (j 0).val) = 0 + 1 * (j 0).val; omega
  · show 0 + 1 * (0 + 1 * (j 1).val) = 0 + 1 * (j 1).val; omega
theorem uTail_subset : uTail.view.set ⊆ (uSlot 0).view.set := by
  intro x hx
  obtain ⟨j, -, rfl⟩ := Finset.mem_map.mp hx
  exact uTail_emb j ▸ View.emb_mem_set _ _

/-- Slot 0 of the up buffer outside the tail's window. -/
def uTail_rest : sProp 𝕄 := iprop(∃ f, (uSlot 0).view.loc (c : Thread nD τ) ↦[(uSlot 0).view.set \ uTail.view.set]{fullShare} f)
omit [FloatOps F] in
/-- Slot 0 of the up buffer is the tail's window beside the rest. -/
theorem uTail_open : iprop(∃ f, ownP (F := F) c (uSlot 0) fullShare f) ⊢ iprop((∃ f, ownP c uTail fullShare f) ∗ uTail_rest c) := by
  iintro ⟨%f, H⟩
  ihave H := (pointsTo_split_subset uTail_subset).1 $$ H
  icases H with ⟨H1, H2⟩
  isplitl [H1]; · iexists f; iexact H1
  unfold uTail_rest
  iexists f; iexact H2
/-- The tail's window and the rest are slot 0 of the up buffer, which reads the tail back. -/
theorem uTail_join (f : Buf (Elt F) (uTail.view.loc (c : Thread nD τ))) (p : Vec F S2048x384 .bf16) :
    iprop(ownP c uTail fullShare (uTail.view.writes (Elt F) f [⟨Rect.whole S2048x384, p⟩]) ∗ uTail_rest c)
      ⊢ iprop(∃ f, ⌜(uSlot 0).view.readAt (Elt F) R10.toLoadRect f = p⌝ ∗ ownP c (uSlot 0) fullShare f) := by
  unfold uTail_rest
  iintro ⟨H, ⟨%g, HR⟩⟩
  iexists (uTail.view.set.piecewise (uTail.view.writes (Elt F) f [⟨Rect.whole S2048x384, p⟩]) g)
  isplitr
  · ipureintro
    funext j
    refine Eq.trans ?_ (congrFun (View.read_writes_whole uTail.view f p) j)
    have key : ∀ x : uTail.view.ty.Idx, x = uTail.view.emb j →
        uTail.view.set.piecewise (uTail.view.writes (Elt F) f [⟨Rect.whole _, p⟩]) g x = uTail.view.writes (Elt F) f [⟨Rect.whole _, p⟩] (uTail.view.emb j) := by
      rintro _ rfl
      exact Finset.piecewise_eq_of_mem _ _ _ (View.emb_mem_set _ _)
    exact congrArg (_root_.cast _) (key _ (uTail_emb j))
  · iapply (pointsTo_join_subset uTail_subset)
    isplitl [H]; · iexact H
    iexact HR

/-- An element of the tail's window is the slot's element at the same place. -/
theorem wTail_emb (j : S384x2048.Idx) : (wSlot 0).view.emb (R11.toLoadRect.idx j) = wTail.view.emb j := by
  have e1 := squeeze_emb (d := ![512, 2048]) (wbM.slice (Rect.unit (s := S2x512x2048) (slotOff 0) S1x512x2048.size (slotOff_row 0)) (fun _ => rfl)) squeezes_S1x512x2048_S512x2048 (R11.toLoadRect.idx j)
  have e2 := squeeze_emb (d := ![384, 2048]) (wbM.slice (Rect.unit (s := S2x512x2048) ![0, 0, 0] S1x384x2048.size inb_S2x512x2048_S1x384x2048_0_0_0) (fun _ => rfl)) squeezes_S1x384x2048_S384x2048 j
  refine e1.trans (Eq.trans ?_ e2.symm)
  refine funext fun a => Fin.ext ?_
  fin_cases a
  · rfl
  · show 0 + 1 * (0 + 1 * (j 0).val) = 0 + 1 * (j 0).val; omega
  · show 0 + 1 * (0 + 1 * (j 1).val) = 0 + 1 * (j 1).val; omega
theorem wTail_subset : wTail.view.set ⊆ (wSlot 0).view.set := by
  intro x hx
  obtain ⟨j, -, rfl⟩ := Finset.mem_map.mp hx
  exact wTail_emb j ▸ View.emb_mem_set _ _

/-- Slot 0 of the output-weight buffer outside the tail's window. -/
def wTail_rest : sProp 𝕄 := iprop(∃ f, (wSlot 0).view.loc (c : Thread nD τ) ↦[(wSlot 0).view.set \ wTail.view.set]{fullShare} f)
omit [FloatOps F] in
/-- Slot 0 of the output-weight buffer is the tail's window beside the rest. -/
theorem wTail_open : iprop(∃ f, ownP (F := F) c (wSlot 0) fullShare f) ⊢ iprop((∃ f, ownP c wTail fullShare f) ∗ wTail_rest c) := by
  iintro ⟨%f, H⟩
  ihave H := (pointsTo_split_subset wTail_subset).1 $$ H
  icases H with ⟨H1, H2⟩
  isplitl [H1]; · iexists f; iexact H1
  unfold wTail_rest
  iexists f; iexact H2
/-- The tail's window and the rest are slot 0 of the output-weight buffer, which reads the tail back. -/
theorem wTail_join (f : Buf (Elt F) (wTail.view.loc (c : Thread nD τ))) (p : Vec F S384x2048 .bf16) :
    iprop(ownP c wTail fullShare (wTail.view.writes (Elt F) f [⟨Rect.whole S384x2048, p⟩]) ∗ wTail_rest c)
      ⊢ iprop(∃ f, ⌜(wSlot 0).view.readAt (Elt F) R11.toLoadRect f = p⌝ ∗ ownP c (wSlot 0) fullShare f) := by
  unfold wTail_rest
  iintro ⟨H, ⟨%g, HR⟩⟩
  iexists (wTail.view.set.piecewise (wTail.view.writes (Elt F) f [⟨Rect.whole S384x2048, p⟩]) g)
  isplitr
  · ipureintro
    funext j
    refine Eq.trans ?_ (congrFun (View.read_writes_whole wTail.view f p) j)
    have key : ∀ x : wTail.view.ty.Idx, x = wTail.view.emb j →
        wTail.view.set.piecewise (wTail.view.writes (Elt F) f [⟨Rect.whole _, p⟩]) g x = wTail.view.writes (Elt F) f [⟨Rect.whole _, p⟩] (wTail.view.emb j) := by
      rintro _ rfl
      exact Finset.piecewise_eq_of_mem _ _ _ (View.emb_mem_set _ _)
    exact congrArg (_root_.cast _) (key _ (wTail_emb j))
  · iapply (pointsTo_join_subset wTail_subset)
    isplitl [H]; · iexact H
    iexact HR

end Tail

end Cert.FfnHand

end
-- ==== Proof.FfnTile.lean ====
/-
  A block sent through all weight tiles: the tile resident since the first point, the nine streamed tiles of 512
  columns, and the tail of 384 columns. The narrow tail lands in a window of slot 0.
-/
module

public import proofs.«01_k».proof.Proof.FfnBody
public import proofs.«01_k».proof.Proof.FfnTail

@[expose] public section

noncomputable section

namespace Cert.FfnHand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Tile

variable (c : Dev nD)
  (XI : Buf (Elt F) (inM.view.loc (c : Thread nD τ))) (XO : Buf (Elt F) (outM.view.loc (c : Thread nD τ)))
  (i : grid0.Coords)
  (arg1 : Memref sig .tc .vmem S512x2048 .f32) (harg1 : arg1.IsWhole)
  (arg4 : Memref sig .tc .vmem S1x2048 .f32) (harg4 : arg4.IsWhole)
  (arg5 : Memref sig .tc .vmem S1x2048 .f32) (harg5 : arg5.IsWhole)
  (arg6 : Memref sig .tc .vmem S512x2048 .f32) (harg6 : arg6.IsWhole)

/-! ## The loop -/

section Loop

variable (h2 : k0_cond2 i = 1#1) (v67 : FVec F S512x512 .bf16) (v68 : Vec F S512x2048 .bf16) (cst : FVec F S512x2048 .f32)
  (xb : Vec F S512x2048 .bf16)

/-- The accumulator before trip `k`. -/
def accAt (acc : Vec F S512x2048 .f32) : ℕ → Vec F S512x2048 .f32
  | 0 => acc
  | k + 1 => nextAcc c XI XO xb k (accAt acc k)

theorem trips_eq : k0_t1_loop.trips = 8 := by decide +kernel
theorem sl_0 : Ring.sl 2 0 = 0 := by decide
theorem sl_1 : Ring.sl 2 (0 + 1) = 1 := by decide
theorem bk_1 : Ring.bk 10 (0 + 1) = 1 := by decide

set_option warn.classDefReducibility false in
/-- The loop's invariant. -/
@[sl_loop] def loopInv (acc : Vec F S512x2048 .f32) :
    LoopInvTy_k0_t1 (F := F) Unit ℕ (Pipeline.UD sig nD τ) ℕ Variants.none c none Set.univ i arg1 harg1 inM (Memref.isWhole_whole _)
      outM (Memref.isWhole_whole _) arg4 harg4 arg5 harg5 arg6 harg6
      xbM (Memref.isWhole_whole _) accM (Memref.isWhole_whole _) yM (Memref.isWhole_whole _) g0M (Memref.isWhole_whole _)
      u0M (Memref.isWhole_whole _) w0M (Memref.isWhole_whole _) gbM (Memref.isWhole_whole _) ubM (Memref.isWhole_whole _)
      wbM (Memref.isWhole_whole _) cc0_scratch9 cc0_scratch10 h2 v67 v68 cst where
  inv k _ := resAt c XI XO xb k (accAt c XI XO xb acc k)
  step k _ := tripRun c XI XO i arg1 harg1 arg4 harg4 arg5 harg5 arg6 harg6 h2 v67 v68 cst xb k _

/-- What the loop leaves: tile 9 on its way into slot 1, slot 0 idle. -/
theorem exit_eq (acc : Vec F S512x2048 .f32) :
    resAt c XI XO xb k0_t1_loop.trips acc
      = iprop(holdP c accM acc ∗ holdP c xbM xb ∗ (∃ W, owes (c : Thread nD τ) 0 W) ∗ flyingP c XI XO 1 9 ∗ idleP c XI XO 0) := by
  unfold resAt
  rw [trips_eq, show Ring.sl 2 (8 + 1) = 1 from by decide, show Ring.bk 10 (8 + 1) = 9 from by decide, show Ring.sl 2 8 = 0 from by decide]
/-- What the loop leaves, opened. -/
theorem exit_open (acc : Vec F S512x2048 .f32) :
    resAt c XI XO xb k0_t1_loop.trips acc
      ⊢ iprop(holdP c accM acc ∗ holdP c xbM xb ∗ (∃ W, owes (c : Thread nD τ) 0 W) ∗ flyingP c XI XO 1 9 ∗ idleP c XI XO 0) :=
  (exit_eq c XI XO xb acc) ▸ .rfl
/-- What the loop starts from: tile 1 on its way into slot 1, slot 0 idle. -/
theorem entry_eq (acc : Vec F S512x2048 .f32) :
    resAt c XI XO xb 0 acc
      = iprop(holdP c accM acc ∗ holdP c xbM xb ∗ (∃ W, owes (c : Thread nD τ) 0 W) ∗ flyingP c XI XO 1 1 ∗ idleP c XI XO 0) := by
  unfold resAt
  rw [show Ring.sl 2 (0 + 1) = 1 from by decide, show Ring.bk 10 (0 + 1) = 1 from by decide, show Ring.sl 2 0 = 0 from by decide]

end Loop

/-! ## The run -/

variable (h2 : k0_cond2 i = 1#1)

/-- A buffer whose stores are the whole vector `v` alone holds `v`. -/
theorem hold_list {e : EltTy} (M : Memref sig .tc .vmem S512x2048 e) (f : Buf (Elt F) (M.view.loc (c : Thread nD τ)))
    {L : List (View.Piece (Elt F) S512x2048 e)} {v : S512x2048.Idx → Elt F e} (h : L = [⟨R00, v⟩]) :
    ownP c M fullShare (M.view.writes (Elt F) f L) ⊢ holdP c M v := by
  subst h
  iintro H
  iexists f
  iexact H

/-- A buffer whose last store is the whole vector `v` holds `v`. -/
theorem hold_cons {e : EltTy} (M : Memref sig .tc .vmem S512x2048 e) (f : Buf (Elt F) (M.view.loc (c : Thread nD τ)))
    (L : List (View.Piece (Elt F) S512x2048 e)) {w v : S512x2048.Idx → Elt F e} (h : w = v) :
    ownP c M fullShare (M.view.writes (Elt F) f (⟨R00, w⟩ :: L)) ⊢ holdP c M v := by
  subst h
  iintro H
  iexists (M.view.writes (Elt F) f L)
  iexact H

/-- The rows of the block. -/
abbrev xOf (fx : Buf (Elt F) (arg1.view.loc (c : Thread nD τ))) : Vec F S512x2048 .f32 := arg1.view.readAt (Elt F) R00.toLoadRect fx
/-- The rows of the block, rounded. -/
abbrev xbOf (fx : Buf (Elt F) (arg1.view.loc (c : Thread nD τ))) : Vec F S512x2048 .bf16 := k0_pay4 (xOf c arg1 fx)
/-- The whole of a 2048 × 512 buffer. -/
abbrev R01 : Rect S2048x512 := Rect.unit (s := S2048x512) ![0, 0] S2048x512.size inb_S2048x512_S2048x512_0_0
/-- The whole of a row of 2048. -/
abbrev R12 : Rect S1x2048 := Rect.unit (s := S1x2048) ![0, 0] S1x2048.size inb_S1x2048_S1x2048_0_0
/-- The accumulator before the loop: the resident tile's part. -/
abbrev acc0 (fx : Buf (Elt F) (arg1.view.loc (c : Thread nD τ))) (G : Buf (Elt F) (g0M.view.loc (c : Thread nD τ)))
    (U : Buf (Elt F) (u0M.view.loc (c : Thread nD τ))) (W0 : Buf (Elt F) (w0M.view.loc (c : Thread nD τ))) : Vec F S512x2048 .f32 :=
  k0_pay7 (k0_pay6 (xbOf c arg1 fx) (g0M.view.readAt (Elt F) R01.toLoadRect G) (u0M.view.readAt (Elt F) R01.toLoadRect U))
    (w0M.view.readAt (Elt F) R00.toLoadRect W0) (constant S512x2048 .f32 0x00000000#32)

/-- What a block's run works on besides the two results: the operands, the resident tiles, both slots idle. -/
def tileRes (fx : Buf (Elt F) (arg1.view.loc (c : Thread nD τ))) (fg : Buf (Elt F) (arg4.view.loc (c : Thread nD τ)))
    (fb : Buf (Elt F) (arg5.view.loc (c : Thread nD τ))) (G : Buf (Elt F) (g0M.view.loc (c : Thread nD τ)))
    (U : Buf (Elt F) (u0M.view.loc (c : Thread nD τ))) (W0 : Buf (Elt F) (w0M.view.loc (c : Thread nD τ))) : sProp 𝕄 :=
  iprop(ownP c arg1 fullShare fx ∗ ownP c arg4 fullShare fg ∗ ownP c arg5 fullShare fb
    ∗ ownP c g0M fullShare G ∗ ownP c u0M fullShare U ∗ ownP c w0M fullShare W0
    ∗ (∃ f, ownP c xbM fullShare f) ∗ (∃ f, ownP c accM fullShare f)
    ∗ idleP c XI XO 0 ∗ idleP c XI XO 1 ∗ (∃ W, owes (c : Thread nD τ) 0 W))

/-- The tail of the gate half. -/
abbrev gateLV : Vec F S2048x384 .bf16 := ReadAs.same.apply (gateL.view.read (Elt F) XI)
/-- The tail of the up half. -/
abbrev upLV : Vec F S2048x384 .bf16 := ReadAs.same.apply (upL.view.read (Elt F) XI)
/-- The tail of the output weight. -/
abbrev rowLV : Vec F S384x2048 .bf16 := ReadAs.same.apply (rowL.view.read (Elt F) XO)

/-- The block plus half its feed-forward image, from the accumulator before the loop. -/
def resid (x : Vec F S512x2048 .f32) (xb : Vec F S512x2048 .bf16) (a0 : Vec F S512x2048 .f32) : Vec F S512x2048 .f32 :=
  k0_pay1 (k0_pay9 (accAt c XI XO xb a0 8) xb (gateV c XI 9) (upV c XI 9) (rowV c XO 9)) (k0_pay10 xb (gateLV c XI) (upLV c XI)) (rowLV c XO) x

attribute [local irreducible] resAt in
attribute [local sl_canon] sl_0 sl_1 bk_1 in
set_option maxHeartbeats 800000 in
theorem tileRun (fx fg fb G U W0) (fo : Buf (Elt F) (arg6.view.loc (c : Thread nD τ))) (y : Vec F S512x2048 .f32) :
    iprop(tileRes c XI XO arg1 arg4 arg5 fx fg fb G U W0 ∗ ownP c arg6 fullShare fo ∗ holdP c yM y)
      ⊢ wp frame (wpE (defs₀ (F := F)) Variants.none (c : Thread nD τ) none) Set.univ
        (tileProg i arg1 harg1 arg4 harg4 arg5 harg5 arg6 harg6 h2)
        (fun _ => iprop(tileRes c XI XO arg1 arg4 arg5 fx fg fb G U W0
          ∗ ownP c arg6 fullShare (arg6.view.writes (Elt F) arg6.view.junk [⟨R00, k0_pay5 y (arg4.view.readAt (Elt F) R12.toLoadRect fg) (arg5.view.readAt (Elt F) R12.toLoadRect fb)⟩])
          ∗ holdP c yM (resid c XI XO (xOf c arg1 fx) (xbOf c arg1 fx) (acc0 c arg1 fx G U W0)))) := by
  unfold tileRes idleP
  iintro ⟨⟨Hx, Hg, Hb, HG, HU, HW0, ⟨%f1, HX⟩, ⟨%f2, HA⟩,
    ⟨⟨HC0, HC1, HC2⟩, ⟨⟨%e0, HS0⟩, ⟨%e1, HS1⟩, ⟨%e2, HS2⟩⟩, HAG0, HAU0, HAO0⟩,
    ⟨⟨HD0, HD1, HD2⟩, ⟨⟨%d0, HT0⟩, ⟨%d1, HT1⟩, ⟨%d2, HT2⟩⟩, HAG, HAU, HAO⟩, ⟨%W, HW⟩⟩, Ho, ⟨%fy, HY⟩⟩
  ihave HAG2 := (gate_open c XI 1 (qg 1)) $$ HAG
  icases HAG2 with ⟨HTG, HRG⟩
  ihave HAU2 := (up_open c XI 1 (qu 1)) $$ HAU
  icases HAU2 with ⟨HTU, HRU⟩
  ihave HAO2 := (row_open c XO 1 (qo 1)) $$ HAO
  icases HAO2 with ⟨HTO, HRO⟩
  unfold tileProg
  sl_exec
  ihave HR : resAt c XI XO (xbOf c arg1 fx) 0 (accAt c XI XO (xbOf c arg1 fx) (acc0 c arg1 fx G U W0) 0) $$ [HA HX HW HD0 HD1 HD2 HRG HRU HRO HC0 HC1 HC2 HS0 HS1 HS2 HAG0 HAU0 HAO0]
  · irw [entry_eq]
    unfold flyingP idleP
    isplitl [HA]
    · have e59 : tileRun.sl.v59 c arg1 fx = xbOf c arg1 fx := View.readCov_full _ _ _ _ _
      iapply (hold_list c accM _ (show tileRun.sl.HA_1 c arg1 fx G U W0 = [⟨R00, acc0 c arg1 fx G U W0⟩] by
        unfold tileRun.sl.HA_1 tileRun.sl.r tileRun.sl.r_1; rw [e59]; rfl))
      iexact HA
    isplitl [HX]
    · iapply (hold_list c xbM _ (show tileRun.sl.HX_1 c arg1 fx = [⟨R00, xbOf c arg1 fx⟩] from rfl))
      iexact HX
    isplitl [HW]; · iexists _; iexact HW
    isplitl [HD0 HD1 HD2 HRG HRU HRO]
    · isplitl [HD0 HD1 HD2]
      · isplitl [HD0]; · iexists d0; iexact HD0
        isplitl [HD1]; · iexists d1; iexact HD1
        iexists d2; iexact HD2
      · isplitl [HRG]; · iexact HRG
        isplitl [HRU]; · iexact HRU
        iexact HRO
    isplitl [HC0 HC1 HC2]
    · isplitl [HC0]; · iexact HC0
      isplitl [HC1]; · iexact HC1
      iexact HC2
    isplitl [HS0 HS1 HS2]
    · isplitl [HS0]; · iexists e0; iexact HS0
      isplitl [HS1]; · iexists e1; iexact HS1
      iexists e2; iexact HS2
    isplitl [HAG0]; · iexact HAG0
    isplitl [HAU0]; · iexact HAU0
    iexact HAO0
  sl_exec
  ihave HR := (exit_open c XI XO (xbOf c arg1 fx) _) $$ HR
  unfold idleP flyingP
  icases HR with ⟨⟨%ga, HA⟩, ⟨%gx, HX⟩, ⟨%W', HW⟩, ⟨⟨⟨%f0, HF0⟩, ⟨%f1', HF1⟩, ⟨%f2', HF2⟩⟩, HRG, HRU, HRO⟩, ⟨HC0, HC1, HC2⟩, ⟨HS0, HS1, HS2⟩, HAG0, HAU0, HAO0⟩
  ihave HS0 := (gTail_open c) $$ HS0
  icases HS0 with ⟨⟨%t0, HS0⟩, HQ0⟩
  ihave HS1 := (uTail_open c) $$ HS1
  icases HS1 with ⟨⟨%t1, HS1⟩, HQ1⟩
  ihave HS2 := (wTail_open c) $$ HS2
  icases HS2 with ⟨⟨%t2, HS2⟩, HQ2⟩
  ihave HAG0 := (gateL_open c XI (qg 0)) $$ HAG0
  icases HAG0 with ⟨HTG0, HRG0⟩
  ihave HAU0 := (upL_open c XI (qu 0)) $$ HAU0
  icases HAU0 with ⟨HTU0, HRU0⟩
  ihave HAO0 := (rowL_open c XO (qo 0)) $$ HAO0
  icases HAO0 with ⟨HTO0, HRO0⟩
  sl_exec
  ihave HS0 := (gTail_join c t0 (tileRun.sl.dma0_3 c XI)) $$ [HS0 HQ0]
  · isplitl [HS0]; · iexact HS0
    iexact HQ0
  icases HS0 with ⟨%s0, %r0, HS0⟩
  ihave HS1 := (uTail_join c t1 (tileRun.sl.dma0_4 c XI)) $$ [HS1 HQ1]
  · isplitl [HS1]; · iexact HS1
    iexact HQ1
  icases HS1 with ⟨%s1, %r1, HS1⟩
  ihave HS2 := (wTail_join c t2 (tileRun.sl.dma0_5 c XO)) $$ [HS2 HQ2]
  · isplitl [HS2]; · iexact HS2
    iexact HQ2
  icases HS2 with ⟨%s2, %r2, HS2⟩
  sl_exec
  sl_step
  isplitl [Hx Hg Hb HG HU HW0 HX HA HC0 HC1 HC2 HS0 HS1 HS2 HTG0 HTU0 HTO0 HRG0 HRU0 HRO0 HF0 HF1 HF2 HF0_dst HF1_dst HF2_dst HF0_src HF1_src HF2_src HRG HRU HRO HW]
  · isplitl [Hx]; · iexact Hx
    isplitl [Hg]; · iexact Hg
    isplitl [Hb]; · iexact Hb
    isplitl [HG]; · iexact HG
    isplitl [HU]; · iexact HU
    isplitl [HW0]; · iexact HW0
    isplitl [HX]; · iexists (xbM.view.writes (Elt F) gx [⟨R00, xbOf c arg1 fx⟩]); iexact HX
    isplitl [HA]; · iexists (accM.view.writes (Elt F) ga (tileRun.sl.HA_2 c XI XO arg1 fx G U W0)); iexact HA
    isplitl [HC0 HC1 HC2 HS0 HS1 HS2 HTG0 HTU0 HTO0 HRG0 HRU0 HRO0]
    · isplitl [HC0 HC1 HC2]
      · isplitl [HC0]; · iexact HC0
        isplitl [HC1]; · iexact HC1
        iexact HC2
      isplitl [HS0 HS1 HS2]
      · isplitl [HS0]; · iexists s0; iexact HS0
        isplitl [HS1]; · iexists s1; iexact HS1
        iexists s2; iexact HS2
      isplitl [HTG0 HRG0]
      · iapply (gateL_close c XI (qg 0))
        isplitl [HTG0]; · iexact HTG0
        iexact HRG0
      isplitl [HTU0 HRU0]
      · iapply (upL_close c XI (qu 0))
        isplitl [HTU0]; · iexact HTU0
        iexact HRU0
      iapply (rowL_close c XO (qo 0))
      isplitl [HTO0]; · iexact HTO0
      iexact HRO0
    isplitr [HW]
    · isplitl [HF0 HF1 HF2]
      · isplitl [HF0]; · iexact HF0
        isplitl [HF1]; · iexact HF1
        iexact HF2
      isplitl [HF0_dst HF1_dst HF2_dst]
      · isplitl [HF0_dst]; · iexists (landed c (gSlot 1) (gateT 9) XI f0); iexact HF0_dst
        isplitl [HF1_dst]; · iexists (landed c (uSlot 1) (upT 9) XI f1'); iexact HF1_dst
        iexists (landed c (wSlot 1) (rowT 9) XO f2'); iexact HF2_dst
      isplitl [HF0_src HRG]
      · iapply (gate_close c XI 9 (qg 1))
        isplitl [HF0_src]; · iexact HF0_src
        iexact HRG
      isplitl [HF1_src HRU]
      · iapply (up_close c XI 9 (qu 1))
        isplitl [HF1_src]; · iexact HF1_src
        iexact HRU
      iapply (row_close c XO 9 (qo 1))
      isplitl [HF2_src]; · iexact HF2_src
      iexact HRO
    iexists _; iexact HW
  isplitl [Ho]
  · have e33 : tileRun.sl.v33 y = y := View.readCov_full _ _ _ _ _
    have e : tileRun.sl.Ho_1 c arg4 arg5 fg fb y = [⟨R00, k0_pay5 y (arg4.view.readAt (Elt F) R12.toLoadRect fg) (arg5.view.readAt (Elt F) R12.toLoadRect fb)⟩] := by
      unfold tileRun.sl.Ho_1
      rw [e33]
    rw [← e]
    iexact Ho
  have e59 : tileRun.sl.v59 c arg1 fx = xbOf c arg1 fx := View.readCov_full _ _ _ _ _
  have e151 : tileRun.sl.v151 c arg1 fx = xbOf c arg1 fx := View.readCov_full _ _ _ _ _
  have e : k0_pay1 (tileRun.sl.v150 c XI XO arg1 fx G U W0) (tileRun.sl.r_2 c XI arg1 fx) (tileRun.sl.dma0_5 c XO) (xOf c arg1 fx) = resid c XI XO (xOf c arg1 fx) (xbOf c arg1 fx) (acc0 c arg1 fx G U W0) := by
    unfold tileRun.sl.r_2 resid
    have d3 : tileRun.sl.dma0_3 c XI = gateLV c XI := Eq.trans rfl rfl
    have d4 : tileRun.sl.dma0_4 c XI = upLV c XI := Eq.trans rfl rfl
    have d5 : tileRun.sl.dma0_5 c XO = rowLV c XO := Eq.trans rfl rfl
    rw [e151, d3, d4, d5]
    have e110 : tileRun.sl.v110 c XI XO arg1 fx G U W0 = accAt c XI XO (xbOf c arg1 fx) (acc0 c arg1 fx G U W0) k0_t1_loop.trips := View.readCov_full _ _ _ _ _
    have e111 : tileRun.sl.v111 c arg1 fx = xbOf c arg1 fx := View.readCov_full _ _ _ _ _
    have e114 : tileRun.sl.v114 c XI = gateV c XI 9 := read_landed _ _ _ _
    have e118 : tileRun.sl.v118 c XI = upV c XI 9 := read_landed _ _ _ _
    have e126 : tileRun.sl.v126 c XO = rowV c XO 9 := read_landed _ _ _ _
    have e150 : tileRun.sl.v150 c XI XO arg1 fx G U W0
        = k0_pay9 (tileRun.sl.v110 c XI XO arg1 fx G U W0) (tileRun.sl.v111 c arg1 fx) (tileRun.sl.v114 c XI) (tileRun.sl.v118 c XI) (tileRun.sl.v126 c XO) := View.readCov_full _ _ _ _ _
    rw [e150, e110, e111, e114, e118, e126, trips_eq]
  iapply (hold_cons c yM yM.view.junk [⟨R00, y⟩] e)
  iexact HY

end Tile

end Cert.FfnHand

end
-- ==== Proof.FfnEnds.lean ====
/-
  The first point's own part (the resident tiles fetched, the rows' buffer zeroed) and the last point (the rows left
  over normalised).
-/
module

public import proofs.«01_k».proof.Proof.FfnTile

@[expose] public section

noncomputable section

namespace Cert.FfnHand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Ends

variable (c : Dev nD)
  (XI : Buf (Elt F) (inM.view.loc (c : Thread nD τ))) (XO : Buf (Elt F) (outM.view.loc (c : Thread nD τ)))
  (i : grid0.Coords)
  (arg1 : Memref sig .tc .vmem S512x2048 .f32) (harg1 : arg1.IsWhole)
  (arg4 : Memref sig .tc .vmem S1x2048 .f32) (harg4 : arg4.IsWhole)
  (arg5 : Memref sig .tc .vmem S1x2048 .f32) (harg5 : arg5.IsWhole)
  (arg6 : Memref sig .tc .vmem S512x2048 .f32) (harg6 : arg6.IsWhole)

/-! ## The resident buffers as copy destinations -/

omit [FloatOps F] in
/-- The copy's destination is the whole buffer. -/
theorem g0S_set : g0S.view.set = g0M.view.set := by
  have h : g0M.view.set = Finset.univ := View.set_whole cc0_scratch3
  refine Eq.trans ?_ h.symm
  have e : ∀ x : S2048x512.Idx, g0S.view.emb x = x := fun x => funext fun a => Fin.ext (by
    fin_cases a
    · show 0 + 1 * (x 0).val = (x 0).val; omega
    · show 0 + 1 * (x 1).val = (x 1).val; omega)
  refine Finset.eq_univ_iff_forall.mpr fun x => ?_
  have hx := View.emb_mem_set g0S.view x
  rw [e x] at hx
  exact hx
omit [FloatOps F] in
/-- The buffer as a copy's destination, and back. -/
theorem g0S_own (f : Buf (Elt F) (g0M.view.loc (c : Thread nD τ))) : ownP c g0M fullShare f = ownP c g0S fullShare f :=
  congrArg (fun S => (g0M.view.loc (c : Thread nD τ) ↦[S]{fullShare} f : sProp 𝕄)) g0S_set.symm
omit [FloatOps F] in
/-- The copy's destination is the whole buffer. -/
theorem u0S_set : u0S.view.set = u0M.view.set := by
  have h : u0M.view.set = Finset.univ := View.set_whole cc0_scratch4
  refine Eq.trans ?_ h.symm
  have e : ∀ x : S2048x512.Idx, u0S.view.emb x = x := fun x => funext fun a => Fin.ext (by
    fin_cases a
    · show 0 + 1 * (x 0).val = (x 0).val; omega
    · show 0 + 1 * (x 1).val = (x 1).val; omega)
  refine Finset.eq_univ_iff_forall.mpr fun x => ?_
  have hx := View.emb_mem_set u0S.view x
  rw [e x] at hx
  exact hx
omit [FloatOps F] in
/-- The buffer as a copy's destination, and back. -/
theorem u0S_own (f : Buf (Elt F) (u0M.view.loc (c : Thread nD τ))) : ownP c u0M fullShare f = ownP c u0S fullShare f :=
  congrArg (fun S => (u0M.view.loc (c : Thread nD τ) ↦[S]{fullShare} f : sProp 𝕄)) u0S_set.symm
omit [FloatOps F] in
/-- The copy's destination is the whole buffer. -/
theorem w0S_set : w0S.view.set = w0M.view.set := by
  have h : w0M.view.set = Finset.univ := View.set_whole cc0_scratch5
  refine Eq.trans ?_ h.symm
  have e : ∀ x : S512x2048.Idx, w0S.view.emb x = x := fun x => funext fun a => Fin.ext (by
    fin_cases a
    · show 0 + 1 * (x 0).val = (x 0).val; omega
    · show 0 + 1 * (x 1).val = (x 1).val; omega)
  refine Finset.eq_univ_iff_forall.mpr fun x => ?_
  have hx := View.emb_mem_set w0S.view x
  rw [e x] at hx
  exact hx
omit [FloatOps F] in
/-- The buffer as a copy's destination, and back. -/
theorem w0S_own (f : Buf (Elt F) (w0M.view.loc (c : Thread nD τ))) : ownP c w0M fullShare f = ownP c w0S fullShare f :=
  congrArg (fun S => (w0M.view.loc (c : Thread nD τ) ↦[S]{fullShare} f : sProp 𝕄)) w0S_set.symm
/-- The gate buffer after its copy reads the copied tile. -/
theorem g0S_land (f : Buf (Elt F) (g0S.view.loc (c : Thread nD τ))) (p : Vec F S2048x512 .bf16) :
    g0M.view.readAt (Elt F) R01.toLoadRect (g0S.view.writes (Elt F) f [⟨Rect.whole S2048x512, p⟩]) = p :=
  (View.read_writes_whole g0S.view f p)
/-- The up buffer after its copy reads the copied tile. -/
theorem u0S_land (f : Buf (Elt F) (u0S.view.loc (c : Thread nD τ))) (p : Vec F S2048x512 .bf16) :
    u0M.view.readAt (Elt F) R01.toLoadRect (u0S.view.writes (Elt F) f [⟨Rect.whole S2048x512, p⟩]) = p :=
  (View.read_writes_whole u0S.view f p)
/-- The output buffer after its copy reads the copied tile. -/
theorem w0S_land (f : Buf (Elt F) (w0S.view.loc (c : Thread nD τ))) (p : Vec F S512x2048 .bf16) :
    w0M.view.readAt (Elt F) R00.toLoadRect (w0S.view.writes (Elt F) f [⟨Rect.whole S512x2048, p⟩]) = p :=
  (View.read_writes_whole w0S.view f p)

/-- A resident cell at zero. -/
abbrev cellAP (j : Fin 3) : sProp 𝕄 := semVal ((c : Thread nD τ), SemLoc.dma (cellA j).sem) 0

/-- The resident buffers at some contents. -/
def anyRes : sProp 𝕄 := iprop((∃ f, ownP c g0M fullShare f) ∗ (∃ f, ownP c u0M fullShare f) ∗ (∃ f, ownP c w0M fullShare f))
/-- The resident buffers holding tile 0 of the weights. -/
def tileRes0 : sProp 𝕄 :=
  iprop((∃ f, ⌜g0M.view.readAt (Elt F) R01.toLoadRect f = gateV c XI 0⌝ ∗ ownP c g0M fullShare f)
    ∗ (∃ f, ⌜u0M.view.readAt (Elt F) R01.toLoadRect f = upV c XI 0⌝ ∗ ownP c u0M fullShare f)
    ∗ (∃ f, ⌜w0M.view.readAt (Elt F) R00.toLoadRect f = rowV c XO 0⌝ ∗ ownP c w0M fullShare f))
/-- What the first point's own part works on besides its results. -/
def firstRes : sProp 𝕄 :=
  iprop((allP c inM (qg 0) XI ∗ allP c inM (qu 0) XI ∗ allP c outM (qo 0) XO) ∗ (cellAP c 0 ∗ cellAP c 1 ∗ cellAP c 2)
    ∗ (∃ W, owes (c : Thread nD τ) 0 W))

set_option maxHeartbeats 400000 in
/-- The last point normalises the rows left over. -/
theorem lastRun (fg fb) (fo : Buf (Elt F) (arg6.view.loc (c : Thread nD τ))) (y : Vec F S512x2048 .f32) :
    iprop(ownP c arg4 fullShare fg ∗ ownP c arg5 fullShare fb ∗ ownP c arg6 fullShare fo ∗ holdP c yM y)
      ⊢ wp frame (wpE (defs₀ (F := F)) Variants.none (c : Thread nD τ) none) Set.univ (lastProg arg4 arg5 arg6)
        (fun _ => iprop(ownP c arg4 fullShare fg ∗ ownP c arg5 fullShare fb
          ∗ holdP c arg6 (k0_pay2 y (arg4.view.readAt (Elt F) R12.toLoadRect fg) (arg5.view.readAt (Elt F) R12.toLoadRect fb))
          ∗ holdP c yM y)) := by
  iintro ⟨Hg, Hb, Ho, ⟨%fy, HY⟩⟩
  unfold lastProg
  sl_exec
  sl_step
  have e9 : lastRun.sl.v9 y = y := View.readCov_full _ _ _ _ _
  isplitl [Hg]; · iexact Hg
  isplitl [Hb]; · iexact Hb
  isplitl [Ho]
  · iapply (hold_cons c arg6 fo [] (show k0_pay2 (lastRun.sl.v9 y) (arg4.view.readAt (Elt F) R12.toLoadRect fg) (arg5.view.readAt (Elt F) R12.toLoadRect fb) = _ by rw [e9]))
    iexact Ho
  iexists fy
  iexact HY

attribute [local irreducible] restP in
set_option maxHeartbeats 400000 in
/-- The first point fetches tile 0 of the weights and zeroes the rows' buffer. -/
theorem firstRun :
    iprop(anyRes c ∗ (∃ f, ownP c yM fullShare f) ∗ firstRes c XI XO)
      ⊢ wp frame (wpE (defs₀ (F := F)) Variants.none (c : Thread nD τ) none) Set.univ
        (firstProg i arg1 harg1 arg4 harg4 arg5 harg5 arg6 harg6)
        (fun _ => iprop(tileRes0 c XI XO ∗ holdP c yM (k0_pay3 (F := F)) ∗ firstRes c XI XO)) := by
  unfold anyRes firstRes
  iintro ⟨⟨⟨%g, HG⟩, ⟨%u, HU⟩, ⟨%w, HW0⟩⟩, ⟨%fy, HY⟩, ⟨HAG, HAU, HAO⟩, ⟨HC0, HC1, HC2⟩, ⟨%W, HW⟩⟩
  ihave HAG2 := (gate_open c XI 0 (qg 0)) $$ HAG
  icases HAG2 with ⟨HTG, HRG⟩
  ihave HAU2 := (up_open c XI 0 (qu 0)) $$ HAU
  icases HAU2 with ⟨HTU, HRU⟩
  ihave HAO2 := (row_open c XO 0 (qo 0)) $$ HAO
  icases HAO2 with ⟨HTO, HRO⟩
  ihave HG := (show ownP c g0M fullShare g ⊢ ownP c g0S fullShare g from (g0S_own c g) ▸ .rfl) $$ HG
  ihave HU := (show ownP c u0M fullShare u ⊢ ownP c u0S fullShare u from (u0S_own c u) ▸ .rfl) $$ HU
  ihave HW0 := (show ownP c w0M fullShare w ⊢ ownP c w0S fullShare w from (w0S_own c w) ▸ .rfl) $$ HW0
  unfold firstProg
  sl_exec
  sl_step
  unfold tileRes0
  isplitl [HG HU HW0]
  · isplitl [HG]
    · iexists (g0S.view.writes (Elt F) g [⟨Rect.whole S2048x512, firstRun.sl.dma0 c XI⟩])
      isplitr
      · ipureintro; exact g0S_land c g _
      iapply (show ownP c g0S fullShare (g0S.view.writes (Elt F) g [⟨Rect.whole S2048x512, firstRun.sl.dma0 c XI⟩]) ⊢ ownP c g0M fullShare _ from (g0S_own c _) ▸ .rfl)
      iexact HG
    isplitl [HU]
    · iexists (u0S.view.writes (Elt F) u [⟨Rect.whole S2048x512, firstRun.sl.dma0_1 c XI⟩])
      isplitr
      · ipureintro; exact u0S_land c u _
      iapply (show ownP c u0S fullShare (u0S.view.writes (Elt F) u [⟨Rect.whole S2048x512, firstRun.sl.dma0_1 c XI⟩]) ⊢ ownP c u0M fullShare _ from (u0S_own c _) ▸ .rfl)
      iexact HU
    iexists (w0S.view.writes (Elt F) w [⟨Rect.whole S512x2048, firstRun.sl.dma0_2 c XO⟩])
    isplitr
    · ipureintro; exact w0S_land c w _
    iapply (show ownP c w0S fullShare (w0S.view.writes (Elt F) w [⟨Rect.whole S512x2048, firstRun.sl.dma0_2 c XO⟩]) ⊢ ownP c w0M fullShare _ from (w0S_own c _) ▸ .rfl)
    iexact HW0
  isplitl [HY]; · iexists fy; iexact HY
  isplitl [HTG HRG HTU HRU HTO HRO]
  · isplitl [HTG HRG]
    · iapply (gate_close c XI 0 (qg 0))
      isplitl [HTG]; · iexact HTG
      iexact HRG
    isplitl [HTU HRU]
    · iapply (up_close c XI 0 (qu 0))
      isplitl [HTU]; · iexact HTU
      iexact HRU
    iapply (row_close c XO 0 (qo 0))
    isplitl [HTO]; · iexact HTO
    iexact HRO
  isplitl [HC0 HC1 HC2]
  · isplitl [HC0]; · iexact HC0
    isplitl [HC1]; · iexact HC1
    iexact HC2
  iexists _; iexact HW

end Ends

end Cert.FfnHand

end
-- ==== Proof.FfnPoint.lean ====
/-
  One point of the feed-forward kernel between its staging buffers read as vectors: what each kind of point makes of
  the rows carried in, the block, the scale and the shift.
-/
module

public import proofs.«01_k».proof.Proof.FfnEnds

@[expose] public section

noncomputable section

namespace Cert.FfnHand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Points

variable (c : Dev nD)
  (XI : Buf (Elt F) (inM.view.loc (c : Thread nD τ))) (XO : Buf (Elt F) (outM.view.loc (c : Thread nD τ)))
  (i : grid0.Coords)
  (arg1 : Memref sig .tc .vmem S512x2048 .f32) (harg1 : arg1.IsWhole)
  (arg4 : Memref sig .tc .vmem S1x2048 .f32) (harg4 : arg4.IsWhole)
  (arg5 : Memref sig .tc .vmem S1x2048 .f32) (harg5 : arg5.IsWhole)
  (arg6 : Memref sig .tc .vmem S512x2048 .f32) (harg6 : arg6.IsWhole)

/-! ## Whole reads -/

omit [FloatOps F] in
theorem R00_idx (j : S512x2048.Idx) : R00.toLoadRect.idx j = j := funext fun a => Fin.ext (by
  fin_cases a
  · show 0 + 1 * (j 0).val = (j 0).val; omega
  · show 0 + 1 * (j 1).val = (j 1).val; omega)
omit [FloatOps F] in
theorem R12_idx (j : S1x2048.Idx) : R12.toLoadRect.idx j = j := funext fun a => Fin.ext (by
  fin_cases a
  · show 0 + 1 * (j 0).val = (j 0).val; omega
  · show 0 + 1 * (j 1).val = (j 1).val; omega)
omit [FloatOps F] in
/-- Reading a block whole is reading the memref. -/
theorem readAt_R00 {e : EltTy} (M : Memref sig .tc .vmem S512x2048 e) (f : Buf (Elt F) (M.view.loc (c : Thread nD τ))) :
    M.view.readAt (Elt F) R00.toLoadRect f = M.view.read (Elt F) f :=
  funext fun j => congrArg (M.view.read (Elt F) f) (R00_idx j)
omit [FloatOps F] in
/-- Reading a row whole is reading the memref. -/
theorem readAt_R12 {e : EltTy} (M : Memref sig .tc .vmem S1x2048 e) (f : Buf (Elt F) (M.view.loc (c : Thread nD τ))) :
    M.view.readAt (Elt F) R12.toLoadRect f = M.view.read (Elt F) f :=
  funext fun j => congrArg (M.view.read (Elt F) f) (R12_idx j)
omit [FloatOps F] in
/-- A memref written whole holds what was written. -/
theorem read_hold {e : EltTy} (M : Memref sig .tc .vmem S512x2048 e) (f : Buf (Elt F) (M.view.loc (c : Thread nD τ)))
    (v : S512x2048.Idx → Elt F e) : M.view.read (Elt F) (M.view.writes (Elt F) f [⟨R00, v⟩]) = v := by
  rw [← readAt_R00 c M]
  funext j
  refine View.read_writes_cons_unit_of_mem M.view f inb_S512x2048_S512x2048_0_0 v [] _ j rfl fun a => ?_
  rw [R00_idx j]
  fin_cases a
  · show (j 0).val = 0 + (j 0).val; omega
  · show (j 1).val = 0 + (j 1).val; omega

/-! ## The point's resources -/

/-- The accumulator a block starts with: the resident tile's part. -/
def accStart (xb : Vec F S512x2048 .bf16) : Vec F S512x2048 .f32 :=
  k0_pay7 (k0_pay6 xb (gateV c XI 0) (upV c XI 0)) (rowV c XO 0) (constant S512x2048 .f32 0x00000000#32)
/-- The block plus half its feed-forward image. -/
def rowsOf (x : Vec F S512x2048 .f32) : Vec F S512x2048 .f32 :=
  resid c XI XO x (k0_pay4 x) (accStart c XI XO (k0_pay4 x))

/-- The working buffers and both slots. -/
def coreP : sProp 𝕄 :=
  iprop((∃ f, ownP c xbM fullShare f) ∗ (∃ f, ownP c accM fullShare f) ∗ idleP c XI XO 0 ∗ idleP c XI XO 1)
/-- The waits recorded. -/
def owesE : sProp 𝕄 := iprop(∃ W, owes (c : Thread nD τ) 0 W)
/-- The staging buffers of the three inputs. -/
def insP (x : Vec F S512x2048 .f32) (g b : Vec F S1x2048 .f32) : sProp 𝕄 :=
  iprop(owns (c : Thread nD τ) arg1 fullShare x ∗ owns (c : Thread nD τ) arg4 fullShare g ∗ owns (c : Thread nD τ) arg5 fullShare b)

variable (x : Vec F S512x2048 .f32) (g b : Vec F S1x2048 .f32) (y : Vec F S512x2048 .f32)

/-- The carried rows, from the staging buffers' contents. -/
theorem rows_eq (fx : Buf (Elt F) (arg1.view.loc (c : Thread nD τ))) (G : Buf (Elt F) (g0M.view.loc (c : Thread nD τ)))
    (U : Buf (Elt F) (u0M.view.loc (c : Thread nD τ))) (W0 : Buf (Elt F) (w0M.view.loc (c : Thread nD τ)))
    (hG : g0M.view.readAt (Elt F) R01.toLoadRect G = gateV c XI 0) (hU : u0M.view.readAt (Elt F) R01.toLoadRect U = upV c XI 0)
    (hW : w0M.view.readAt (Elt F) R00.toLoadRect W0 = rowV c XO 0) :
    resid c XI XO (xOf c arg1 fx) (xbOf c arg1 fx) (acc0 c arg1 fx G U W0) = rowsOf c XI XO (arg1.view.read (Elt F) fx) := by
  unfold rowsOf accStart xbOf acc0 xbOf xOf
  rw [readAt_R00 c arg1 fx, hG, hU, hW]

set_option maxHeartbeats 400000 in
/-- A point that is not the last: the rows carried in are normalised, the block's are carried out. -/
theorem pointTile (h2 : k0_cond2 i = 1#1) :
    iprop(tileRes0 c XI XO ∗ holdP c yM y ∗ coreP c XI XO ∗ owesE (F := F) c ∗ insP c arg1 arg4 arg5 x g b ∗ (∃ d, owns (c : Thread nD τ) arg6 fullShare d))
      ⊢ wp frame (wpE (defs₀ (F := F)) Variants.none (c : Thread nD τ) none) Set.univ
        (tileProg i arg1 harg1 arg4 harg4 arg5 harg5 arg6 harg6 h2)
        (fun _ => iprop(tileRes0 c XI XO ∗ holdP c yM (rowsOf c XI XO x) ∗ coreP c XI XO ∗ owesE (F := F) c ∗ insP c arg1 arg4 arg5 x g b
          ∗ owns (c : Thread nD τ) arg6 fullShare (k0_pay5 y g b))) := by
  unfold tileRes0 coreP owesE insP owns
  iintro ⟨⟨⟨%G, %hG, HG⟩, ⟨%U, %hU, HU⟩, ⟨%W0, %hW, HW0⟩⟩, HY, ⟨HX, HA, HS0, HS1⟩, HW, ⟨⟨%fx, %hx, H1⟩, ⟨%fg, %hg, H4⟩, ⟨%fb, %hb, H5⟩⟩, ⟨%d, %fo, -, H6⟩⟩
  subst hx hg hb
  iapply (wp_mono frame (wpE (defs₀ (F := F)) Variants.none (c : Thread nD τ) none) Set.univ (Q := fun _ => iprop(tileRes c XI XO arg1 arg4 arg5 fx fg fb G U W0
          ∗ ownP c arg6 fullShare (arg6.view.writes (Elt F) arg6.view.junk [⟨R00, k0_pay5 y (arg4.view.readAt (Elt F) R12.toLoadRect fg) (arg5.view.readAt (Elt F) R12.toLoadRect fb)⟩])
          ∗ holdP c yM (resid c XI XO (xOf c arg1 fx) (xbOf c arg1 fx) (acc0 c arg1 fx G U W0)))) (fun _ => by
    rw [readAt_R12, readAt_R12, rows_eq c XI XO arg1 fx G U W0 hG hU hW]
    unfold tileRes
    iintro ⟨⟨H1, H4, H5, HG, HU, HW0, HX, HA, HS0, HS1, HW⟩, H6, HY⟩
    isplitl [HG HU HW0]
    · isplitl [HG]
      · iexists G; isplitr
        · ipureintro; exact hG
        iexact HG
      isplitl [HU]
      · iexists U; isplitr
        · ipureintro; exact hU
        iexact HU
      iexists W0; isplitr
      · ipureintro; exact hW
      iexact HW0
    isplitl [HY]; · iexact HY
    isplitl [HX HA HS0 HS1]
    · isplitl [HX]; · iexact HX
      isplitl [HA]; · iexact HA
      isplitl [HS0]; · iexact HS0
      iexact HS1
    isplitl [HW]; · iexact HW
    isplitl [H1 H4 H5]
    · isplitl [H1]
      · iexists fx; isplitr
        · ipureintro; rfl
        iexact H1
      isplitl [H4]
      · iexists fg; isplitr
        · ipureintro; rfl
        iexact H4
      iexists fb; isplitr
      · ipureintro; rfl
      iexact H5
    iexists (arg6.view.writes (Elt F) arg6.view.junk [⟨R00, k0_pay5 y (arg4.view.read (Elt F) fg) (arg5.view.read (Elt F) fb)⟩])
    isplitr
    · ipureintro; exact read_hold c arg6 _ _
    iexact H6))
  iapply (tileRun c XI XO i arg1 harg1 arg4 harg4 arg5 harg5 arg6 harg6 h2 fx fg fb G U W0 fo y)
  unfold tileRes
  isplitr [H6 HY]
  · isplitl [H1]; · iexact H1
    isplitl [H4]; · iexact H4
    isplitl [H5]; · iexact H5
    isplitl [HG]; · iexact HG
    isplitl [HU]; · iexact HU
    isplitl [HW0]; · iexact HW0
    isplitl [HX]; · iexact HX
    isplitl [HA]; · iexact HA
    isplitl [HS0]; · iexact HS0
    isplitl [HS1]; · iexact HS1
    iexact HW
  isplitl [H6]; · iexact H6
  iexact HY

set_option maxHeartbeats 400000 in
/-- The first point: the resident tiles are fetched, the rows' buffer is zeroed, then the block is sent through. -/
theorem pointFirst (h2 : k0_cond2 i = 1#1) :
    iprop(anyRes c ∗ (∃ f, ownP c yM fullShare f) ∗ (cellAP c 0 ∗ cellAP c 1 ∗ cellAP c 2) ∗ coreP c XI XO ∗ owesE (F := F) c
        ∗ insP c arg1 arg4 arg5 x g b ∗ (∃ d, owns (c : Thread nD τ) arg6 fullShare d))
      ⊢ wp frame (wpE (defs₀ (F := F)) Variants.none (c : Thread nD τ) none) Set.univ
        (firstProg i arg1 harg1 arg4 harg4 arg5 harg5 arg6 harg6 >>= fun _ => tileProg i arg1 harg1 arg4 harg4 arg5 harg5 arg6 harg6 h2)
        (fun _ => iprop((cellAP c 0 ∗ cellAP c 1 ∗ cellAP c 2) ∗ (tileRes0 c XI XO ∗ holdP c yM (rowsOf c XI XO x) ∗ coreP c XI XO ∗ owesE (F := F) c ∗ insP c arg1 arg4 arg5 x g b
          ∗ owns (c : Thread nD τ) arg6 fullShare (k0_pay5 (k0_pay3 (F := F)) g b)))) := by
  rw [wp_bind]
  refine BIBase.Entails.trans ?_ (wp_mono frame (wpE (defs₀ (F := F)) Variants.none (c : Thread nD τ) none) Set.univ
    (fun _ => BIBase.Entails.trans (sep_mono_r (pointTile c XI XO i arg1 harg1 arg4 harg4 arg5 harg5 arg6 harg6 x g b (k0_pay3 (F := F)) h2))
      (wp_frame_l frame (wpE (defs₀ (F := F)) Variants.none (c : Thread nD τ) none) Set.univ)))
  refine BIBase.Entails.trans ?_ (wp_mono frame (wpE (defs₀ (F := F)) Variants.none (c : Thread nD τ) none) Set.univ
    (Q := fun _ => iprop((tileRes0 c XI XO ∗ holdP c yM (k0_pay3 (F := F)) ∗ firstRes c XI XO)
      ∗ (((∃ f, ownP c xbM fullShare f) ∗ (∃ f, ownP c accM fullShare f)
        ∗ ((cellP c 0 0 ∗ cellP c 0 1 ∗ cellP c 0 2) ∗ ((∃ f, ownP c (gSlot 0) fullShare f) ∗ (∃ f, ownP c (uSlot 0) fullShare f) ∗ (∃ f, ownP c (wSlot 0) fullShare f)))
        ∗ idleP c XI XO 1) ∗ insP c arg1 arg4 arg5 x g b ∗ (∃ d, owns (c : Thread nD τ) arg6 fullShare d)))) (fun _ => by
      show _ ⊢ iprop((cellAP c 0 ∗ cellAP c 1 ∗ cellAP c 2) ∗ (tileRes0 c XI XO ∗ holdP c yM (k0_pay3 (F := F)) ∗ coreP c XI XO ∗ owesE (F := F) c ∗ insP c arg1 arg4 arg5 x g b ∗ (∃ d, owns (c : Thread nD τ) arg6 fullShare d)))
      unfold firstRes coreP owesE
      iintro ⟨⟨HR, HY, ⟨HAG, HAU, HAO⟩, HC, HW⟩, ⟨HX, HA, ⟨HC0, HS0⟩, HI1⟩, HI, H6⟩
      isplitl [HC]; · iexact HC
      isplitl [HR]; · iexact HR
      isplitl [HY]; · iexact HY
      isplitl [HX HA HC0 HS0 HI1 HAG HAU HAO]
      · isplitl [HX]; · iexact HX
        isplitl [HA]; · iexact HA
        isplitr [HI1]
        · unfold idleP
          isplitl [HC0]; · iexact HC0
          isplitl [HS0]; · iexact HS0
          isplitl [HAG]; · iexact HAG
          isplitl [HAU]; · iexact HAU
          iexact HAO
        iexact HI1
      isplitl [HW]; · iexact HW
      isplitl [HI]; · iexact HI
      iexact H6))
  refine BIBase.Entails.trans ?_ (wp_frame_r frame (wpE (defs₀ (F := F)) Variants.none (c : Thread nD τ) none) Set.univ)
  refine BIBase.Entails.trans ?_ (sep_mono_l (firstRun c XI XO i arg1 harg1 arg4 harg4 arg5 harg5 arg6 harg6))
  show _ ⊢ iprop((anyRes c ∗ (∃ f, ownP c yM fullShare f) ∗ firstRes c XI XO)
      ∗ (((∃ f, ownP c xbM fullShare f) ∗ (∃ f, ownP c accM fullShare f)
        ∗ ((cellP c 0 0 ∗ cellP c 0 1 ∗ cellP c 0 2) ∗ ((∃ f, ownP c (gSlot 0) fullShare f) ∗ (∃ f, ownP c (uSlot 0) fullShare f) ∗ (∃ f, ownP c (wSlot 0) fullShare f)))
        ∗ idleP c XI XO 1) ∗ insP c arg1 arg4 arg5 x g b ∗ (∃ d, owns (c : Thread nD τ) arg6 fullShare d)))
  unfold firstRes coreP owesE
  iintro ⟨HR, HY, HC, ⟨HX, HA, HI0, HI1⟩, HW, HI, H6⟩
  ihave HI0 := (show idleP c XI XO 0 ⊢ iprop((cellP c 0 0 ∗ cellP c 0 1 ∗ cellP c 0 2)
    ∗ ((∃ f, ownP c (gSlot 0) fullShare f) ∗ (∃ f, ownP c (uSlot 0) fullShare f) ∗ (∃ f, ownP c (wSlot 0) fullShare f))
    ∗ (allP c inM (qg 0) XI ∗ allP c inM (qu 0) XI ∗ allP c outM (qo 0) XO)) from .rfl) $$ HI0
  icases HI0 with ⟨HC0, HS0, HAll⟩
  isplitl [HR HY HC HW HAll]
  · isplitl [HR]; · iexact HR
    isplitl [HY]; · iexact HY
    isplitl [HAll]; · iexact HAll
    isplitl [HC]; · iexact HC
    iexact HW
  isplitl [HX HA HC0 HS0 HI1]
  · isplitl [HX]; · iexact HX
    isplitl [HA]; · iexact HA
    isplitl [HC0 HS0]
    · isplitl [HC0]; · iexact HC0
      iexact HS0
    iexact HI1
  isplitl [HI]; · iexact HI
  iexact H6

set_option maxHeartbeats 400000 in
/-- The last point: the rows left over are normalised. -/
theorem pointLast :
    iprop(holdP c yM y ∗ insP c arg1 arg4 arg5 x g b ∗ (∃ d, owns (c : Thread nD τ) arg6 fullShare d))
      ⊢ wp frame (wpE (defs₀ (F := F)) Variants.none (c : Thread nD τ) none) Set.univ (lastProg arg4 arg5 arg6)
        (fun _ => iprop(holdP c yM y ∗ insP c arg1 arg4 arg5 x g b ∗ owns (c : Thread nD τ) arg6 fullShare (k0_pay2 y g b))) := by
  unfold insP owns
  iintro ⟨HY, ⟨H1, ⟨%fg, %hg, H4⟩, ⟨%fb, %hb, H5⟩⟩, ⟨%d, %fo, -, H6⟩⟩
  subst hg hb
  iapply (wp_mono frame (wpE (defs₀ (F := F)) Variants.none (c : Thread nD τ) none) Set.univ (Q := fun _ => iprop(
      (ownP c arg4 fullShare fg ∗ ownP c arg5 fullShare fb
          ∗ holdP c arg6 (k0_pay2 y (arg4.view.readAt (Elt F) R12.toLoadRect fg) (arg5.view.readAt (Elt F) R12.toLoadRect fb))
          ∗ holdP c yM y) ∗ (∃ f, ⌜arg1.view.read (Elt F) f = x⌝ ∗ (arg1.view.loc (c : Thread nD τ) ↦[arg1.view.set]{fullShare} f)))) (fun _ => by
    rw [readAt_R12, readAt_R12]
    iintro ⟨⟨H4, H5, ⟨%f6, H6⟩, HY⟩, H1⟩
    isplitl [HY]; · iexact HY
    isplitl [H1 H4 H5]
    · isplitl [H1]; · iexact H1
      isplitl [H4]
      · iexists fg; isplitr
        · ipureintro; rfl
        iexact H4
      iexists fb; isplitr
      · ipureintro; rfl
      iexact H5
    iexists (arg6.view.writes (Elt F) f6 [⟨R00, k0_pay2 y (arg4.view.read (Elt F) fg) (arg5.view.read (Elt F) fb)⟩])
    isplitr
    · ipureintro; exact read_hold c arg6 _ _
    iexact H6))
  iapply (wp_frame_r frame (wpE (defs₀ (F := F)) Variants.none (c : Thread nD τ) none) Set.univ)
  isplitr [H1]
  · iapply (lastRun c arg4 arg5 arg6 fg fb fo y)
    isplitl [H4]; · iexact H4
    isplitl [H5]; · iexact H5
    isplitl [H6]; · iexact H6
    iexact HY
  iexact H1

end Points

end Cert.FfnHand

end
-- ==== Proof.FfnState.lean ====
/-
  The feed-forward kernel's buffers as the launch hands them over and as the points use them: two-slot buffers as
  slots, the weights' arrays as shares.
-/
module

public import proofs.«01_k».proof.Proof.FfnPoint

@[expose] public section

noncomputable section

namespace Cert.FfnHand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section State

variable (c : Dev nD)
  (XI : Buf (Elt F) (inM.view.loc (c : Thread nD τ))) (XO : Buf (Elt F) (outM.view.loc (c : Thread nD τ)))

/-! ## The two-slot buffers -/

omit [FloatOps F] in
/-- A slot's elements are those of its leading index. -/
theorem gSlot_mem (s : Fin 2) (x : S2x2048x512.Idx) : x ∈ (gSlot s).view.set ↔ (x 0).val = s.val := by
  have e : (gSlot s).view.set = (Rect.unit (s := S2x2048x512) (slotOff s) S1x2048x512.size (slotOff_col s)).set :=
    (View.set_reshape _ _).trans (View.set_slice_whole _ _)
  rw [e]
  refine Iff.trans Rect.mem_set_unit ?_
  constructor
  · intro h
    have h0 := h 0
    have h1 : slotOff s 0 = s.val := rfl
    have h2 : S1x2048x512.size 0 = 1 := rfl
    omega
  · intro h a
    have hx := (x a).isLt
    fin_cases a
    · show s.val ≤ (x 0).val ∧ (x 0).val < s.val + 1; omega
    · show 0 ≤ (x 1).val ∧ (x 1).val < 0 + 2048; exact ⟨Nat.zero_le _, by rw [Nat.zero_add]; exact hx⟩
    · show 0 ≤ (x 2).val ∧ (x 2).val < 0 + 512; exact ⟨Nat.zero_le _, by rw [Nat.zero_add]; exact hx⟩
omit [FloatOps F] in
theorem gSlot_sub : (gSlot 0).view.set ⊆ (Finset.univ : Finset S2x2048x512.Idx) := Finset.subset_univ _
omit [FloatOps F] in
/-- Slot 1 is what slot 0 leaves. -/
theorem gSlot_one : (Finset.univ : Finset S2x2048x512.Idx) \ (gSlot 0).view.set = (gSlot 1).view.set := by
  refine Finset.ext fun x => ?_
  have hx : (x 0).val < 2 := (x 0).isLt
  have h00 : ((0 : Fin 2)).val = 0 := rfl
  have h01 : ((1 : Fin 2)).val = 1 := rfl
  constructor
  · intro h
    have h2 : ¬ (x 0).val = ((0 : Fin 2)).val := fun e => (Finset.mem_sdiff.mp h).2 ((gSlot_mem 0 x).mpr e)
    exact (gSlot_mem 1 x).mpr (by omega)
  · intro h
    have h1 := (gSlot_mem 1 x).mp h
    exact Finset.mem_sdiff.mpr ⟨Finset.mem_univ _, fun h0 => by have h2 := (gSlot_mem 0 x).mp h0; omega⟩
omit [FloatOps F] in
theorem gSlot_own (f : Buf (Elt F) ((c : Thread nD τ).loc cc0_scratch6)) :
    ((c : Thread nD τ).loc cc0_scratch6 ↦[(Finset.univ : Finset S2x2048x512.Idx) \ (gSlot 0).view.set]{fullShare} f : sProp 𝕄) = ownP c (gSlot 1) fullShare f :=
  congrArg (fun S : Finset S2x2048x512.Idx => ((c : Thread nD τ).loc cc0_scratch6 ↦[S]{fullShare} f : sProp 𝕄)) gSlot_one
omit [FloatOps F] in
/-- The two-slot buffer is its slots. -/
theorem gSlot_split (f : Buf (Elt F) ((c : Thread nD τ).loc cc0_scratch6)) :
    ((c : Thread nD τ).loc cc0_scratch6 ↦{fullShare} f : sProp 𝕄)
      ⊢ iprop((∃ f, ownP c (gSlot 0) fullShare f) ∗ (∃ f, ownP c (gSlot 1) fullShare f)) := by
  iintro H
  ihave H := (pointsTo_split_subset gSlot_sub).1 $$ H
  icases H with ⟨H1, H2⟩
  isplitl [H1]; · iexists f; iexact H1
  iexists f
  iapply (show ((c : Thread nD τ).loc cc0_scratch6 ↦[(Finset.univ : Finset S2x2048x512.Idx) \ (gSlot 0).view.set]{fullShare} f : sProp 𝕄) ⊢ ownP c (gSlot 1) fullShare f from (gSlot_own c f) ▸ .rfl)
  iexact H2
omit [FloatOps F] in
/-- The slots are the two-slot buffer. -/
theorem gSlot_join :
    iprop((∃ f, ownP c (gSlot 0) fullShare f) ∗ (∃ f, ownP c (gSlot 1) fullShare f))
      ⊢ (iprop(∃ f, (c : Thread nD τ).loc cc0_scratch6 ↦{fullShare} f) : sProp 𝕄) := by
  iintro ⟨⟨%f, H1⟩, ⟨%g, H2⟩⟩
  iexists ((gSlot 0).view.set.piecewise f g)
  iapply (pointsTo_join_subset gSlot_sub)
  isplitl [H1]; · iexact H1
  iapply (show ownP c (gSlot 1) fullShare g ⊢ ((c : Thread nD τ).loc cc0_scratch6 ↦[(Finset.univ : Finset S2x2048x512.Idx) \ (gSlot 0).view.set]{fullShare} g : sProp 𝕄) from (gSlot_own c g) ▸ .rfl)
  iexact H2
omit [FloatOps F] in
/-- A slot's elements are those of its leading index. -/
theorem uSlot_mem (s : Fin 2) (x : S2x2048x512.Idx) : x ∈ (uSlot s).view.set ↔ (x 0).val = s.val := by
  have e : (uSlot s).view.set = (Rect.unit (s := S2x2048x512) (slotOff s) S1x2048x512.size (slotOff_col s)).set :=
    (View.set_reshape _ _).trans (View.set_slice_whole _ _)
  rw [e]
  refine Iff.trans Rect.mem_set_unit ?_
  constructor
  · intro h
    have h0 := h 0
    have h1 : slotOff s 0 = s.val := rfl
    have h2 : S1x2048x512.size 0 = 1 := rfl
    omega
  · intro h a
    have hx := (x a).isLt
    fin_cases a
    · show s.val ≤ (x 0).val ∧ (x 0).val < s.val + 1; omega
    · show 0 ≤ (x 1).val ∧ (x 1).val < 0 + 2048; exact ⟨Nat.zero_le _, by rw [Nat.zero_add]; exact hx⟩
    · show 0 ≤ (x 2).val ∧ (x 2).val < 0 + 512; exact ⟨Nat.zero_le _, by rw [Nat.zero_add]; exact hx⟩
omit [FloatOps F] in
theorem uSlot_sub : (uSlot 0).view.set ⊆ (Finset.univ : Finset S2x2048x512.Idx) := Finset.subset_univ _
omit [FloatOps F] in
/-- Slot 1 is what slot 0 leaves. -/
theorem uSlot_one : (Finset.univ : Finset S2x2048x512.Idx) \ (uSlot 0).view.set = (uSlot 1).view.set := by
  refine Finset.ext fun x => ?_
  have hx : (x 0).val < 2 := (x 0).isLt
  have h00 : ((0 : Fin 2)).val = 0 := rfl
  have h01 : ((1 : Fin 2)).val = 1 := rfl
  constructor
  · intro h
    have h2 : ¬ (x 0).val = ((0 : Fin 2)).val := fun e => (Finset.mem_sdiff.mp h).2 ((uSlot_mem 0 x).mpr e)
    exact (uSlot_mem 1 x).mpr (by omega)
  · intro h
    have h1 := (uSlot_mem 1 x).mp h
    exact Finset.mem_sdiff.mpr ⟨Finset.mem_univ _, fun h0 => by have h2 := (uSlot_mem 0 x).mp h0; omega⟩
omit [FloatOps F] in
theorem uSlot_own (f : Buf (Elt F) ((c : Thread nD τ).loc cc0_scratch7)) :
    ((c : Thread nD τ).loc cc0_scratch7 ↦[(Finset.univ : Finset S2x2048x512.Idx) \ (uSlot 0).view.set]{fullShare} f : sProp 𝕄) = ownP c (uSlot 1) fullShare f :=
  congrArg (fun S : Finset S2x2048x512.Idx => ((c : Thread nD τ).loc cc0_scratch7 ↦[S]{fullShare} f : sProp 𝕄)) uSlot_one
omit [FloatOps F] in
/-- The two-slot buffer is its slots. -/
theorem uSlot_split (f : Buf (Elt F) ((c : Thread nD τ).loc cc0_scratch7)) :
    ((c : Thread nD τ).loc cc0_scratch7 ↦{fullShare} f : sProp 𝕄)
      ⊢ iprop((∃ f, ownP c (uSlot 0) fullShare f) ∗ (∃ f, ownP c (uSlot 1) fullShare f)) := by
  iintro H
  ihave H := (pointsTo_split_subset uSlot_sub).1 $$ H
  icases H with ⟨H1, H2⟩
  isplitl [H1]; · iexists f; iexact H1
  iexists f
  iapply (show ((c : Thread nD τ).loc cc0_scratch7 ↦[(Finset.univ : Finset S2x2048x512.Idx) \ (uSlot 0).view.set]{fullShare} f : sProp 𝕄) ⊢ ownP c (uSlot 1) fullShare f from (uSlot_own c f) ▸ .rfl)
  iexact H2
omit [FloatOps F] in
/-- The slots are the two-slot buffer. -/
theorem uSlot_join :
    iprop((∃ f, ownP c (uSlot 0) fullShare f) ∗ (∃ f, ownP c (uSlot 1) fullShare f))
      ⊢ (iprop(∃ f, (c : Thread nD τ).loc cc0_scratch7 ↦{fullShare} f) : sProp 𝕄) := by
  iintro ⟨⟨%f, H1⟩, ⟨%g, H2⟩⟩
  iexists ((uSlot 0).view.set.piecewise f g)
  iapply (pointsTo_join_subset uSlot_sub)
  isplitl [H1]; · iexact H1
  iapply (show ownP c (uSlot 1) fullShare g ⊢ ((c : Thread nD τ).loc cc0_scratch7 ↦[(Finset.univ : Finset S2x2048x512.Idx) \ (uSlot 0).view.set]{fullShare} g : sProp 𝕄) from (uSlot_own c g) ▸ .rfl)
  iexact H2
omit [FloatOps F] in
/-- A slot's elements are those of its leading index. -/
theorem wSlot_mem (s : Fin 2) (x : S2x512x2048.Idx) : x ∈ (wSlot s).view.set ↔ (x 0).val = s.val := by
  have e : (wSlot s).view.set = (Rect.unit (s := S2x512x2048) (slotOff s) S1x512x2048.size (slotOff_row s)).set :=
    (View.set_reshape _ _).trans (View.set_slice_whole _ _)
  rw [e]
  refine Iff.trans Rect.mem_set_unit ?_
  constructor
  · intro h
    have h0 := h 0
    have h1 : slotOff s 0 = s.val := rfl
    have h2 : S1x512x2048.size 0 = 1 := rfl
    omega
  · intro h a
    have hx := (x a).isLt
    fin_cases a
    · show s.val ≤ (x 0).val ∧ (x 0).val < s.val + 1; omega
    · show 0 ≤ (x 1).val ∧ (x 1).val < 0 + 512; exact ⟨Nat.zero_le _, by rw [Nat.zero_add]; exact hx⟩
    · show 0 ≤ (x 2).val ∧ (x 2).val < 0 + 2048; exact ⟨Nat.zero_le _, by rw [Nat.zero_add]; exact hx⟩
omit [FloatOps F] in
theorem wSlot_sub : (wSlot 0).view.set ⊆ (Finset.univ : Finset S2x512x2048.Idx) := Finset.subset_univ _
omit [FloatOps F] in
/-- Slot 1 is what slot 0 leaves. -/
theorem wSlot_one : (Finset.univ : Finset S2x512x2048.Idx) \ (wSlot 0).view.set = (wSlot 1).view.set := by
  refine Finset.ext fun x => ?_
  have hx : (x 0).val < 2 := (x 0).isLt
  have h00 : ((0 : Fin 2)).val = 0 := rfl
  have h01 : ((1 : Fin 2)).val = 1 := rfl
  constructor
  · intro h
    have h2 : ¬ (x 0).val = ((0 : Fin 2)).val := fun e => (Finset.mem_sdiff.mp h).2 ((wSlot_mem 0 x).mpr e)
    exact (wSlot_mem 1 x).mpr (by omega)
  · intro h
    have h1 := (wSlot_mem 1 x).mp h
    exact Finset.mem_sdiff.mpr ⟨Finset.mem_univ _, fun h0 => by have h2 := (wSlot_mem 0 x).mp h0; omega⟩
omit [FloatOps F] in
theorem wSlot_own (f : Buf (Elt F) ((c : Thread nD τ).loc cc0_scratch8)) :
    ((c : Thread nD τ).loc cc0_scratch8 ↦[(Finset.univ : Finset S2x512x2048.Idx) \ (wSlot 0).view.set]{fullShare} f : sProp 𝕄) = ownP c (wSlot 1) fullShare f :=
  congrArg (fun S : Finset S2x512x2048.Idx => ((c : Thread nD τ).loc cc0_scratch8 ↦[S]{fullShare} f : sProp 𝕄)) wSlot_one
omit [FloatOps F] in
/-- The two-slot buffer is its slots. -/
theorem wSlot_split (f : Buf (Elt F) ((c : Thread nD τ).loc cc0_scratch8)) :
    ((c : Thread nD τ).loc cc0_scratch8 ↦{fullShare} f : sProp 𝕄)
      ⊢ iprop((∃ f, ownP c (wSlot 0) fullShare f) ∗ (∃ f, ownP c (wSlot 1) fullShare f)) := by
  iintro H
  ihave H := (pointsTo_split_subset wSlot_sub).1 $$ H
  icases H with ⟨H1, H2⟩
  isplitl [H1]; · iexists f; iexact H1
  iexists f
  iapply (show ((c : Thread nD τ).loc cc0_scratch8 ↦[(Finset.univ : Finset S2x512x2048.Idx) \ (wSlot 0).view.set]{fullShare} f : sProp 𝕄) ⊢ ownP c (wSlot 1) fullShare f from (wSlot_own c f) ▸ .rfl)
  iexact H2
omit [FloatOps F] in
/-- The slots are the two-slot buffer. -/
theorem wSlot_join :
    iprop((∃ f, ownP c (wSlot 0) fullShare f) ∗ (∃ f, ownP c (wSlot 1) fullShare f))
      ⊢ (iprop(∃ f, (c : Thread nD τ).loc cc0_scratch8 ↦{fullShare} f) : sProp 𝕄) := by
  iintro ⟨⟨%f, H1⟩, ⟨%g, H2⟩⟩
  iexists ((wSlot 0).view.set.piecewise f g)
  iapply (pointsTo_join_subset wSlot_sub)
  isplitl [H1]; · iexact H1
  iapply (show ownP c (wSlot 1) fullShare g ⊢ ((c : Thread nD τ).loc cc0_scratch8 ↦[(Finset.univ : Finset S2x512x2048.Idx) \ (wSlot 0).view.set]{fullShare} g : sProp 𝕄) from (wSlot_own c g) ▸ .rfl)
  iexact H2

/-! ## The weights' shares -/

omit [FloatOps F] in
/-- An array at a share is its two halves. -/
theorem allP_halves {sp : Space} {S : Shape} {e : EltTy} (M : Memref sig .tc sp S e) (q : PosShare TreeShare)
    (f : Buf (Elt F) (M.view.loc (c : Thread nD τ))) : allP c M q f = iprop(allP c M q.left f ∗ allP c M q.right f) := by
  unfold allP
  exact BI.Entails.antisymm (pointsTo_share (PosShare.mem_left_op_right q)).1 (pointsTo_share (PosShare.mem_left_op_right q)).2
omit [FloatOps F] in
/-- The joint weight's array is its four shares. -/
theorem in_shares : allP c inM fullShare XI
    = iprop((allP c inM (qg 0) XI ∗ allP c inM (qg 1) XI) ∗ (allP c inM (qu 0) XI ∗ allP c inM (qu 1) XI)) := by
  rw [allP_halves c inM fullShare, allP_halves c inM fullShare.left, allP_halves c inM fullShare.right]
  rfl
omit [FloatOps F] in
/-- The output weight's array is its two shares. -/
theorem out_shares : allP c outM fullShare XO = iprop(allP c outM (qo 0) XO ∗ allP c outM (qo 1) XO) := by
  rw [allP_halves c outM fullShare]
  rfl

end State

end Cert.FfnHand

end
-- ==== Proof.FfnRun.lean ====
/-
  The feed-forward kernel's grid: what every point finds and leaves, and the body at each point.
-/
module

public import proofs.«01_k».proof.Proof.FfnState
public import proofs.«01_k».proof.Proof.Gen.FfnIdeal.Frame
public import Idealize.ShloMosaic.Lib.Pipeline.FrameBody

@[expose] public section

noncomputable section

namespace Cert.FfnHand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## What is carried from point to point -/

/-- The grid's point `n`. -/
def pt (n : ℕ) : Fin cfg0.N := ⟨n % 33, by rw [show cfg0.N = 33 from N_0]; exact Nat.mod_lt _ (by decide)⟩
omit [FloatOps F] in
theorem pt_val (t : Fin cfg0.N) : pt t.val = t := by
  have h : t.val < 33 := lt_of_lt_of_eq t.isLt N_0
  exact Fin.ext (Nat.mod_eq_of_lt h)
/-- The joint weight as the points find it. -/
abbrev inV (c : Dev nD) : Buf (Elt F) (inM.view.loc (c : Thread nD τ)) := V m c main_v1
/-- The output weight as the points find it. -/
abbrev outV (c : Dev nD) : Buf (Elt F) (outM.view.loc (c : Thread nD τ)) := V m c main_v2
/-- The rows point `t` fetches. -/
def xAt (c : Dev nD) (t : Fin cfg0.N) : Vec F S512x2048 .f32 := iblk m c 0 t
/-- The gain at point `t`. -/
def gAt (c : Dev nD) (t : Fin cfg0.N) : Vec F S1x2048 .f32 := iblk m c 1 t
/-- The shift at point `t`. -/
def bAt (c : Dev nD) (t : Fin cfg0.N) : Vec F S1x2048 .f32 := iblk m c 2 t
/-- The rows carried into point `n`: zeros first, then the point before's block plus half its feed-forward image. -/
def carried (c : Dev nD) : ℕ → Vec F S512x2048 .f32
  | 0 => k0_pay3 (F := F)
  | n + 1 => rowsOf c (inV m c) (outV m c) (xAt m c (pt n))
/-- What point `t` leaves in its result block. -/
def resAfter (c : Dev nD) (t : Fin cfg0.N) : Vec F S512x2048 .f32 :=
  if t.val < 32 then k0_pay5 (carried m c t.val) (gAt m c t) (bAt m c t) else k0_pay2 (carried m c t.val) (gAt m c t) (bAt m c t)

/-- The resident tiles and the carried rows before point `n`. -/
def yRes (c : Dev nD) : ℕ → sProp 𝕄
  | 0 => iprop(anyRes c ∗ (∃ f, ownP c yM fullShare f))
  | n + 1 => iprop(tileRes0 c (inV m c) (outV m c) ∗ holdP c yM (carried m c (min (n + 1) 32)))
/-- The invariant before point `n`. -/
def pointInv (c : Dev nD) (n : ℕ) : sProp 𝕄 :=
  iprop(yRes m c n ∗ (cellAP c 0 ∗ cellAP c 1 ∗ cellAP c 2) ∗ coreP c (inV m c) (outV m c) ∗ (∃ r, prngReg c r))

/-- The run's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => resAfter m c t
  Φ t := pointInv m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = xAt m c t := by dsimp only [dats]; rfl
theorem after0_1 (c : Dev nD) (t : Fin cfg0.N) : (dats m 0 c).after 1 t = gAt m c t := by dsimp only [dats]; rfl
theorem after0_2 (c : Dev nD) (t : Fin cfg0.N) : (dats m 0 c).after 2 t = bAt m c t := by dsimp only [dats]; rfl
theorem after0_3 (c : Dev nD) (t : Fin cfg0.N) : (dats m 0 c).after 3 t = resAfter m c t := by dsimp only [dats]
/-- Every point finds its rows in place. -/
theorem before0_0 (c : Dev nD) (t : Fin cfg0.N) (d) : (dats m 0 c).before 0 t d = xAt m c t :=
  ((dats m 0 c).before_in_eq_fetched 0 rfl (fun _ => rfl) (fun _ _ _ => rfl) (fun t => by rw [after0_0]; unfold Dat.blockOf xAt iblk; rw [A_eq]; try rfl) t d).trans
    (by unfold Dat.fetched Dat.blockOf xAt iblk; rw [A_eq]; try rfl)
/-- Every point finds the gain in place. -/
theorem before0_1 (c : Dev nD) (t : Fin cfg0.N) (d) : (dats m 0 c).before 1 t d = gAt m c t :=
  ((dats m 0 c).before_in_eq_fetched 1 rfl (fun _ => rfl) (fun _ _ _ => rfl) (fun t => by rw [after0_1]; unfold Dat.blockOf gAt iblk; rw [A_eq]; try rfl) t d).trans
    (by unfold Dat.fetched Dat.blockOf gAt iblk; rw [A_eq]; try rfl)
/-- Every point finds the shift in place. -/
theorem before0_2 (c : Dev nD) (t : Fin cfg0.N) (d) : (dats m 0 c).before 2 t d = bAt m c t :=
  ((dats m 0 c).before_in_eq_fetched 2 rfl (fun _ => rfl) (fun _ _ _ => rfl) (fun t => by rw [after0_2]; unfold Dat.blockOf bAt iblk; rw [A_eq]; try rfl) t d).trans
    (by unfold Dat.fetched Dat.blockOf bAt iblk; rw [A_eq]; try rfl)

/-! ## The three kinds of point -/

/-- The conditions of a point. -/
theorem conds : ∀ t : Fin grid0.N, (isFirst (grid0.coords t) = 1#1 ↔ t.val = 0) ∧ (k0_cond2 (grid0.coords t) = 1#1 ↔ t.val < 32)
    ∧ (k0_cond3 (grid0.coords t) = 1#1 ↔ t.val = 32) := by decide +kernel

/-- Every point stores its result block. -/
theorem stores : ∀ t : Fin grid0.N, idle0 3 (grid0.coords t) = false := by decide +kernel

/-- The body's precondition at point `t`, uniformly. -/
def preAt (c : Dev nD) (t : Fin cfg0.N) : sProp 𝕄 :=
  iprop(yRes m c t.val ∗ (cellAP c 0 ∗ cellAP c 1 ∗ cellAP c 2) ∗ coreP c (inV m c) (outV m c) ∗ owesE (F := F) c
    ∗ insP c (st0_0 t) (st0_1 t) (st0_2 t) (xAt m c t) (gAt m c t) (bAt m c t) ∗ (∃ d, owns (c : Thread nD τ) (st0_3 t) fullShare d))
/-- The body's postcondition at point `t`, uniformly. -/
def postAt (c : Dev nD) (t : Fin cfg0.N) : sProp 𝕄 :=
  iprop(yRes m c (t.val + 1) ∗ (cellAP c 0 ∗ cellAP c 1 ∗ cellAP c 2) ∗ coreP c (inV m c) (outV m c) ∗ owesE (F := F) c
    ∗ insP c (st0_0 t) (st0_1 t) (st0_2 t) (xAt m c t) (gAt m c t) (bAt m c t) ∗ owns (c : Thread nD τ) (st0_3 t) fullShare (resAfter m c t))

/-- The carried rows after a point that is not the last. -/
theorem yRes_succ (c : Dev nD) (t : Fin cfg0.N) (h : t.val < 32) :
    yRes m c (t.val + 1) = iprop(tileRes0 c (inV m c) (outV m c) ∗ holdP c yM (rowsOf c (inV m c) (outV m c) (xAt m c t))) := by
  show iprop(tileRes0 c (inV m c) (outV m c) ∗ holdP c yM (carried m c (min (t.val + 1) 32))) = _
  rw [Nat.min_eq_left (by omega)]
  show iprop(tileRes0 c (inV m c) (outV m c) ∗ holdP c yM (rowsOf c (inV m c) (outV m c) (xAt m c (pt t.val)))) = _
  rw [pt_val]
/-- The carried rows before a point that is not the first. -/
theorem yRes_pos (c : Dev nD) (n : ℕ) (h0 : n ≠ 0) (h : n ≤ 32) :
    yRes m c n = iprop(tileRes0 c (inV m c) (outV m c) ∗ holdP c yM (carried m c n)) := by
  obtain ⟨k, rfl⟩ := Nat.exists_eq_succ_of_ne_zero h0
  show iprop(tileRes0 c (inV m c) (outV m c) ∗ holdP c yM (carried m c (min (k + 1) 32))) = _
  rw [Nat.min_eq_left h]

/-- The body at the first point. -/
theorem atFirst (c : Dev nD) (t : Fin cfg0.N) (h : t.val = 0) :
    preAt m c t ⊢ wp frame (wpE (defs₀ (F := F)) Variants.none (c : Thread nD τ) none) Set.univ (bodyAt0 t) (fun _ => postAt m c t) := by
  have h1 := (conds t).1.mpr h
  have h2 := (conds t).2.1.mpr (by omega)
  have h3 : ¬ k0_cond3 (grid0.coords t) = 1#1 := fun e => by have := (conds t).2.2.mp e; omega
  rw [show bodyAt0 (F := F) t = _ from body_first (grid0.coords t) (st0_0 t) _ (st0_1 t) _ (st0_2 t) _ (st0_3 t) _ h1 h2 h3]
  unfold preAt postAt resAfter
  rw [yRes_succ m c t (by omega), if_pos (by omega), h]
  rw [show yRes m c 0 = iprop(anyRes c ∗ (∃ f, ownP c yM fullShare f)) from rfl, show carried m c 0 = k0_pay3 (F := F) from rfl]
  iintro ⟨⟨HR, HY⟩, HC, HK, HW, HI, H6⟩
  iapply (wp_mono frame (wpE (defs₀ (F := F)) Variants.none (c : Thread nD τ) none) Set.univ (Q := fun _ => iprop((cellAP c 0 ∗ cellAP c 1 ∗ cellAP c 2) ∗ (tileRes0 c (inV m c) (outV m c) ∗ holdP c yM (rowsOf c (inV m c) (outV m c) (xAt m c t)) ∗ coreP c (inV m c) (outV m c) ∗ owesE (F := F) c
      ∗ insP c (st0_0 t) (st0_1 t) (st0_2 t) (xAt m c t) (gAt m c t) (bAt m c t)
      ∗ owns (c : Thread nD τ) (st0_3 t) fullShare (k0_pay5 (k0_pay3 (F := F)) (gAt m c t) (bAt m c t))))) (fun _ => by
    iintro ⟨HC, ⟨HR, HY, HK, HW, HI, H6⟩⟩
    isplitl [HR HY]
    · isplitl [HR]; · iexact HR
      iexact HY
    isplitl [HC]; · iexact HC
    isplitl [HK]; · iexact HK
    isplitl [HW]; · iexact HW
    isplitl [HI]; · iexact HI
    iexact H6))
  iapply (pointFirst c (inV m c) (outV m c) (grid0.coords t) (st0_0 t) _ (st0_1 t) _ (st0_2 t) _ (st0_3 t) _ (xAt m c t) (gAt m c t) (bAt m c t) h2)
  isplitl [HR]; · iexact HR
  isplitl [HY]; · iexact HY
  isplitl [HC]; · iexact HC
  isplitl [HK]; · iexact HK
  isplitl [HW]; · iexact HW
  isplitl [HI]; · iexact HI
  iexact H6

/-- The body at a point that is neither the first nor the last. -/
theorem atMid (c : Dev nD) (t : Fin cfg0.N) (h0 : t.val ≠ 0) (h : t.val < 32) :
    preAt m c t ⊢ wp frame (wpE (defs₀ (F := F)) Variants.none (c : Thread nD τ) none) Set.univ (bodyAt0 t) (fun _ => postAt m c t) := by
  have h1 : ¬ isFirst (grid0.coords t) = 1#1 := fun e => h0 ((conds t).1.mp e)
  have h2 := (conds t).2.1.mpr h
  have h3 : ¬ k0_cond3 (grid0.coords t) = 1#1 := fun e => by have := (conds t).2.2.mp e; omega
  rw [show bodyAt0 (F := F) t = _ from body_mid (grid0.coords t) (st0_0 t) _ (st0_1 t) _ (st0_2 t) _ (st0_3 t) _ h1 h2 h3]
  unfold preAt postAt resAfter
  rw [yRes_succ m c t h, yRes_pos m c t.val h0 (by omega), if_pos h]
  iintro ⟨⟨HR, HY⟩, HC, HK, HW, HI, H6⟩
  iapply (wp_mono frame (wpE (defs₀ (F := F)) Variants.none (c : Thread nD τ) none) Set.univ (Q := fun _ => iprop((tileRes0 c (inV m c) (outV m c) ∗ holdP c yM (rowsOf c (inV m c) (outV m c) (xAt m c t)) ∗ coreP c (inV m c) (outV m c) ∗ owesE (F := F) c
      ∗ insP c (st0_0 t) (st0_1 t) (st0_2 t) (xAt m c t) (gAt m c t) (bAt m c t)
      ∗ owns (c : Thread nD τ) (st0_3 t) fullShare (k0_pay5 (carried m c t.val) (gAt m c t) (bAt m c t))) ∗ (cellAP c 0 ∗ cellAP c 1 ∗ cellAP c 2))) (fun _ => by
    iintro ⟨⟨HR, HY, HK, HW, HI, H6⟩, HC⟩
    isplitl [HR HY]
    · isplitl [HR]; · iexact HR
      iexact HY
    isplitl [HC]; · iexact HC
    isplitl [HK]; · iexact HK
    isplitl [HW]; · iexact HW
    isplitl [HI]; · iexact HI
    iexact H6))
  iapply (wp_frame_r frame (wpE (defs₀ (F := F)) Variants.none (c : Thread nD τ) none) Set.univ)
  isplitr [HC]
  · iapply (pointTile c (inV m c) (outV m c) (grid0.coords t) (st0_0 t) _ (st0_1 t) _ (st0_2 t) _ (st0_3 t) _ (xAt m c t) (gAt m c t) (bAt m c t) (carried m c t.val) h2)
    isplitl [HR]; · iexact HR
    isplitl [HY]; · iexact HY
    isplitl [HK]; · iexact HK
    isplitl [HW]; · iexact HW
    isplitl [HI]; · iexact HI
    iexact H6
  iexact HC

/-- The body at the last point. -/
theorem atLast (c : Dev nD) (t : Fin cfg0.N) (h : t.val = 32) :
    preAt m c t ⊢ wp frame (wpE (defs₀ (F := F)) Variants.none (c : Thread nD τ) none) Set.univ (bodyAt0 t) (fun _ => postAt m c t) := by
  have h1 : ¬ isFirst (grid0.coords t) = 1#1 := fun e => by have := (conds t).1.mp e; omega
  have h2 : ¬ k0_cond2 (grid0.coords t) = 1#1 := fun e => by have := (conds t).2.1.mp e; omega
  have h3 := (conds t).2.2.mpr h
  rw [show bodyAt0 (F := F) t = _ from body_last (grid0.coords t) (st0_0 t) _ (st0_1 t) _ (st0_2 t) _ (st0_3 t) _ h1 h2 h3]
  unfold preAt postAt resAfter
  rw [show yRes m c (t.val + 1) = iprop(tileRes0 c (inV m c) (outV m c) ∗ holdP c yM (carried m c t.val)) by
    show iprop(tileRes0 c (inV m c) (outV m c) ∗ holdP c yM (carried m c (min (t.val + 1) 32))) = _
    rw [Nat.min_eq_right (by omega), h], yRes_pos m c t.val (by omega) (by omega), if_neg (by omega)]
  iintro ⟨⟨HR, HY⟩, HC, HK, HW, HI, H6⟩
  iapply (wp_mono frame (wpE (defs₀ (F := F)) Variants.none (c : Thread nD τ) none) Set.univ (Q := fun _ => iprop(
      (holdP c yM (carried m c t.val) ∗ insP c (st0_0 t) (st0_1 t) (st0_2 t) (xAt m c t) (gAt m c t) (bAt m c t)
        ∗ owns (c : Thread nD τ) (st0_3 t) fullShare (k0_pay2 (carried m c t.val) (gAt m c t) (bAt m c t)))
      ∗ (tileRes0 c (inV m c) (outV m c) ∗ (cellAP c 0 ∗ cellAP c 1 ∗ cellAP c 2) ∗ coreP c (inV m c) (outV m c) ∗ owesE (F := F) c))) (fun _ => by
    iintro ⟨⟨HY, HI, H6⟩, HR, HC, HK, HW⟩
    isplitl [HR HY]
    · isplitl [HR]; · iexact HR
      iexact HY
    isplitl [HC]; · iexact HC
    isplitl [HK]; · iexact HK
    isplitl [HW]; · iexact HW
    isplitl [HI]; · iexact HI
    iexact H6))
  iapply (wp_frame_r frame (wpE (defs₀ (F := F)) Variants.none (c : Thread nD τ) none) Set.univ)
  isplitl [HY HI H6]
  · iapply (pointLast c (st0_0 t) (st0_1 t) (st0_2 t) (st0_3 t) (xAt m c t) (gAt m c t) (bAt m c t) (carried m c t.val))
    isplitl [HY]; · iexact HY
    isplitl [HI]; · iexact HI
    iexact H6
  isplitl [HR]; · iexact HR
  isplitl [HC]; · iexact HC
  isplitl [HK]; · iexact HK
  iexact HW

/-- The body at any point. -/
theorem atPoint (c : Dev nD) (t : Fin cfg0.N) :
    preAt m c t ⊢ wp frame (wpE (defs₀ (F := F)) Variants.none (c : Thread nD τ) none) Set.univ (bodyAt0 t) (fun _ => postAt m c t) := by
  have h : t.val < 33 := lt_of_lt_of_eq t.isLt N_0
  by_cases h0 : t.val = 0
  · exact atFirst m c t h0
  by_cases h32 : t.val < 32
  · exact atMid m c t h0 h32
  exact atLast m c t (by omega)

/-! ## The obligation -/

/-- What the schedule hands the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What the schedule takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body meets the schedule's demand at every point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.castSucc = pointInv m c t.val from rfl, show (dats m 0 c).Φ t.succ = pointInv m c (t.val + 1) from rfl]
  unfold Dat.owesAt Pipeline.owesWithin
  rw [show (dats m 0 c).owed t.castSucc = 0 from rfl, show (dats m 0 c).owed t.succ = 0 from rfl]
  rw [after0_0, after0_1, after0_2, after0_3]
  simp only [before0_0, before0_1, before0_2]
  unfold pointInv
  iintro ⟨⟨HY, HC, HK, HP⟩, ⟨%W, -, HW⟩, ⟨%d0, H0⟩, ⟨%d1, H1⟩, ⟨%d2, H2⟩, ⟨%d3, H3⟩⟩
  iapply (wp_mono frame (wpE (defs₀ (F := F)) Variants.none (c : Thread nD τ) none) Set.univ (Q := fun _ => iprop(postAt m c t ∗ (∃ r, prngReg c r))) (fun _ => by
    unfold postAt owesE insP
    iintro ⟨⟨HY, HC, HK, ⟨%W', HW⟩, ⟨H0, H1, H2⟩, H3⟩, HP⟩
    isplitl [HY HC HK HP]
    · isplitl [HY]; · iexact HY
      isplitl [HC]; · iexact HC
      isplitl [HK]; · iexact HK
      iexact HP
    isplitl [HW]
    · iexists W'; isplitr
      · ipureintro; exact fun _ _ => Or.inl trivial
      iexact HW
    isplitl [H0]; · iexact H0
    isplitl [H1]; · iexact H1
    isplitl [H2]; · iexact H2
    iexact H3))
  iapply (wp_frame_r frame (wpE (defs₀ (F := F)) Variants.none (c : Thread nD τ) none) Set.univ)
  isplitr [HP]
  · iapply (atPoint m c t)
    unfold preAt owesE insP
    isplitl [HY]; · iexact HY
    isplitl [HC]; · iexact HC
    isplitl [HK]; · iexact HK
    isplitl [HW]; · iexists W; iexact HW
    isplitl [H0 H1 H2]
    · isplitl [H0]; · iexact H0
      isplitl [H1]; · iexact H1
      iexact H2
    iexists _; iexact H3
  iexact HP

/-- The body the schedule calls is the printed one. -/
theorem defs₀_row (t : Fin cfg0.N) : defs₀ (F := F) .tc cfg0.body (cfg0.bodyArgs t (cfg0.slots t)) = bodyAt0 t := by
  unfold defs₀; rw [Defs.onTc_tc]

/-- The obligation at every point. -/
theorem body_obligation (c : Dev nD) : BodyObligation (dats (F := F) m 0 c) (defs₀ (F := F)) Variants.none () Set.univ := fun t => by
  rw [bigSep_W0, bigSep_W0, defs₀_row]
  rw [show cfg0.idle 3 (cfg0.grid.coords t) = false from stores t]
  exact triple_restated (sound_body m c t) rfl .rfl fun _ => .rfl

end Cert.FfnHand

end
-- ==== Proof.FfnLaunch.lean ====
/-
  The feed-forward kernel's launch: what the region is entered with and left with, the run, and the frames.
-/
module

public import proofs.«01_k».proof.Proof.FfnRun
public import proofs.«01_k».proof.Defs

@[expose] public section

noncomputable section

namespace Cert.FfnHand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The region's ends -/

/-- The body's own semaphores: three for the resident tiles, three per slot. -/
abbrev osem0 : Fin 9 → SemLoc sig := fun j => (![SemLoc.dma 6, SemLoc.dma 7, SemLoc.dma 8, SemLoc.dma 9, SemLoc.dma 10, SemLoc.dma 11,
  SemLoc.dma 12, SemLoc.dma 13, SemLoc.dma 14] : Fin 9 → SemLoc sig) j
theorem ownSemFacts0 : Pipeline.OwnSemFacts spec0 osem0 := by decide
/-- The body's own semaphores, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(cellAP c 0 ∗ cellAP c 1 ∗ cellAP c 2 ∗ cellP c 0 0 ∗ cellP c 0 1 ∗ cellP c 0 2 ∗ cellP c 1 0 ∗ cellP c 1 1 ∗ cellP c 1 2) := by
  rw [Pipeline.ownSems0_eq_of_list c osem0 [0, 1, 2, 3, 4, 5, 6, 7, 8] (by decide) (by decide)]; rfl
/-- The weights the body copies from. -/
def H0 : Finset (Ref sig .tc) := {main_v1, main_v2}
theorem H0_sub : H0 ⊆ Pipeline.restRefs sig spec0 := by decide
/-- The weights, one by one. -/
theorem hbmPts0_eq (c : Dev nD) :
    (bigSep H0 (fun b => ((c : Thread nD τ).loc b) ↦{fullShare} V m c b) : sProp 𝕄)
      = iprop(allP c inM fullShare (inV m c) ∗ allP c outM fullShare (outV m c)) := by
  rw [BI.bigSep_eq_bigSepL_of_eq [main_v1, main_v2] (by decide) (by decide)]; rfl

/-- What the region is entered with. -/
theorem PhiD0_eq (c : Dev nD) :
    (Pipeline.ΦD osem0 spec0 H0 (V m) c : sProp 𝕄)
      = iprop(((∃ f, ownP c xbM fullShare f) ∗ (∃ f, ownP c accM fullShare f) ∗ (∃ f, ownP c yM fullShare f)
          ∗ (∃ f, ownP c g0M fullShare f) ∗ (∃ f, ownP c u0M fullShare f) ∗ (∃ f, ownP c w0M fullShare f)
          ∗ (∃ f, (c : Thread nD τ).loc cc0_scratch6 ↦{fullShare} f) ∗ (∃ f, (c : Thread nD τ).loc cc0_scratch7 ↦{fullShare} f)
          ∗ (∃ f, (c : Thread nD τ).loc cc0_scratch8 ↦{fullShare} f))
        ∗ (∃ r, prngReg c r)
        ∗ (cellAP c 0 ∗ cellAP c 1 ∗ cellAP c 2 ∗ cellP c 0 0 ∗ cellP c 0 1 ∗ cellP c 0 2 ∗ cellP c 1 0 ∗ cellP c 1 1 ∗ cellP c 1 2)
        ∗ (allP c inM fullShare (inV m c) ∗ allP c outM fullShare (outV m c))) := by
  rw [Pipeline.ΦD_eq, scopedRest0_eq, ownSems00_eq, hbmPts0_eq]
  unfold ownP
  simp only [View.set_whole]

/-- The region's entry gives the first point's invariant. -/
theorem enter (c : Dev nD) : (Pipeline.ΦD osem0 spec0 H0 (V m) c : sProp 𝕄) ⊢ (dats m 0 c).Φ 0 := by
  rw [PhiD0_eq, show (dats m 0 c).Φ 0 = pointInv m c 0 from rfl, in_shares, out_shares]
  unfold pointInv coreP
  rw [show yRes m c 0 = iprop(anyRes c ∗ (∃ f, ownP c yM fullShare f)) from rfl]
  unfold anyRes idleP
  iintro ⟨⟨HX, HA, HY, HG, HU, HW, ⟨%f6, H6⟩, ⟨%f7, H7⟩, ⟨%f8, H8⟩⟩, HP, ⟨A0, A1, A2, C00, C01, C02, C10, C11, C12⟩, ⟨⟨⟨G0, G1⟩, ⟨U0, U1⟩⟩, ⟨O0, O1⟩⟩⟩
  ihave H6 := (gSlot_split c f6) $$ H6
  icases H6 with ⟨H60, H61⟩
  ihave H7 := (uSlot_split c f7) $$ H7
  icases H7 with ⟨H70, H71⟩
  ihave H8 := (wSlot_split c f8) $$ H8
  icases H8 with ⟨H80, H81⟩
  isplitl [HG HU HW HY]
  · isplitl [HG HU HW]
    · isplitl [HG]; · iexact HG
      isplitl [HU]; · iexact HU
      iexact HW
    iexact HY
  isplitl [A0 A1 A2]
  · isplitl [A0]; · iexact A0
    isplitl [A1]; · iexact A1
    iexact A2
  isplitr [HP]
  · isplitl [HX]; · iexact HX
    isplitl [HA]; · iexact HA
    isplitl [C00 C01 C02 H60 H70 H80 G0 U0 O0]
    · isplitl [C00 C01 C02]
      · isplitl [C00]; · iexact C00
        isplitl [C01]; · iexact C01
        iexact C02
      isplitl [H60 H70 H80]
      · isplitl [H60]; · iexact H60
        isplitl [H70]; · iexact H70
        iexact H80
      isplitl [G0]; · iexact G0
      isplitl [U0]; · iexact U0
      iexact O0
    isplitl [C10 C11 C12]
    · isplitl [C10]; · iexact C10
      isplitl [C11]; · iexact C11
      iexact C12
    isplitl [H61 H71 H81]
    · isplitl [H61]; · iexact H61
      isplitl [H71]; · iexact H71
      iexact H81
    isplitl [G1]; · iexact G1
    isplitl [U1]; · iexact U1
    iexact O1
  iexact HP

/-- The last point's invariant gives back what the region was entered with. -/
theorem leave (c : Dev nD) : (dats m 0 c).Φ (Fin.last cfg0.N) ⊢ (Pipeline.ΦD osem0 spec0 H0 (V m) c : sProp 𝕄) := by
  rw [PhiD0_eq, show (dats m 0 c).Φ (Fin.last cfg0.N) = pointInv m c (32 + 1) from congrArg (pointInv m c) N_0, in_shares, out_shares]
  unfold pointInv coreP
  rw [show yRes m c (32 + 1) = iprop(tileRes0 c (inV m c) (outV m c) ∗ holdP c yM (carried m c (min (32 + 1) 32))) from rfl]
  unfold tileRes0 idleP
  iintro ⟨⟨⟨⟨%G, -, HG⟩, ⟨%U, -, HU⟩, ⟨%W, -, HW⟩⟩, ⟨%fy, HY⟩⟩, ⟨A0, A1, A2⟩, ⟨HX, HA, ⟨⟨C00, C01, C02⟩, ⟨H60, H70, H80⟩, ⟨G0, U0, O0⟩⟩, ⟨⟨C10, C11, C12⟩, ⟨H61, H71, H81⟩, ⟨G1, U1, O1⟩⟩⟩, HP⟩
  isplitl [HX HA HY HG HU HW H60 H70 H80 H61 H71 H81]
  · isplitl [HX]; · iexact HX
    isplitl [HA]; · iexact HA
    isplitl [HY]; · iexists _; iexact HY
    isplitl [HG]; · iexists G; iexact HG
    isplitl [HU]; · iexists U; iexact HU
    isplitl [HW]; · iexists W; iexact HW
    isplitl [H60 H61]
    · iapply (gSlot_join c)
      isplitl [H60]; · iexact H60
      iexact H61
    isplitl [H70 H71]
    · iapply (uSlot_join c)
      isplitl [H70]; · iexact H70
      iexact H71
    iapply (wSlot_join c)
    isplitl [H80]; · iexact H80
    iexact H81
  isplitl [HP]; · iexact HP
  isplitl [A0 A1 A2 C00 C01 C02 C10 C11 C12]
  · isplitl [A0]; · iexact A0
    isplitl [A1]; · iexact A1
    isplitl [A2]; · iexact A2
    isplitl [C00]; · iexact C00
    isplitl [C01]; · iexact C01
    isplitl [C02]; · iexact C02
    isplitl [C10]; · iexact C10
    isplitl [C11]; · iexact C11
    iexact C12
  isplitr [O0 O1]
  · isplitl [G0 G1]
    · isplitl [G0]; · iexact G0
      iexact G1
    isplitl [U0]; · iexact U0
    iexact U1
  isplitl [O0]; · iexact O0
  iexact O1

/-! ## The run -/

set_option maxHeartbeats 800000 in
/-- The host's operations before the region. -/
theorem host_prefix (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
set_option maxHeartbeats 800000 in
/-- The run: every array as the points leave it, every semaphore at rest. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := host_prefix m Variants.none) (hA := A_eq m)
    (hin := fun c => enter m c) (hout := fun c => leave m c)

/-- Running leaves the arguments as they were. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.FfnHand

end
-- ==== Proof.FfnClaims.lean ====
module

public import proofs.«01_k».proof.Defs
public import proofs.«01_k».proof.Proof.FfnLaunch
public import proofs.«01_k».proof.Proof.Gen.Ffn
public import proofs.«01_k».proof.Proof.Gen.FfnRefIdeal
public import proofs.«01_k».proof.Proof.Gen.FfnRefIdeal.Run

/-! The claims about the feed-forward sublayer. -/

@[expose] public section

noncomputable section

namespace Cert.Proof

open Idealize.ShloMosaic Idealize.SL.Sem

/-- The kernel, over any values, ends with its arguments kept and its counters at zero. -/
theorem ffn_frame_any {F : FTy → Type} [FloatOps F] (m ρ) :
    θ_run (Cert.FfnIdeal.defs (F := F)) (onTc (τ := Cert.FfnIdeal.τ) (Cert.FfnIdeal.main (F := F))) ⟨m, fun _ => 0, ρ⟩ (fun r => (∀ c : Dev Cert.FfnIdeal.nD,
        r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
        ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
        ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
        ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
        ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
        ∧ r.2.sem = fun _ => 0) :=
  (θ_run Cert.FfnIdeal.defs _ _).mono (fun r h => ⟨fun c => Cert.FfnHand.args_kept m r h.1 c, h.2⟩) (Cert.FfnHand.run_main (F := F) m ρ)

/-- The frame over the ideal fields. -/
theorem ffn_frame_ideal : Cert.quiescent_FfnIdeal := fun m ρ _ => ffn_frame_any (F := Ideal) m ρ

/-- The two programs call one body. -/
theorem ffn_body_eq : Cert.Ffn.defs₀ (F := Bits) = Cert.FfnIdeal.defs₀ (F := Bits) := by
  unfold Cert.Ffn.defs₀ Cert.FfnIdeal.defs₀
  refine congrArg Defs.onTc ?_
  funext l a
  match l, a with
  | ⟨0, _⟩, (t, s) => rfl

/-- The two programs have one table. -/
theorem ffn_defs_eq : Cert.Ffn.defs (F := Bits) = Cert.FfnIdeal.defs (F := Bits) := by
  unfold Cert.Ffn.defs Cert.FfnIdeal.defs
  rw [ffn_body_eq]
  rfl

/-- The frame of the kernel as compiled, by the same run: the two programs have one text. -/
theorem ffn_frame : Cert.quiescent_Ffn := fun m ρ _ => by
  rw [ffn_defs_eq]
  exact ffn_frame_any (F := Bits) m ρ

/-- The reference keeps its arguments; it has no counters. -/
theorem ffn_frame_reference : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

end Cert.Proof

end
-- ==== Proof.FfnRef.lean ====
module

public import proofs.«01_k».proof.Proof.Gen.FfnRefIdeal.Read
public import Idealize.ShloMosaic.Lib.Pipeline.ValueKit

/-! The feed-forward sublayer's reference, index by index: the gated hidden units, the residual row, its normalisation. -/

@[expose] public section

set_option maxRecDepth 16384

noncomputable section

open Idealize.ShloMosaic Idealize.ShloMosaic.TcCoe Idealize.SL.Sem

namespace Cert.FfnRef

open Cert.FfnRefIdeal Cert.FfnRefIdeal.Read

/-- A gated hidden unit. -/
def unit (g u : EReal) : EReal := g * Ideal.logistic g * u

/-- The layer norm of a row at one place. -/
def lnorm (y : Fin 2048 → EReal) (g b : EReal) (d : Fin 2048) : EReal :=
  (y d - Ideal.div (∑ k, y k) (Ideal.ofBits .f32 0x45000000#32))
      * Ideal.rsqrt (Ideal.div (∑ k, (y k - Ideal.div (∑ k, y k) (Ideal.ofBits .f32 0x45000000#32))
          * (y k - Ideal.div (∑ k, y k) (Ideal.ofBits .f32 0x45000000#32))) (Ideal.ofBits .f32 0x45000000#32)
        + Ideal.ofBits .f32 0x3727C5AC#32) * g + b

/-- The gate of hidden unit `k` for a row. -/
def gate (x : Fin 2048 → EReal) (w : FVec Ideal S2048x11008 .f32) (k : Fin 5504) : EReal :=
  ∑ j : Fin 2048, x j * w (ix2 j ⟨k, by omega⟩)
/-- The linear part of hidden unit `k` for a row. -/
def up (x : Fin 2048 → EReal) (w : FVec Ideal S2048x11008 .f32) (k : Fin 5504) : EReal :=
  ∑ j : Fin 2048, x j * w (ix2 j ⟨5504 + k, by omega⟩)
/-- The row before normalisation: the scaled input plus half the feed-forward image. -/
def row (x : Fin 2048 → EReal) (w : FVec Ideal S2048x11008 .f32) (o : FVec Ideal S5504x2048 .f32) (d : Fin 2048) : EReal :=
  Ideal.ofBits .f32 0x3FB504F3#32 * x d
    + Ideal.ofBits .f32 0x3F000000#32 * ∑ k : Fin 5504, unit (gate x w k) (up x w k) * o (ix2 k d)

theorem gate_at (x w) (b : Fin 4) (s : Fin 4096) (k : Fin 5504) :
    val_main_v1 (F := Ideal) x w (ix3 b s k) = gate (fun j => x (ix3 b s j)) w k := by
  pointwise [val_main_v1, val_main_v0, gate]
  try blk_ext

theorem up_at (x w) (b : Fin 4) (s : Fin 4096) (k : Fin 5504) :
    val_main_v2 (F := Ideal) x w (ix3 b s k) = up (fun j => x (ix3 b s j)) w k := by
  pointwise [val_main_v2, val_main_v0, up]
  try blk_ext

/-- The word of one. -/
theorem ofBits_one : Ideal.ofBits .f32 0x3F800000#32 = 1 := by
  simp [Ideal.ofBits, Ideal.ieee]
  rw [← EReal.coe_mul]
  norm_num

theorem unit_at (x w) (b : Fin 4) (s : Fin 4096) (k : Fin 5504) :
    val_main_v4 (F := Ideal) x w (ix3 b s k) = unit (gate (fun j => x (ix3 b s j)) w k) (up (fun j => x (ix3 b s j)) w k) := by
  rw [val_main_v4_apply, val_main_v3_apply, val_main_call0_v5_apply, val_main_call0_v4_apply, val_main_call0_cst_0_apply,
    val_main_call0_v3_apply, val_main_call0_v2_apply, val_main_call0_cst_apply, val_main_call0_v1_apply, val_main_call0_v0_apply,
    gate_at, up_at]
  show gate _ w k * Ideal.div (Ideal.ofBits .f32 0x3F800000#32) (Ideal.ofBits .f32 0x3F800000#32 + Ideal.exp (-(gate _ w k))) * up _ w k = _
  rw [ofBits_one]
  rfl

theorem row_at (x w o) (b : Fin 4) (s : Fin 4096) (d : Fin 2048) :
    val_main_v10 (F := Ideal) x w o (ix3 b s d) = row (fun j => x (ix3 b s j)) w o d := by
  have e1 : ∀ k, lidx_main_v5 (ix3 b s d) k = ix3 b s k := fun k => by funext a; fin_cases a <;> rfl
  have e2 : ∀ k, ridx_main_v5 (ix3 b s d) k = ix2 k d := fun k => by funext a; fin_cases a <;> rfl
  rw [val_main_v10_apply, val_main_v9_apply, val_main_v8_apply, val_main_cst_0_apply, val_main_v7_apply, val_main_v6_apply,
    val_main_cst_apply, val_main_v5_apply]
  simp only [e1, e2, unit_at]
  rfl

/-- The mean of a row. -/
theorem mean_at (x w o) (b : Fin 4) (s : Fin 4096) (z : Fin 1) :
    val_main_v14 (F := Ideal) x w o (ix3 b s z)
      = Ideal.div (∑ k, row (fun j => x (ix3 b s j)) w o k) (Ideal.ofBits .f32 0x45000000#32) := by
  have e1 : idx_main_v12 (ix3 b s z) = ix2 b s := by funext a; fin_cases a <;> rfl
  have e2 : ∀ k, idx_main_v11 (ix2 b s) k = ix3 b s k := fun k => by funext a; fin_cases a <;> rfl
  rw [val_main_v14_apply, val_main_v13_apply, val_main_cst_2_apply, val_main_v12_apply, e1, val_main_v11_apply, val_main_cst_1_apply]
  simp only [e2, row_at]
  show Ideal.div (Ideal.ofBits .f32 0x00000000#32 + _) _ = _
  rw [Ideal.ofBits_zero_f32, zero_add]
  rfl

theorem centred_at (x w o) (b : Fin 4) (s : Fin 4096) (d : Fin 2048) :
    val_main_v16 (F := Ideal) x w o (ix3 b s d)
      = row (fun j => x (ix3 b s j)) w o d - Ideal.div (∑ k, row (fun j => x (ix3 b s j)) w o k) (Ideal.ofBits .f32 0x45000000#32) := by
  have e1 : idx_main_v15 (ix3 b s d) = ix3 (n0 := 4) (n1 := 4096) (n2 := 1) b s 0 := by funext a; fin_cases a <;> rfl
  rw [val_main_v16_apply, val_main_v15_apply, e1, mean_at, row_at]
  rfl

theorem centred'_at (x w o) (b : Fin 4) (s : Fin 4096) (d : Fin 2048) :
    val_main_v23 (F := Ideal) x w o (ix3 b s d)
      = row (fun j => x (ix3 b s j)) w o d - Ideal.div (∑ k, row (fun j => x (ix3 b s j)) w o k) (Ideal.ofBits .f32 0x45000000#32) := by
  have e1 : idx_main_v22 (ix3 b s d) = ix3 (n0 := 4) (n1 := 4096) (n2 := 1) b s 0 := by funext a; fin_cases a <;> rfl
  rw [val_main_v23_apply, val_main_v22_apply, e1, mean_at, row_at]
  rfl

/-- The variance of a row. -/
theorem variance_at (x w o) (b : Fin 4) (s : Fin 4096) (z : Fin 1) :
    val_main_v21 (F := Ideal) x w o (ix3 b s z)
      = Ideal.div (∑ k, (row (fun j => x (ix3 b s j)) w o k - Ideal.div (∑ k, row (fun j => x (ix3 b s j)) w o k) (Ideal.ofBits .f32 0x45000000#32))
          * (row (fun j => x (ix3 b s j)) w o k - Ideal.div (∑ k, row (fun j => x (ix3 b s j)) w o k) (Ideal.ofBits .f32 0x45000000#32)))
        (Ideal.ofBits .f32 0x45000000#32) := by
  have e1 : idx_main_v19 (ix3 b s z) = ix2 b s := by funext a; fin_cases a <;> rfl
  have e2 : ∀ k, idx_main_v18 (ix2 b s) k = ix3 b s k := fun k => by funext a; fin_cases a <;> rfl
  rw [val_main_v21_apply, val_main_v20_apply, val_main_cst_4_apply, val_main_v19_apply, e1, val_main_v18_apply, val_main_cst_3_apply]
  simp only [e2, val_main_v17_apply, centred_at]
  show Ideal.div (Ideal.ofBits .f32 0x00000000#32 + _) _ = _
  rw [Ideal.ofBits_zero_f32, zero_add]
  rfl

/-- The result: the normalised row. -/
theorem normal_at (x w o g β) (b : Fin 4) (s : Fin 4096) (d : Fin 2048) :
    val_main_v34 (F := Ideal) x w o g β (ix3 b s d) = lnorm (row (fun j => x (ix3 b s j)) w o) (g (ix1 d)) (β (ix1 d)) d := by
  have e1 : idx_main_v27 (ix3 b s d) = ix3 (n0 := 4) (n1 := 4096) (n2 := 1) b s 0 := by funext a; fin_cases a <;> rfl
  have e2 : idx_main_v29 (idx_main_v30 (ix3 b s d)) = ix1 d := by funext a; fin_cases a <;> rfl
  have e3 : idx_main_v32 (idx_main_v33 (ix3 b s d)) = ix1 d := by funext a; fin_cases a <;> rfl
  rw [val_main_v34_apply, val_main_v33_apply, val_main_v32_apply, e3, val_main_v31_apply, val_main_v30_apply, val_main_v29_apply, e2,
    val_main_v28_apply, val_main_v27_apply, e1, val_main_v26_apply, val_main_v25_apply, val_main_v24_apply, val_main_cst_5_apply,
    variance_at, centred'_at]
  rfl

/-- The result, its two leading axes as one. -/
theorem result_at (x w o g β) (b : Fin 4) (s : Fin 4096) (d : Fin 2048) :
    val_main_v35 (F := Ideal) x w o g β (ix2 ⟨b * 4096 + s, by omega⟩ d)
      = lnorm (row (fun j => x (ix3 b s j)) w o) (g (ix1 d)) (β (ix1 d)) d := by
  rw [← normal_at]
  pointwise [val_main_v35]
  blk_ext

end Cert.FfnRef

end
-- ==== Proof.FfnTiles.lean ====
module

public import proofs.«01_k».proof.Proof.FfnRun
public import proofs.«01_k».proof.Proof.FfnRef

/-! The feed-forward kernel's payloads and weight tiles, index by index. -/

@[expose] public section

set_option maxRecDepth 16384

noncomputable section

open Idealize.ShloMosaic Idealize.ShloMosaic.TcCoe Idealize.SL.Sem

namespace Cert.FfnHand

open Cert.FfnIdeal Cert.FfnIdeal.Gen Cert.FfnRef

/-! ## The payloads -/

/-- What a tile of 512 hidden units adds to a row's place. -/
def part (xb : FVec Ideal S512x2048 .bf16) (G U : FVec Ideal S2048x512 .bf16) (W : FVec Ideal S512x2048 .bf16)
    (r : Fin 512) (d : Fin 2048) : EReal :=
  ∑ e : Fin 512, unit (∑ j : Fin 2048, xb (ix2 r j) * G (ix2 j e)) (∑ j : Fin 2048, xb (ix2 r j) * U (ix2 j e)) * W (ix2 e d)

theorem zero_at (r : Fin 512) (d : Fin 2048) : k0_pay3 (F := Ideal) (ix2 r d) = 0 := by
  pointwise [k0_pay3]

theorem start_at (xb G U W) (r : Fin 512) (d : Fin 2048) :
    k0_pay7 (F := Ideal) (k0_pay6 xb G U) W (constant S512x2048 .f32 0x00000000#32) (ix2 r d) = part xb G U W r d := by
  pointwise [k0_pay7, k0_pay6, part, unit]

theorem next_at (acc xb G U W) (r : Fin 512) (d : Fin 2048) :
    k0_pay8 (F := Ideal) acc xb G U W (ix2 r d) = acc (ix2 r d) + part xb G U W r d := by
  pointwise [k0_pay8, part, unit]

theorem ninth_at (acc xb G U W) (r : Fin 512) (d : Fin 2048) :
    k0_pay9 (F := Ideal) acc xb G U W (ix2 r d) = acc (ix2 r d) + part xb G U W r d := by
  pointwise [k0_pay9, part, unit]

theorem rounded_at (x : FVec Ideal S512x2048 .f32) (r : Fin 512) (d : Fin 2048) : (k0_pay4 (F := Ideal) x (ix2 r d) : EReal) = x (ix2 r d) := by
  pointwise [k0_pay4]

theorem tail_at (acc xb G U W x) (r : Fin 512) (d : Fin 2048) :
    k0_pay1 (F := Ideal) acc (k0_pay10 xb G U) W x (ix2 r d)
      = Ideal.ofBits .f32 0x3FB504F3#32 * x (ix2 r d)
        + Ideal.ofBits .f32 0x3F000000#32 * (acc (ix2 r d)
          + ∑ e : Fin 384, unit (∑ j : Fin 2048, xb (ix2 r j) * G (ix2 j e)) (∑ j : Fin 2048, xb (ix2 r j) * U (ix2 j e)) * W (ix2 e d)) := by
  pointwise [k0_pay1, k0_pay10, unit]

theorem norm_at (y : FVec Ideal S512x2048 .f32) (g b : FVec Ideal S1x2048 .f32) (r : Fin 512) (d : Fin 2048) :
    k0_pay5 (F := Ideal) y g b (ix2 r d) = lnorm (fun k => y (ix2 r k)) (g (ix2 0 d)) (b (ix2 0 d)) d := by
  pointwise [k0_pay5, lnorm]

theorem last_norm_at (y : FVec Ideal S512x2048 .f32) (g b : FVec Ideal S1x2048 .f32) (r : Fin 512) (d : Fin 2048) :
    k0_pay2 (F := Ideal) y g b (ix2 r d) = lnorm (fun k => y (ix2 r k)) (g (ix2 0 d)) (b (ix2 0 d)) d := by
  pointwise [k0_pay2, lnorm]

/-! ## The weights' tiles -/

section Tiles

variable (c : Dev nD) (XI : FVec Ideal S2048x11008 .bf16) (XO : FVec Ideal S5504x2048 .bf16)

theorem gateV_at (b : Fin 10) (j : Fin 2048) (e : Fin 512) : (gateV (F := Ideal) c XI b (ix2 j e) : EReal) = XI (ix2 j ⟨512 * b + e, by omega⟩) := by
  show XI ((gateT b).view.emb (ix2 j e)) = _
  refine congrArg XI (funext fun a => Fin.ext ?_)
  fin_cases a
  · show 0 + 1 * j.val = j.val; omega
  · show 512 * b.val + 1 * e.val = 512 * b.val + e.val; omega

theorem upV_at (b : Fin 10) (j : Fin 2048) (e : Fin 512) : (upV (F := Ideal) c XI b (ix2 j e) : EReal) = XI (ix2 j ⟨5504 + (512 * b + e), by omega⟩) := by
  show XI ((upT b).view.emb (ix2 j e)) = _
  refine congrArg XI (funext fun a => Fin.ext ?_)
  fin_cases a
  · show 0 + 1 * j.val = j.val; omega
  · show (5504 + 512 * b.val) + 1 * e.val = 5504 + (512 * b.val + e.val); omega

theorem rowV_at (b : Fin 10) (e : Fin 512) (d : Fin 2048) : (rowV (F := Ideal) c XO b (ix2 e d) : EReal) = XO (ix2 ⟨512 * b + e, by omega⟩ d) := by
  show XO ((rowT b).view.emb (ix2 e d)) = _
  refine congrArg XO (funext fun a => Fin.ext ?_)
  fin_cases a
  · show 512 * b.val + 1 * e.val = 512 * b.val + e.val; omega
  · show 0 + 1 * d.val = d.val; omega

theorem gateLV_at (j : Fin 2048) (e : Fin 384) : (gateLV (F := Ideal) c XI (ix2 j e) : EReal) = XI (ix2 j ⟨5120 + e, by omega⟩) := by
  show XI (gateL.view.emb (ix2 j e)) = _
  refine congrArg XI (funext fun a => Fin.ext ?_)
  fin_cases a
  · show 0 + 1 * j.val = j.val; omega
  · show 5120 + 1 * e.val = 5120 + e.val; omega

theorem upLV_at (j : Fin 2048) (e : Fin 384) : (upLV (F := Ideal) c XI (ix2 j e) : EReal) = XI (ix2 j ⟨5504 + (5120 + e), by omega⟩) := by
  show XI (upL.view.emb (ix2 j e)) = _
  refine congrArg XI (funext fun a => Fin.ext ?_)
  fin_cases a
  · show 0 + 1 * j.val = j.val; omega
  · show 10624 + 1 * e.val = 5504 + (5120 + e.val); omega

theorem rowLV_at (e : Fin 384) (d : Fin 2048) : (rowLV (F := Ideal) c XO (ix2 e d) : EReal) = XO (ix2 ⟨5120 + e, by omega⟩ d) := by
  show XO (rowL.view.emb (ix2 e d)) = _
  refine congrArg XO (funext fun a => Fin.ext ?_)
  fin_cases a
  · show 5120 + 1 * e.val = 5120 + e.val; omega
  · show 0 + 1 * d.val = d.val; omega

end Tiles

end Cert.FfnHand

end
-- ==== Proof.FfnRows.lean ====
module

public import proofs.«01_k».proof.Proof.FfnTiles

/-! The hidden units, tile by tile, add up to the whole feed-forward image of a row. -/

@[expose] public section

set_option maxRecDepth 16384

noncomputable section

open Idealize.ShloMosaic Idealize.ShloMosaic.TcCoe Idealize.SL.Sem

namespace Cert.FfnHand

open Cert.FfnIdeal Cert.FfnIdeal.Gen Cert.FfnRef

variable (c : Dev nD) (XI : FVec Ideal S2048x11008 .bf16) (XO : FVec Ideal S5504x2048 .bf16)
  (w : FVec Ideal S2048x11008 .f32) (o : FVec Ideal S5504x2048 .f32)

/-- What hidden unit `k` adds at place `d`, over all numbers `k`. -/
def term (x : Fin 2048 → EReal) (d : Fin 2048) (k : ℕ) : EReal :=
  if h : k < 5504 then unit (gate x w ⟨k, h⟩) (up x w ⟨k, h⟩) * o (ix2 ⟨k, h⟩ d) else 0

/-- Hidden unit `k`'s term is the term of its number. -/
theorem term_of_lt (x : Fin 2048 → EReal) (d : Fin 2048) (k : ℕ) (h : k < 5504) :
    term w o x d k = unit (gate x w ⟨k, h⟩) (up x w ⟨k, h⟩) * o (ix2 ⟨k, h⟩ d) := dif_pos h

/-- Hidden units `s` to `s + n`, computed from their columns and rows of the weights, add their terms. -/
theorem tile_sum (x : Fin 2048 → EReal) (d : Fin 2048) (n s : ℕ) (hs : s + n ≤ 5504) (X : Fin 2048 → EReal) (G U : Fin 2048 → Fin n → EReal)
    (W : Fin n → EReal) (hX : ∀ j, X j = x j) (hG : ∀ j e, G j e = w (ix2 j ⟨s + e, by omega⟩))
    (hU : ∀ j e, U j e = w (ix2 j ⟨5504 + (s + e), by omega⟩)) (hW : ∀ e, W e = o (ix2 ⟨s + e, by omega⟩ d)) :
    ∑ e : Fin n, unit (∑ j, X j * G j e) (∑ j, X j * U j e) * W e = ∑ e ∈ Finset.range n, term w o x d (s + e) := by
  rw [Finset.sum_range]
  refine Finset.sum_congr rfl fun e _ => ?_
  rw [term_of_lt w o x d (s + e) (by omega)]
  simp only [hX, hG, hU, hW, gate, up]

/-- Ten tiles of 512 hidden units and one of 384 are all 5504. -/
theorem whole_eq (x : Fin 2048 → EReal) (d : Fin 2048) :
    (∑ i ∈ Finset.range 4608, term w o x d i + ∑ e ∈ Finset.range 512, term w o x d (4608 + e))
        + ∑ e ∈ Finset.range 384, term w o x d (5120 + e)
      = ∑ k : Fin 5504, unit (gate x w k) (up x w k) * o (ix2 k d) := by
  rw [← Finset.sum_range_add, show 4608 + 512 = 5120 from rfl, ← Finset.sum_range_add, show 5120 + 384 = 5504 from rfl, Finset.sum_range]
  exact Finset.sum_congr rfl fun k _ => term_of_lt w o x d k k.isLt

variable (hI : ∀ j k, (XI (ix2 j k) : EReal) = w (ix2 j k)) (hO : ∀ k d, (XO (ix2 k d) : EReal) = o (ix2 k d))
  (xb : FVec Ideal S512x2048 .bf16) (r : Fin 512) (x : Fin 2048 → EReal) (hx : ∀ j, (xb (ix2 r j) : EReal) = x j)

include hI hO hx

/-- Tile `b` adds the terms of its 512 hidden units. -/
theorem part_eq (b : Fin 10) (d : Fin 2048) :
    part xb (gateV (F := Ideal) c XI b) (upV (F := Ideal) c XI b) (rowV (F := Ideal) c XO b) r d
      = ∑ e ∈ Finset.range 512, term w o x d (512 * b + e) :=
  tile_sum w o x d 512 (512 * b) (by omega) (fun j => xb (ix2 r j)) (fun j e => gateV (F := Ideal) c XI b (ix2 j e))
    (fun j e => upV (F := Ideal) c XI b (ix2 j e)) (fun e => rowV (F := Ideal) c XO b (ix2 e d)) hx
    (fun j e => (gateV_at c XI b j e).trans (hI _ _)) (fun j e => (upV_at c XI b j e).trans (hI _ _))
    (fun e => (rowV_at c XO b e d).trans (hO _ _))

omit hI hO hx in
/-- What the last, narrower tile adds. -/
def lastPart (d : Fin 2048) : EReal :=
  ∑ e : Fin 384, unit (∑ j : Fin 2048, xb (ix2 r j) * (gateLV (F := Ideal) c XI) (ix2 j e))
    (∑ j : Fin 2048, xb (ix2 r j) * (upLV (F := Ideal) c XI) (ix2 j e)) * (rowLV (F := Ideal) c XO) (ix2 e d)

/-- The last, narrower tile adds the terms of its 384 hidden units. -/
theorem lastPart_eq (d : Fin 2048) : lastPart c XI XO xb r d = ∑ e ∈ Finset.range 384, term w o x d (5120 + e) :=
  tile_sum w o x d 384 5120 (by omega) (fun j => xb (ix2 r j)) (fun j e => gateLV (F := Ideal) c XI (ix2 j e))
    (fun j e => upLV (F := Ideal) c XI (ix2 j e)) (fun e => rowLV (F := Ideal) c XO (ix2 e d)) hx
    (fun j e => (gateLV_at c XI j e).trans (hI _ _)) (fun j e => (upLV_at c XI j e).trans (hI _ _))
    (fun e => (rowLV_at c XO e d).trans (hO _ _))

/-- After `k` trips the accumulator holds the terms of the first `k + 1` tiles. -/
theorem acc_eq (d : Fin 2048) : ∀ k, k ≤ 8 →
    (accAt (F := Ideal) c XI XO xb (accStart (F := Ideal) c XI XO xb) k (ix2 r d) : EReal) = ∑ i ∈ Finset.range (512 * (k + 1)), term w o x d i
  | 0, _ => by
    refine (start_at xb (gateV (F := Ideal) c XI 0) (upV (F := Ideal) c XI 0) (rowV (F := Ideal) c XO 0) r d).trans ?_
    rw [part_eq c XI XO w o hI hO xb r x hx]
    simp
  | k + 1, hk => by
    refine (next_at (accAt (F := Ideal) c XI XO xb (accStart (F := Ideal) c XI XO xb) k) xb (gateV (F := Ideal) c XI (Ring.bk 10 (k + 1))) (upV (F := Ideal) c XI (Ring.bk 10 (k + 1)))
      (rowV (F := Ideal) c XO (Ring.bk 10 (k + 1))) r d).trans ?_
    rw [part_eq c XI XO w o hI hO xb r x hx, acc_eq d k (by omega), show 512 * (k + 1 + 1) = 512 * (k + 1) + 512 by omega,
      Finset.sum_range_add, Ring.bk_val (by omega)]

omit hI hO hx in
/-- A point's last two tiles join the accumulator, and the block's half of the sum is added to its scaled input. -/
theorem rows_sum (A X : FVec Ideal S512x2048 .f32) (d : Fin 2048) :
    (k0_pay1 (F := Ideal) (k0_pay9 A xb (gateV (F := Ideal) c XI 9) (upV (F := Ideal) c XI 9) (rowV (F := Ideal) c XO 9))
        (k0_pay10 xb (gateLV (F := Ideal) c XI) (upLV (F := Ideal) c XI)) (rowLV (F := Ideal) c XO) X (ix2 r d) : EReal)
      = Ideal.ofBits .f32 0x3FB504F3#32 * X (ix2 r d) + Ideal.ofBits .f32 0x3F000000#32
        * (A (ix2 r d) + part xb (gateV (F := Ideal) c XI 9) (upV (F := Ideal) c XI 9) (rowV (F := Ideal) c XO 9) r d
          + lastPart c XI XO xb r d) := by
  rw [tail_at, ninth_at]
  rfl

omit hx in
/-- The rows carried on: the block scaled plus half its feed-forward image. -/
theorem rowsOf_eq (X : FVec Ideal S512x2048 .f32) (hX : ∀ j, (X (ix2 r j) : EReal) = x j) (d : Fin 2048) :
    (rowsOf (F := Ideal) c XI XO X (ix2 r d) : EReal) = row x w o d := by
  have hb : ∀ j, (k0_pay4 (F := Ideal) X (ix2 r j) : EReal) = x j := fun j => (rounded_at X r j).trans (hX j)
  have h8 := acc_eq c XI XO w o hI hO (k0_pay4 X) r x hb d 8 (le_refl _)
  have h9 := part_eq c XI XO w o hI hO (k0_pay4 X) r x hb 9 d
  have hl := lastPart_eq c XI XO w o hI hO (k0_pay4 X) r x hb d
  unfold rowsOf resid
  generalize accAt (F := Ideal) c XI XO (k0_pay4 (F := Ideal) X) (accStart (F := Ideal) c XI XO (k0_pay4 (F := Ideal) X)) 8 = A at h8 ⊢
  rw [rows_sum c XI XO (k0_pay4 X) r A X d, h8, h9, hl, hX]
  exact congrArg (fun z => Ideal.ofBits .f32 0x3FB504F3#32 * x d + Ideal.ofBits .f32 0x3F000000#32 * z) (whole_eq w o x d)

end Cert.FfnHand

end
-- ==== Proof.FfnValue.lean ====
module

public import proofs.«01_k».proof.Proof.FfnRows
public import proofs.«01_k».proof.Proof.FfnLaunch

/-! The feed-forward kernel's result array is the reference's. -/

@[expose] public section

set_option maxRecDepth 16384

noncomputable section

open Idealize.ShloMosaic Idealize.ShloMosaic.TcCoe Idealize.SL.Sem
open Idealize.ShloMosaic.Pipeline

namespace Cert.FfnHand

open Cert.FfnIdeal Cert.FfnIdeal.Gen Cert.FfnRef

variable (m : (ℓ : Loc nD τ sig) → Buf (Elt Ideal) ℓ)

/-! ## The blocks a point reads -/

/-- The block indices: point `t` reads row tile `min t 31` and writes row tile `t - 1`. -/
theorem idx_facts : ∀ t : Fin cfg0.N, win0_0.index t = ![min t.val 31, 0] ∧ win0_1.index t = ![0, 0]
    ∧ win0_2.index t = ![0, 0] ∧ win0_3.index t = ![t.val - 1, 0] :=
  (by decide +kernel : ∀ t : Fin grid0.N, _)

theorem lt_points (t : Fin cfg0.N) : t.val < 33 := lt_of_lt_of_eq t.isLt N_0

/-- The reshape of the input that the host makes, at one index. -/
theorem reshape_x (A : FVec Ideal S4x4096x2048 .f32) (t : ℕ) (ht : t < 32) (r : Fin 512) (d : Fin 2048) :
    shapeCast S16384x2048 A shapeCasts_S4x4096x2048_S16384x2048 (ix2 (n0 := 16384) (n1 := 2048) ⟨t * 512 + r, by omega⟩ d)
      = A (ix3 ⟨t / 8, by omega⟩ ⟨t % 8 * 512 + r, by omega⟩ d) := by
  pointwise
  blk_ext

/-- The reshape of a gain or a shift that the host makes, at one index. -/
theorem reshape_g (A : FVec Ideal S2048 .f32) (d : Fin 2048) :
    shapeCast S1x2048 A shapeCasts_S2048_S1x2048 (ix2 (n0 := 1) (n1 := 2048) 0 d) = A (ix1 d) := by
  pointwise
  blk_ext

theorem x_read (c : Fin nD) (t : Fin cfg0.N) (ht : t.val < 32) (r : Fin 512) (d : Fin 2048) :
    (xAt m c t (ix2 r d) : EReal)
      = m ((c : Thread nD τ).loc main_arg0) (ix3 ⟨t / 8, by omega⟩ ⟨t % 8 * 512 + r, by omega⟩ d) := by
  have emb : ((cfg0.win 0).blk t).view.emb (ix2 r d) = ix2 (n0 := 16384) (n1 := 2048) ⟨t * 512 + r, by omega⟩ d := by
    have h : min t.val 31 = t.val := by omega
    blk_ext [idx_facts t, h]
  simp only [xAt, iblk]
  entry_read
  change shapeCast S16384x2048 (m ((c : Thread nD τ).loc main_arg0)) shapeCasts_S4x4096x2048_S16384x2048
    (((cfg0.win 0).blk t).view.emb (ix2 r d)) = _
  rw [emb]
  exact reshape_x (m ((c : Thread nD τ).loc main_arg0)) t ht r d

theorem gain_read (c : Fin nD) (t : Fin cfg0.N) (d : Fin 2048) :
    (gAt m c t (ix2 0 d) : EReal) = m ((c : Thread nD τ).loc main_arg3) (ix1 d) := by
  have emb : ((cfg0.win 1).blk t).view.emb (ix2 0 d) = ix2 (n0 := 1) (n1 := 2048) 0 d := by
    blk_ext [idx_facts t]
  simp only [gAt, iblk]
  entry_read
  change shapeCast S1x2048 (m ((c : Thread nD τ).loc main_arg3)) shapeCasts_S2048_S1x2048
    (((cfg0.win 1).blk t).view.emb (ix2 0 d)) = _
  rw [emb]
  exact reshape_g (m ((c : Thread nD τ).loc main_arg3)) d

theorem shift_read (c : Fin nD) (t : Fin cfg0.N) (d : Fin 2048) :
    (bAt m c t (ix2 0 d) : EReal) = m ((c : Thread nD τ).loc main_arg4) (ix1 d) := by
  have emb : ((cfg0.win 2).blk t).view.emb (ix2 0 d) = ix2 (n0 := 1) (n1 := 2048) 0 d := by
    blk_ext [idx_facts t]
  simp only [bAt, iblk]
  entry_read
  change shapeCast S1x2048 (m ((c : Thread nD τ).loc main_arg4)) shapeCasts_S2048_S1x2048
    (((cfg0.win 2).blk t).view.emb (ix2 0 d)) = _
  rw [emb]
  exact reshape_g (m ((c : Thread nD τ).loc main_arg4)) d

theorem in_read (c : Fin nD) (j : Fin 2048) (k : Fin 11008) :
    ((inV m c : FVec Ideal S2048x11008 .bf16) (ix2 j k) : EReal) = m ((c : Thread nD τ).loc main_arg1) (ix2 j k) := by
  unfold inV
  entry_read
  rfl

theorem out_read (c : Fin nD) (k : Fin 5504) (d : Fin 2048) :
    ((outV m c : FVec Ideal S5504x2048 .bf16) (ix2 k d) : EReal) = m ((c : Thread nD τ).loc main_arg2) (ix2 k d) := by
  unfold outV
  entry_read
  rfl

/-! ## The block and the array -/

/-- The result of the reference on the launch's arrays. -/
abbrev refResult (c : Dev nD) : FVec Ideal S16384x2048 .f32 :=
  Cert.FfnRefIdeal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What point `n` hands to point `n + 1`, at one index: the reference's row before normalisation. -/
theorem carried_at (c : Fin nD) (n : ℕ) (hn : n < 32) (r : Fin 512) (d : Fin 2048) :
    (carried m c (n + 1) (ix2 r d) : EReal)
      = row (fun j => m ((c : Thread nD τ).loc main_arg0) (ix3 ⟨n / 8, by omega⟩ ⟨n % 8 * 512 + r, by omega⟩ j))
          (m ((c : Thread nD τ).loc main_arg1)) (m ((c : Thread nD τ).loc main_arg2)) d := by
  have hp : (pt n).val = n := Nat.mod_eq_of_lt (by omega)
  refine rowsOf_eq c (inV m c) (outV m c) _ _ (in_read m c) (out_read m c) r _ (xAt m c (pt n)) (fun j => ?_) d
  refine (x_read m c (pt n) (by omega) r j).trans ?_
  simp only [hp]

/-- The block point `n + 1` leaves, at one index. -/
theorem res_at (c : Fin nD) (t : Fin cfg0.N) (n : ℕ) (hn : n < 32) (ht : t.val = n + 1) (r : Fin 512) (d : Fin 2048) :
    (resAfter m c t (ix2 r d) : EReal) = refResult m c (ix2 ⟨n * 512 + r, by omega⟩ d) := by
  have key := result_at (m ((c : Thread nD τ).loc main_arg0)) (m ((c : Thread nD τ).loc main_arg1))
    (m ((c : Thread nD τ).loc main_arg2)) (m ((c : Thread nD τ).loc main_arg3)) (m ((c : Thread nD τ).loc main_arg4))
    ⟨n / 8, by omega⟩ ⟨n % 8 * 512 + r, by omega⟩ d
  have e1 : n / 8 * 4096 + (n % 8 * 512 + r) = n * 512 + r := by omega
  simp only [e1] at key
  rw [refResult, key]
  have both : (resAfter m c t (ix2 r d) : EReal)
      = lnorm (fun k => carried m c (n + 1) (ix2 r k)) (gAt m c t (ix2 0 d)) (bAt m c t (ix2 0 d)) d := by
    unfold resAfter
    rw [ht]
    split
    · exact norm_at (carried m c (n + 1)) (gAt m c t) (bAt m c t) r d
    · exact last_norm_at (carried m c (n + 1)) (gAt m c t) (bAt m c t) r d
  rw [both, gain_read, shift_read]
  simp only [carried_at m c n hn]

/-- The place of a block's index in the result. -/
theorem result_emb (t : Fin cfg0.N) (n : ℕ) (hn : n < 32) (ht : t.val = n + 1) (y : S512x2048.Idx) :
    ((cfg0.win 3).blk t).view.emb y = ix2 (n0 := 16384) (n1 := 2048) ⟨n * 512 + y 0, by have := (y 0).isLt; change _ < 512 at this; omega⟩ (y 1) := by
  have h : t.val - 1 = n := by omega
  blk_ext [idx_facts t, h]

/-- Every point that writes its block back follows another. -/
theorem written_pos : ∀ t : Fin cfg0.N, (cfg0.win 3).flush t → 0 < t.val := by decide +kernel

/-- The kernel's result is the reference's. -/
theorem final (c : Dev nD) : (dats m 0 c).arrAt 3 (cfgs 0).N = refResult m c := by
  refine (dats m 0 c).arrAt_eq_of_covers 3 _ (by decide +kernel) fun t hw y => ?_
  have h0 := written_pos t hw
  have h1 := lt_points t
  obtain ⟨n, hn⟩ : ∃ n, t.val = n + 1 := ⟨t.val - 1, by omega⟩
  blk_simp
  rw [after0_3]
  have hy : y = ix2 (y 0) (y 1) := by blk_ext
  exact (congrArg (resAfter m c t) hy).trans ((res_at m c t n (by omega) hn (y 0) (y 1)).trans
    (congrArg (refResult m c) (result_emb t n (by omega) hn y).symm))

end Cert.FfnHand

end
-- ==== Proof.FfnAlgebraic.lean ====
module

public import proofs.«01_k».proof.Defs
public import proofs.«01_k».proof.Proof.Gen.FfnRefIdeal.Run
public import proofs.«01_k».proof.Proof.FfnValue

/-! The feed-forward kernel over the extended reals computes the reference's result. -/

@[expose] public section

noncomputable section

namespace Cert.Proof

open Idealize.ShloMosaic Idealize.SL.Sem

/-- The kernel and the reference end with the same result, whatever the inputs. -/
theorem ffn_algebraic : Cert.algebraic_FfnIdeal_FfnRefIdeal := by
  intro m g m' g' _ hagree
  refine ⟨fun c => Cert.FfnHand.refResult m c, ?_, ?_⟩
  · refine (θ_run Cert.FfnIdeal.defs _ _).mono (fun r h c => ?_) (Cert.FfnHand.run_main (F := Ideal) m g)
    exact ⟨((h.1 c).1 3).trans (Cert.FfnHand.final m c), Cert.FfnHand.args_kept m r h.1 c⟩
  · refine (θ_run Cert.FfnRefIdeal.defs _ _).mono (fun r h c => ?_) (Cert.FfnRefIdeal.Value.run m' g')
    obtain ⟨hv, hk⟩ := h c
    refine ⟨(hv.trans (Cert.FfnRefIdeal.Read.val_main_v35_eq (F := Ideal) m' c)).trans ?_, hk⟩
    rw [(hagree c).1, (hagree c).2.1, (hagree c).2.2.1, (hagree c).2.2.2.1, (hagree c).2.2.2.2]

end Cert.Proof

end
-- ==== Proof.ProjectValue.lean ====
module

public import proofs.«01_k».proof.Defs
public import proofs.«01_k».proof.Proof.Gen.Project.Frame
public import proofs.«01_k».proof.Proof.Gen.ProjectIdeal.Frame
public import proofs.«01_k».proof.Proof.Gen.ProjectIdeal.Value
public import proofs.«01_k».proof.Proof.Gen.ProjectRefIdeal.Run
public import proofs.«01_k».proof.Proof.Gen.ProjectRefIdeal.Read
public import Idealize.ShloMosaic.Lib.Pipeline.ValueKit

/-! The input projection of the odd layer: each point's block of the result is the reference's. -/

@[expose] public section

set_option maxRecDepth 16384

noncomputable section

open Idealize.ShloMosaic Idealize.ShloMosaic.TcCoe Idealize.SL.Sem
open Idealize.ShloMosaic.Pipeline

namespace Cert.ProjectIdeal.Value

open Cert.ProjectIdeal Cert.ProjectIdeal.Gen

variable (m : (ℓ : Loc nD τ sig) → Buf (Elt Ideal) ℓ)

/-- The block indices: point `t` takes row tile `t / 3` and column tile `t % 3`. -/
theorem idx_facts : ∀ t : Fin cfg0.N, win0_0.index t = ![t.val / 3, 0] ∧ win0_1.index t = ![0, t.val % 3]
    ∧ win0_2.index t = ![t.val / 3, t.val % 3] :=
  (by decide +kernel : ∀ t : Fin grid0.N, _)

theorem lt_points (t : Fin cfg0.N) : t.val < 48 := lt_of_lt_of_eq t.isLt N_0

/-- The reshape of the input that the host makes, at one index. -/
theorem reshape_x (A : FVec Ideal S4x4096x2048 .f32) (t : ℕ) (ht : t < 16) (r : Fin 1024) (d : Fin 2048) :
    shapeCast S16384x2048 A shapeCasts_S4x4096x2048_S16384x2048 (ix2 (n0 := 16384) (n1 := 2048) ⟨t * 1024 + r, by omega⟩ d)
      = A (ix3 ⟨t / 4, by omega⟩ ⟨t % 4 * 1024 + r, by omega⟩ d) := by
  pointwise
  blk_ext

theorem x_read (c : Fin nD) (t : Fin cfg0.N) (r : Fin 1024) (d : Fin 2048) :
    iblk m c 0 t (ix2 r d)
      = m ((c : Thread nD τ).loc main_arg0) (ix3 ⟨t / 3 / 4, by have := lt_points t; omega⟩ ⟨t / 3 % 4 * 1024 + r, by omega⟩ d) := by
  have ht := lt_points t
  have emb : ((cfg0.win 0).blk t).view.emb (ix2 r d) = ix2 (n0 := 16384) (n1 := 2048) ⟨t / 3 * 1024 + r, by omega⟩ d := by
    blk_ext [idx_facts t]
  simp only [iblk]
  entry_read
  change shapeCast S16384x2048 (m ((c : Thread nD τ).loc main_arg0)) shapeCasts_S4x4096x2048_S16384x2048
    (((cfg0.win 0).blk t).view.emb (ix2 r d)) = _
  rw [emb]
  exact reshape_x (m ((c : Thread nD τ).loc main_arg0)) (t / 3) (by omega) r d

theorem weight_read (c : Fin nD) (t : Fin cfg0.N) (r d : Fin 2048) :
    iblk m c 1 t (ix2 r d) = m ((c : Thread nD τ).loc main_arg1) (ix2 r ⟨t % 3 * 2048 + d, by omega⟩) := by
  simp only [iblk]
  entry_read
  show m ((c : Thread nD τ).loc main_arg1) _ = _
  blk_ext [idx_facts t]

/-- The body at one index. -/
theorem product_at (x : FVec Ideal S1024x2048 .f32) (w : FVec Ideal S2048x2048 .bf16) (r : Fin 1024) (d : Fin 2048) :
    (k0_pay1 (F := Ideal) x w (ix2 r d) : EReal) = ∑ j : Fin 2048, x (ix2 r j) * w (ix2 j d) := by
  pointwise [k0_pay1]

/-- The reference at one index. -/
theorem result_at (x : FVec Ideal S4x4096x2048 .f32) (w : FVec Ideal S2048x6144 .f32) (b : Fin 4) (s : Fin 4096) (d : Fin 6144) :
    (Cert.ProjectRefIdeal.Read.val_main_v2 (F := Ideal) x w (ix2 ⟨b * 4096 + s, by omega⟩ d) : EReal)
      = ∑ j : Fin 2048, x (ix3 b s j) * w (ix2 j d) := by
  have key : (Cert.ProjectRefIdeal.Read.val_main_v1 (F := Ideal) x w (ix3 b s d) : EReal) = ∑ j : Fin 2048, x (ix3 b s j) * w (ix2 j d) := by
    pointwise [Cert.ProjectRefIdeal.Read.val_main_v1, Cert.ProjectRefIdeal.Read.val_main_v0]
  rw [← key]
  pointwise [Cert.ProjectRefIdeal.Read.val_main_v2]
  blk_ext

/-- The result of the reference on the launch's arrays. -/
abbrev refResult (c : Dev nD) : FVec Ideal S16384x6144 .bf16 :=
  Cert.ProjectRefIdeal.Read.val_main_v2 (F := Ideal) (m ((c : Thread nD τ).loc main_arg0)) (m ((c : Thread nD τ).loc main_arg1))

/-- A load of the whole block of rows. -/
theorem load_x (X : Vec Ideal S1024x2048 .f32) (r : Fin 1024) (d : Fin 2048) : (View.ld (Val := Elt Ideal) (e' := .f32) X r0_0 (ix2 r d) : EReal) = X (ix2 r d) := by
  pointwise
  blk_ext

/-- A load of the whole block of weights. -/
theorem load_w (X : Vec Ideal S2048x2048 .bf16) (r d : Fin 2048) : (View.ld (Val := Elt Ideal) (e' := .bf16) X r0_1 (ix2 r d) : EReal) = X (ix2 r d) := by
  pointwise
  blk_ext

/-- The place of a block's index in the result. -/
theorem result_emb (t : Fin cfg0.N) (y : S1024x2048.Idx) :
    ((cfg0.win 2).blk t).view.emb y = ix2 (n0 := 16384) (n1 := 6144)
      ⟨t / 3 * 1024 + y 0, by have := lt_points t; have := (y 0).isLt; change _ < 1024 at this; omega⟩
      ⟨t % 3 * 2048 + y 1, by have := (y 1).isLt; change _ < 2048 at this; omega⟩ := by
  blk_ext [idx_facts t]

/-- Point `t`'s block of the result is the reference's, at every index. -/
theorem point (c : Dev nD) (t : Fin cfg0.N) (r : Fin 1024) (d : Fin 2048) :
    (k0_pay1 (F := Ideal) (View.ld (iblk m c 0 t) r0_0) (View.ld (iblk m c 1 t) r0_1) (ix2 r d) : EReal)
      = refResult m c (((cfg0.win 2).blk t).view.emb (ix2 r d)) := by
  have ht := lt_points t
  have key := result_at (m ((c : Thread nD τ).loc main_arg0)) (m ((c : Thread nD τ).loc main_arg1))
    ⟨t / 3 / 4, by omega⟩ ⟨t / 3 % 4 * 1024 + r, by omega⟩ ⟨t % 3 * 2048 + d, by omega⟩
  have e1 : (t : ℕ) / 3 / 4 * 4096 + ((t : ℕ) / 3 % 4 * 1024 + r) = t / 3 * 1024 + r := by omega
  simp only [e1] at key
  rw [result_emb]
  refine (product_at _ _ r d).trans (Eq.trans (Finset.sum_congr rfl fun j _ => ?_) key.symm)
  exact congrArg₂ (fun a b : EReal => a * b) ((load_x (iblk m c 0 t) r j).trans (x_read m c t r j))
    ((load_w (iblk m c 1 t) j d).trans (weight_read m c t j d))

/-- The kernel's result is the reference's. -/
theorem final (c : Dev nD) : (dats m 0 c).arrAt 2 (cfgs 0).N = refResult m c := by
  refine (dats m 0 c).arrAt_eq_of_covers 2 _ (by decide +kernel) fun t _ y => ?_
  blk_simp
  rw [after0_2]
  unfold out0_2
  canon_tiles x h
  have hx : x = ix2 (x 0) (x 1) := by blk_ext
  have hy : y = x := by
    funext a
    fin_cases a
    · exact Fin.ext h0
    · exact Fin.ext h1
  rw [hy, hx]
  exact point m c t (x 0) (x 1)

end Cert.ProjectIdeal.Value

namespace Cert.Proof

/-- The kernel ends with its arguments kept and its counters at zero. -/
theorem project_frame : Cert.quiescent_Project := fun m ρ _ => Cert.Project.Gen.frame m ρ

/-- So does the kernel over the ideal fields. -/
theorem project_frame_ideal : Cert.quiescent_ProjectIdeal := fun m ρ _ => Cert.ProjectIdeal.Gen.frame m ρ

/-- The reference keeps its arguments; it has no counters. -/
theorem project_frame_reference : Cert.quiescent_ProjectRefIdeal := fun m ρ _ =>
  (θ_run Cert.ProjectRefIdeal.defs _ _).mono (fun r h => ⟨fun c => (h c).2, sem_eq_zero_of_no_sems (by decide) r.2⟩)
    (Cert.ProjectRefIdeal.Value.run (F := Ideal) m ρ)

/-- The kernel and the reference end with the same result, whatever the inputs. -/
theorem project_algebraic : Cert.algebraic_ProjectIdeal_ProjectRefIdeal := by
  intro m g m' g' _ hagree
  refine ⟨fun c => Cert.ProjectIdeal.Value.refResult m c, ?_, ?_⟩
  · refine (θ_run Cert.ProjectIdeal.defs _ _).mono (fun r h c => ?_) (Cert.ProjectIdeal.Value.run_blocks m g)
    exact ⟨(h c).1.trans (Cert.ProjectIdeal.Value.final m c), (h c).2⟩
  · refine (θ_run Cert.ProjectRefIdeal.defs _ _).mono (fun r h c => ?_) (Cert.ProjectRefIdeal.Value.run m' g')
    refine ⟨((h c).1.trans (Cert.ProjectRefIdeal.Read.val_main_v2_eq (F := Ideal) _ _)).trans ?_, (h c).2⟩
    rw [(hagree c).1, (hagree c).2]

end Cert.Proof

end
-- ==== Proof.OutprojRef.lean ====
module

public import proofs.«01_k».proof.Proof.Gen.OutprojRefIdeal.Read
public import proofs.«01_k».proof.Proof.FfnRef

/-! The output projection's reference, index by index: the residual row and its normalisation. -/

@[expose] public section

set_option maxRecDepth 16384

noncomputable section

open Idealize.ShloMosaic Idealize.ShloMosaic.TcCoe Idealize.SL.Sem

namespace Cert.OutprojRef

open Cert.OutprojRefIdeal Cert.OutprojRefIdeal.Read
open Cert.FfnRef (lnorm)

/-- The row before normalisation: the scaled input plus the projected heads' outputs. -/
def mixed (o : Fin 2048 → EReal) (w : FVec Ideal S2048x2048 .f32) (x : Fin 2048 → EReal) (d : Fin 2048) : EReal :=
  Ideal.ofBits .f32 0x3FB504F3#32 * x d + ∑ j : Fin 2048, o j * w (ix2 j d)

theorem row_at (o w x) (b : Fin 4) (s : Fin 4096) (d : Fin 2048) :
    val_main_v3 (F := Ideal) o w x (ix3 b s d) = mixed (fun j => o (ix3 b s j)) w (fun j => x (ix3 b s j)) d := by
  pointwise [val_main_v3, val_main_v2, val_main_v1, val_main_cst, val_main_v0, mixed]

/-- The mean of a row. -/
theorem mean_at (o w x) (b : Fin 4) (s : Fin 4096) (z : Fin 1) :
    val_main_v7 (F := Ideal) o w x (ix3 b s z)
      = Ideal.div (∑ k, mixed (fun j => o (ix3 b s j)) w (fun j => x (ix3 b s j)) k) (Ideal.ofBits .f32 0x45000000#32) := by
  have e1 : idx_main_v5 (ix3 b s z) = ix2 b s := by funext a; fin_cases a <;> rfl
  have e2 : ∀ k, idx_main_v4 (ix2 b s) k = ix3 b s k := fun k => by funext a; fin_cases a <;> rfl
  rw [val_main_v7_apply, val_main_v6_apply, val_main_cst_1_apply, val_main_v5_apply, e1, val_main_v4_apply, val_main_cst_0_apply]
  simp only [e2, row_at]
  show Ideal.div (Ideal.ofBits .f32 0x00000000#32 + _) _ = _
  rw [Ideal.ofBits_zero_f32, zero_add]
  rfl

theorem centred_at (o w x) (b : Fin 4) (s : Fin 4096) (d : Fin 2048) :
    val_main_v9 (F := Ideal) o w x (ix3 b s d)
      = mixed (fun j => o (ix3 b s j)) w (fun j => x (ix3 b s j)) d - Ideal.div (∑ k, mixed (fun j => o (ix3 b s j)) w (fun j => x (ix3 b s j)) k) (Ideal.ofBits .f32 0x45000000#32) := by
  have e1 : idx_main_v8 (ix3 b s d) = ix3 (n0 := 4) (n1 := 4096) (n2 := 1) b s 0 := by funext a; fin_cases a <;> rfl
  rw [val_main_v9_apply, val_main_v8_apply, e1, mean_at, row_at]
  rfl

theorem centred'_at (o w x) (b : Fin 4) (s : Fin 4096) (d : Fin 2048) :
    val_main_v16 (F := Ideal) o w x (ix3 b s d)
      = mixed (fun j => o (ix3 b s j)) w (fun j => x (ix3 b s j)) d - Ideal.div (∑ k, mixed (fun j => o (ix3 b s j)) w (fun j => x (ix3 b s j)) k) (Ideal.ofBits .f32 0x45000000#32) := by
  have e1 : idx_main_v15 (ix3 b s d) = ix3 (n0 := 4) (n1 := 4096) (n2 := 1) b s 0 := by funext a; fin_cases a <;> rfl
  rw [val_main_v16_apply, val_main_v15_apply, e1, mean_at, row_at]
  rfl

/-- The variance of a row. -/
theorem variance_at (o w x) (b : Fin 4) (s : Fin 4096) (z : Fin 1) :
    val_main_v14 (F := Ideal) o w x (ix3 b s z)
      = Ideal.div (∑ k, (mixed (fun j => o (ix3 b s j)) w (fun j => x (ix3 b s j)) k - Ideal.div (∑ k, mixed (fun j => o (ix3 b s j)) w (fun j => x (ix3 b s j)) k) (Ideal.ofBits .f32 0x45000000#32))
          * (mixed (fun j => o (ix3 b s j)) w (fun j => x (ix3 b s j)) k - Ideal.div (∑ k, mixed (fun j => o (ix3 b s j)) w (fun j => x (ix3 b s j)) k) (Ideal.ofBits .f32 0x45000000#32)))
        (Ideal.ofBits .f32 0x45000000#32) := by
  have e1 : idx_main_v12 (ix3 b s z) = ix2 b s := by funext a; fin_cases a <;> rfl
  have e2 : ∀ k, idx_main_v11 (ix2 b s) k = ix3 b s k := fun k => by funext a; fin_cases a <;> rfl
  rw [val_main_v14_apply, val_main_v13_apply, val_main_cst_3_apply, val_main_v12_apply, e1, val_main_v11_apply, val_main_cst_2_apply]
  simp only [e2, val_main_v10_apply, centred_at]
  show Ideal.div (Ideal.ofBits .f32 0x00000000#32 + _) _ = _
  rw [Ideal.ofBits_zero_f32, zero_add]
  rfl

/-- The result: the normalised row. -/
theorem normal_at (o w x g β) (b : Fin 4) (s : Fin 4096) (d : Fin 2048) :
    val_main_v27 (F := Ideal) o w x g β (ix3 b s d) = lnorm (mixed (fun j => o (ix3 b s j)) w (fun j => x (ix3 b s j))) (g (ix1 d)) (β (ix1 d)) d := by
  have e1 : idx_main_v20 (ix3 b s d) = ix3 (n0 := 4) (n1 := 4096) (n2 := 1) b s 0 := by funext a; fin_cases a <;> rfl
  have e2 : idx_main_v22 (idx_main_v23 (ix3 b s d)) = ix1 d := by funext a; fin_cases a <;> rfl
  have e3 : idx_main_v25 (idx_main_v26 (ix3 b s d)) = ix1 d := by funext a; fin_cases a <;> rfl
  rw [val_main_v27_apply, val_main_v26_apply, val_main_v25_apply, e3, val_main_v24_apply, val_main_v23_apply, val_main_v22_apply, e2,
    val_main_v21_apply, val_main_v20_apply, e1, val_main_v19_apply, val_main_v18_apply, val_main_v17_apply, val_main_cst_4_apply,
    variance_at, centred'_at]
  rfl

/-- The result, its two leading axes as one. -/
theorem result_at (o w x g β) (b : Fin 4) (s : Fin 4096) (d : Fin 2048) :
    val_main_v28 (F := Ideal) o w x g β (ix2 ⟨b * 4096 + s, by omega⟩ d)
      = lnorm (mixed (fun j => o (ix3 b s j)) w (fun j => x (ix3 b s j))) (g (ix1 d)) (β (ix1 d)) d := by
  rw [← normal_at]
  pointwise [val_main_v28]
  blk_ext

end Cert.OutprojRef

end
-- ==== Proof.OutprojValue.lean ====
module

public import proofs.«01_k».proof.Proof.Gen.OutprojIdeal.Value
public import proofs.«01_k».proof.Proof.OutprojRef
public import Idealize.ShloMosaic.Lib.Pipeline.ValueKit

/-! The output projection with its residual: each point's block of the result is the reference's. -/

@[expose] public section

set_option maxRecDepth 16384

noncomputable section

open Idealize.ShloMosaic Idealize.ShloMosaic.TcCoe Idealize.SL.Sem
open Idealize.ShloMosaic.Pipeline

namespace Cert.OutprojIdeal.Value

open Cert.OutprojIdeal Cert.OutprojIdeal.Gen
open Cert.FfnRef (lnorm)
open Cert.OutprojRef (mixed)

variable (m : (ℓ : Loc nD τ sig) → Buf (Elt Ideal) ℓ)

/-! ## The blocks a point reads -/

/-- The block indices: point `t` takes row tile `t`; the weights, the gain and the shift are whole. -/
theorem idx_facts : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

theorem lt_points (t : Fin cfg0.N) : t.val < 32 := lt_of_lt_of_eq t.isLt N_0

/-- The reshape of the rows that the host makes, at one index. -/
theorem reshape_x (A : FVec Ideal S4x4096x2048 .f32) (t : ℕ) (ht : t < 32) (r : Fin 512) (d : Fin 2048) :
    shapeCast S16384x2048 A shapeCasts_S4x4096x2048_S16384x2048 (ix2 (n0 := 16384) (n1 := 2048) ⟨t * 512 + r, by omega⟩ d)
      = A (ix3 ⟨t / 8, by omega⟩ ⟨t % 8 * 512 + r, by omega⟩ d) := by
  pointwise
  blk_ext

/-- The reshape of a gain or a shift that the host makes, at one index. -/
theorem reshape_g (A : FVec Ideal S2048 .f32) (d : Fin 2048) :
    shapeCast S1x2048 A shapeCasts_S2048_S1x2048 (ix2 (n0 := 1) (n1 := 2048) 0 d) = A (ix1 d) := by
  pointwise
  blk_ext

theorem o_read (c : Fin nD) (t : Fin cfg0.N) (r : Fin 512) (d : Fin 2048) :
    (iblk m c 0 t (ix2 r d) : EReal)
      = m ((c : Thread nD τ).loc main_arg0) (ix3 ⟨t / 8, by have := lt_points t; omega⟩ ⟨t % 8 * 512 + r, by omega⟩ d) := by
  have ht := lt_points t
  have emb : ((cfg0.win 0).blk t).view.emb (ix2 r d) = ix2 (n0 := 16384) (n1 := 2048) ⟨t * 512 + r, by omega⟩ d := by
    blk_ext [idx_facts t]
  simp only [iblk]
  entry_read
  change shapeCast S16384x2048 (m ((c : Thread nD τ).loc main_arg0)) shapeCasts_S4x4096x2048_S16384x2048
    (((cfg0.win 0).blk t).view.emb (ix2 r d)) = _
  rw [emb]
  exact reshape_x (m ((c : Thread nD τ).loc main_arg0)) t ht r d

theorem x_read (c : Fin nD) (t : Fin cfg0.N) (r : Fin 512) (d : Fin 2048) :
    (iblk m c 2 t (ix2 r d) : EReal)
      = m ((c : Thread nD τ).loc main_arg2) (ix3 ⟨t / 8, by have := lt_points t; omega⟩ ⟨t % 8 * 512 + r, by omega⟩ d) := by
  have ht := lt_points t
  have emb : ((cfg0.win 2).blk t).view.emb (ix2 r d) = ix2 (n0 := 16384) (n1 := 2048) ⟨t * 512 + r, by omega⟩ d := by
    blk_ext [idx_facts t]
  simp only [iblk]
  entry_read
  change shapeCast S16384x2048 (m ((c : Thread nD τ).loc main_arg2)) shapeCasts_S4x4096x2048_S16384x2048
    (((cfg0.win 2).blk t).view.emb (ix2 r d)) = _
  rw [emb]
  exact reshape_x (m ((c : Thread nD τ).loc main_arg2)) t ht r d

theorem weight_read (c : Fin nD) (t : Fin cfg0.N) (r d : Fin 2048) :
    iblk m c 1 t (ix2 r d) = m ((c : Thread nD τ).loc main_arg1) (ix2 r d) := by
  simp only [iblk]
  entry_read
  show m ((c : Thread nD τ).loc main_arg1) _ = _
  blk_ext [idx_facts t]

theorem gain_read (c : Fin nD) (t : Fin cfg0.N) (d : Fin 2048) :
    (iblk m c 3 t (ix2 0 d) : EReal) = m ((c : Thread nD τ).loc main_arg3) (ix1 d) := by
  have emb : ((cfg0.win 3).blk t).view.emb (ix2 0 d) = ix2 (n0 := 1) (n1 := 2048) 0 d := by
    blk_ext [idx_facts t]
  simp only [iblk]
  entry_read
  change shapeCast S1x2048 (m ((c : Thread nD τ).loc main_arg3)) shapeCasts_S2048_S1x2048
    (((cfg0.win 3).blk t).view.emb (ix2 0 d)) = _
  rw [emb]
  exact reshape_g (m ((c : Thread nD τ).loc main_arg3)) d

theorem shift_read (c : Fin nD) (t : Fin cfg0.N) (d : Fin 2048) :
    (iblk m c 4 t (ix2 0 d) : EReal) = m ((c : Thread nD τ).loc main_arg4) (ix1 d) := by
  have emb : ((cfg0.win 4).blk t).view.emb (ix2 0 d) = ix2 (n0 := 1) (n1 := 2048) 0 d := by
    blk_ext [idx_facts t]
  simp only [iblk]
  entry_read
  change shapeCast S1x2048 (m ((c : Thread nD τ).loc main_arg4)) shapeCasts_S2048_S1x2048
    (((cfg0.win 4).blk t).view.emb (ix2 0 d)) = _
  rw [emb]
  exact reshape_g (m ((c : Thread nD τ).loc main_arg4)) d

/-! ## The loads of the body -/

/-- A load of half a block's heads' outputs. -/
theorem load_o (X : Vec Ideal S512x2048 .bf16) (o : ℕ) (ho : o ≤ 256) (hb : ∀ d : Fin S512x2048.rank, ![o, 0] d + S256x2048.size d ≤ S512x2048.size d)
    (r : Fin 256) (d : Fin 2048) :
    (View.ld (Val := Elt Ideal) (e' := .bf16) X (Rect.unit (s := S512x2048) ![o, 0] S256x2048.size hb) (ix2 r d) : EReal) = X (ix2 ⟨o + r, by omega⟩ d) := by
  pointwise
  blk_ext

/-- A load of half a block's rows. -/
theorem load_x (X : Vec Ideal S512x2048 .f32) (o : ℕ) (ho : o ≤ 256) (hb : ∀ d : Fin S512x2048.rank, ![o, 0] d + S256x2048.size d ≤ S512x2048.size d)
    (r : Fin 256) (d : Fin 2048) :
    (View.ld (Val := Elt Ideal) (e' := .f32) X (Rect.unit (s := S512x2048) ![o, 0] S256x2048.size hb) (ix2 r d) : EReal) = X (ix2 ⟨o + r, by omega⟩ d) := by
  pointwise
  blk_ext

/-- A load of the weights. -/
theorem load_w (X : Vec Ideal S2048x2048 .bf16) (r d : Fin 2048) : (View.ld (Val := Elt Ideal) (e' := .bf16) X r0_1 (ix2 r d) : EReal) = X (ix2 r d) := by
  pointwise
  blk_ext

/-- A load of the gain or the shift. -/
theorem load_g (X : Vec Ideal S1x2048 .f32) (d : Fin 2048) : (View.ld (Val := Elt Ideal) (e' := .f32) X r0_2 (ix2 0 d) : EReal) = X (ix2 0 d) := by
  pointwise
  blk_ext

/-! ## The block and the array -/

/-- The body's second half is computed as its first. -/
theorem pay1_eq (o w x g b) : k0_pay1 (F := Ideal) (k0_pay3 o) w x g b = k0_pay2 o w x g b := rfl

/-- Half a block at one index. -/
theorem half_at (o : FVec Ideal S256x2048 .bf16) (w : FVec Ideal S2048x2048 .bf16) (x : FVec Ideal S256x2048 .f32) (g b : FVec Ideal S1x2048 .f32)
    (r : Fin 256) (d : Fin 2048) :
    (k0_pay2 (F := Ideal) o w x g b (ix2 r d) : EReal)
      = lnorm (fun k => Ideal.ofBits .f32 0x3FB504F3#32 * x (ix2 r k) + ∑ j : Fin 2048, o (ix2 r j) * w (ix2 j k)) (g (ix2 0 d)) (b (ix2 0 d)) d := by
  pointwise [k0_pay2, lnorm]

/-- The result of the reference on the launch's arrays. -/
abbrev refResult (c : Dev nD) : FVec Ideal S16384x2048 .f32 :=
  Cert.OutprojRefIdeal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The half of point `t`'s block that begins at row `s`, at one index. -/
theorem half_point (c : Dev nD) (t : Fin cfg0.N) (s : ℕ) (hs : s ≤ 256)
    (hb : ∀ d : Fin S512x2048.rank, ![s, 0] d + S256x2048.size d ≤ S512x2048.size d) (r : Fin 256) (d : Fin 2048) :
    (k0_pay2 (F := Ideal) (View.ld (iblk m c 0 t) (Rect.unit (s := S512x2048) ![s, 0] S256x2048.size hb)) (View.ld (iblk m c 1 t) r0_1)
        (View.ld (iblk m c 2 t) (Rect.unit (s := S512x2048) ![s, 0] S256x2048.size hb)) (View.ld (iblk m c 3 t) r0_2) (View.ld (iblk m c 4 t) r0_2) (ix2 r d) : EReal)
      = refResult m c (ix2 ⟨t * 512 + (s + r), by have := lt_points t; omega⟩ d) := by
  have ht := lt_points t
  have key := Cert.OutprojRef.result_at (m ((c : Thread nD τ).loc main_arg0)) (m ((c : Thread nD τ).loc main_arg1))
    (m ((c : Thread nD τ).loc main_arg2)) (m ((c : Thread nD τ).loc main_arg3)) (m ((c : Thread nD τ).loc main_arg4))
    ⟨t / 8, by omega⟩ ⟨t % 8 * 512 + (s + r), by omega⟩ d
  have e1 : (t : ℕ) / 8 * 4096 + ((t : ℕ) % 8 * 512 + (s + r)) = t * 512 + (s + r) := by omega
  simp only [e1] at key
  refine (half_at _ _ _ _ _ r d).trans (Eq.trans ?_ key.symm)
  have hx := fun k => (load_x (iblk m c 2 t) s hs hb r k).trans (x_read m c t ⟨s + r, by omega⟩ k)
  have ho := fun j => (load_o (iblk m c 0 t) s hs hb r j).trans (o_read m c t ⟨s + r, by omega⟩ j)
  have hw := fun j k => (load_w (iblk m c 1 t) j k).trans (weight_read m c t j k)
  have hrow : (fun k : Fin 2048 => _) = _ := funext fun k =>
    congrArg₂ (fun a b : EReal => Ideal.ofBits .f32 0x3FB504F3#32 * a + b) (hx k)
      (Finset.sum_congr rfl fun j (_ : j ∈ Finset.univ) => congrArg₂ (fun a b : EReal => a * b) (ho j) (hw j k))
  exact (congrArg₂ (fun a b : EReal => lnorm _ a b d) ((load_g (iblk m c 3 t) d).trans (gain_read m c t d))
    ((load_g (iblk m c 4 t) d).trans (shift_read m c t d))).trans (congrArg (fun y => lnorm y _ _ d) hrow)

/-- The place of a block's index in the result. -/
theorem result_emb (t : Fin cfg0.N) (y : S512x2048.Idx) :
    ((cfg0.win 5).blk t).view.emb y = ix2 (n0 := 16384) (n1 := 2048)
      ⟨t * 512 + y 0, by have := lt_points t; have := (y 0).isLt; change _ < 512 at this; omega⟩ (y 1) := by
  blk_ext [idx_facts t]

/-- The half that begins at row `s`, as a piece of point `t`'s block. -/
theorem half_piece (c : Dev nD) (t : Fin cfg0.N) (s : ℕ) (hs : s ≤ 256)
    (hb : ∀ d : Fin S512x2048.rank, ![s, 0] d + S256x2048.size d ≤ S512x2048.size d) (y : S512x2048.Idx) (x : S256x2048.Idx)
    (h0 : (y 0 : ℕ) = s + x 0) (h1 : (y 1 : ℕ) = x 1) :
    k0_pay2 (F := Ideal) (View.ld (iblk m c 0 t) (Rect.unit (s := S512x2048) ![s, 0] S256x2048.size hb)) (View.ld (iblk m c 1 t) r0_1)
        (View.ld (iblk m c 2 t) (Rect.unit (s := S512x2048) ![s, 0] S256x2048.size hb)) (View.ld (iblk m c 3 t) r0_2) (View.ld (iblk m c 4 t) r0_2) x
      = refResult m c (((cfg0.win 5).blk t).view.emb y) := by
  have hx : x = ix2 (x 0) (x 1) := by blk_ext
  rw [hx, result_emb]
  refine (half_point m c t s hs hb (x 0) (x 1)).trans (congrArg (refResult m c) ?_)
  funext a
  fin_cases a
  · exact Fin.ext (by show (t : ℕ) * 512 + (s + (x 0 : ℕ)) = t * 512 + (y 0 : ℕ); omega)
  · exact Fin.ext h1.symm

/-- Point `t`'s block of the result is the reference's, at every index. -/
theorem point (c : Dev nD) (t : Fin cfg0.N) (y) :
    out0_5 (iblk m c 0 t) (iblk m c 1 t) (iblk m c 2 t) (iblk m c 3 t) (iblk m c 4 t) y = refResult m c (((cfg0.win 5).blk t).view.emb y) := by
  unfold out0_5
  canon_tiles x h
  · exact (congrFun (pay1_eq _ _ _ _ _) x).trans
      (half_piece m c t 256 (by omega) _ y x (by show (y 0 : ℕ) = 256 + (x 0 : ℕ); omega) (by show (y 1 : ℕ) = (x 1 : ℕ); omega))
  · exact half_piece m c t 0 (by omega) _ y x (by show (y 0 : ℕ) = 0 + (x 0 : ℕ); omega) (by show (y 1 : ℕ) = (x 1 : ℕ); omega)

/-- The kernel's result is the reference's. -/
theorem final (c : Dev nD) : (dats m 0 c).arrAt 5 (cfgs 0).N = refResult m c := by
  refine (dats m 0 c).arrAt_eq_of_covers 5 _ (by decide +kernel) fun t _ y => ?_
  blk_simp
  rw [after0_5]
  exact point m c t y

end Cert.OutprojIdeal.Value

end
-- ==== Proof.OutprojClaims.lean ====
module

public import proofs.«01_k».proof.Defs
public import proofs.«01_k».proof.Proof.Gen.Outproj.Frame
public import proofs.«01_k».proof.Proof.Gen.OutprojIdeal.Frame
public import proofs.«01_k».proof.Proof.Gen.OutprojRefIdeal.Run
public import proofs.«01_k».proof.Proof.OutprojValue

/-! The claims about the output projection and its residual. -/

@[expose] public section

noncomputable section

namespace Cert.Proof

open Idealize.ShloMosaic Idealize.SL.Sem

/-- The kernel ends with its arguments kept and its counters at zero. -/
theorem outproj_frame : Cert.quiescent_Outproj := fun m ρ _ => Cert.Outproj.Gen.frame m ρ

/-- So does the kernel over the ideal fields. -/
theorem outproj_frame_ideal : Cert.quiescent_OutprojIdeal := fun m ρ _ => Cert.OutprojIdeal.Gen.frame m ρ

/-- The reference keeps its arguments; it has no counters. -/
theorem outproj_frame_reference : Cert.quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run (F := Ideal) m ρ)

/-- The kernel and the reference end with the same result, whatever the inputs. -/
theorem outproj_algebraic : Cert.algebraic_OutprojIdeal_OutprojRefIdeal := by
  intro m g m' g' _ hagree
  refine ⟨fun c => Cert.OutprojIdeal.Value.refResult m c, ?_, ?_⟩
  · refine (θ_run Cert.OutprojIdeal.defs _ _).mono (fun r h c => ?_) (Cert.OutprojIdeal.Value.run_blocks m g)
    exact ⟨(h c).1.trans (Cert.OutprojIdeal.Value.final m c), (h c).2⟩
  · refine (θ_run Cert.OutprojRefIdeal.defs _ _).mono (fun r h c => ?_) (Cert.OutprojRefIdeal.Value.run m' g')
    refine ⟨((h c).1.trans (Cert.OutprojRefIdeal.Read.val_main_v28_eq (F := Ideal) _ _ _ _ _)).trans ?_, (h c).2⟩
    rw [(hagree c).1, (hagree c).2.1, (hagree c).2.2.1, (hagree c).2.2.2.1, (hagree c).2.2.2.2]

end Cert.Proof

end
-- ==== Proof.ProjectQkvValue.lean ====
module

public import proofs.«01_k».proof.Defs
public import proofs.«01_k».proof.Proof.Gen.ProjectQkv.Frame
public import proofs.«01_k».proof.Proof.Gen.ProjectQkvIdeal.Frame
public import proofs.«01_k».proof.Proof.Gen.ProjectQkvIdeal.Value
public import proofs.«01_k».proof.Proof.Gen.ProjectQkvRefIdeal.Run
public import proofs.«01_k».proof.Proof.Gen.ProjectQkvRefIdeal.Read
public import proofs.«01_k».proof.Proof.ProjectValue
public import Idealize.ShloMosaic.Lib.Pipeline.ValueKit

/-! The input projection of the even layer, its part for queries, keys and values: each point's block of the result is the reference's. -/

@[expose] public section

set_option maxRecDepth 16384

noncomputable section

open Idealize.ShloMosaic Idealize.ShloMosaic.TcCoe Idealize.SL.Sem
open Idealize.ShloMosaic.Pipeline

namespace Cert.ProjectQkvIdeal.Value

open Cert.ProjectQkvIdeal Cert.ProjectQkvIdeal.Gen

variable (m : (ℓ : Loc nD τ sig) → Buf (Elt Ideal) ℓ)

/-- The block indices: point `t` takes row tile `t / 3` and column tile `t % 3`. -/
theorem idx_facts : ∀ t : Fin cfg0.N, win0_0.index t = ![t.val / 3, 0] ∧ win0_1.index t = ![0, t.val % 3]
    ∧ win0_2.index t = ![t.val / 3, t.val % 3] :=
  (by decide +kernel : ∀ t : Fin grid0.N, _)

theorem lt_points (t : Fin cfg0.N) : t.val < 48 := lt_of_lt_of_eq t.isLt N_0

/-- The columns of the weights that the host takes, at one index. -/
theorem slice_w (W : FVec Ideal S2048x6656 .f32) (r : Fin 2048) (k : Fin 4608) :
    extractStridedSlice S2048x4608 ![0, 0] W slices_S2048x6656_S2048x4608_0_0 (ix2 r k) = W (ix2 r ⟨0 + k, by omega⟩) := by
  pointwise
  blk_ext

theorem x_read (c : Fin nD) (t : Fin cfg0.N) (r : Fin 1024) (d : Fin 2048) :
    iblk m c 0 t (ix2 r d)
      = m ((c : Thread nD τ).loc main_arg0) (ix3 ⟨t / 3 / 4, by have := lt_points t; omega⟩ ⟨t / 3 % 4 * 1024 + r, by omega⟩ d) := by
  have ht := lt_points t
  have emb : ((cfg0.win 0).blk t).view.emb (ix2 r d) = ix2 (n0 := 16384) (n1 := 2048) ⟨t / 3 * 1024 + r, by omega⟩ d := by
    blk_ext [idx_facts t]
  simp only [iblk]
  entry_read
  change shapeCast S16384x2048 (m ((c : Thread nD τ).loc main_arg0)) shapeCasts_S4x4096x2048_S16384x2048
    (((cfg0.win 0).blk t).view.emb (ix2 r d)) = _
  rw [emb]
  exact Cert.ProjectIdeal.Value.reshape_x (m ((c : Thread nD τ).loc main_arg0)) (t / 3) (by omega) r d

theorem weight_read (c : Fin nD) (t : Fin cfg0.N) (r : Fin 2048) (d : Fin 1536) :
    iblk m c 1 t (ix2 r d) = m ((c : Thread nD τ).loc main_arg1) (ix2 r ⟨0 + (t % 3 * 1536 + d), by omega⟩) := by
  have emb : ((cfg0.win 1).blk t).view.emb (ix2 r d) = ix2 (n0 := 2048) (n1 := 4608) r ⟨t % 3 * 1536 + d, by omega⟩ := by
    blk_ext [idx_facts t]
  simp only [iblk]
  entry_read
  change extractStridedSlice S2048x4608 ![0, 0] (m ((c : Thread nD τ).loc main_arg1)) slices_S2048x6656_S2048x4608_0_0
    (((cfg0.win 1).blk t).view.emb (ix2 r d)) = _
  rw [emb]
  exact slice_w (m ((c : Thread nD τ).loc main_arg1)) r ⟨t % 3 * 1536 + d, by omega⟩

/-- The body at one index. -/
theorem product_at (x : FVec Ideal S1024x2048 .f32) (w : FVec Ideal S2048x1536 .bf16) (r : Fin 1024) (d : Fin 1536) :
    (k0_pay1 (F := Ideal) x w (ix2 r d) : EReal) = ∑ j : Fin 2048, x (ix2 r j) * w (ix2 j d) := by
  pointwise [k0_pay1]

/-- The reference at one index. -/
theorem result_at (x : FVec Ideal S4x4096x2048 .f32) (w : FVec Ideal S2048x6656 .f32) (b : Fin 4) (s : Fin 4096) (d : Fin 4608) :
    (Cert.ProjectQkvRefIdeal.Read.val_main_v2 (F := Ideal) x w (ix2 ⟨b * 4096 + s, by omega⟩ d) : EReal)
      = ∑ j : Fin 2048, x (ix3 b s j) * w (ix2 j ⟨0 + d, by omega⟩) := by
  have e1 : (Cert.ProjectQkvRefIdeal.Read.val_main_v1 (F := Ideal) x w (ix3 b s d) : EReal) = Cert.ProjectQkvRefIdeal.Read.val_main_v0 (F := Ideal) x w (ix3 b s ⟨0 + d, by omega⟩) := by
    pointwise [Cert.ProjectQkvRefIdeal.Read.val_main_v1]
    blk_ext
  have e0 : ∀ k : Fin 6656, (Cert.ProjectQkvRefIdeal.Read.val_main_v0 (F := Ideal) x w (ix3 b s k) : EReal) = ∑ j : Fin 2048, x (ix3 b s j) * w (ix2 j k) := fun k => by
    pointwise [Cert.ProjectQkvRefIdeal.Read.val_main_v0]
  rw [← e0, ← e1]
  pointwise [Cert.ProjectQkvRefIdeal.Read.val_main_v2]
  blk_ext

/-- The result of the reference on the launch's arrays. -/
abbrev refResult (c : Dev nD) : FVec Ideal S16384x4608 .f32 :=
  Cert.ProjectQkvRefIdeal.Read.val_main_v2 (F := Ideal) (m ((c : Thread nD τ).loc main_arg0)) (m ((c : Thread nD τ).loc main_arg1))

/-- A load of the whole block of rows. -/
theorem load_x (X : Vec Ideal S1024x2048 .f32) (r : Fin 1024) (d : Fin 2048) : (View.ld (Val := Elt Ideal) (e' := .f32) X r0_0 (ix2 r d) : EReal) = X (ix2 r d) := by
  pointwise
  blk_ext

/-- A load of the whole block of weights. -/
theorem load_w (X : Vec Ideal S2048x1536 .bf16) (r : Fin 2048) (d : Fin 1536) : (View.ld (Val := Elt Ideal) (e' := .bf16) X r0_1 (ix2 r d) : EReal) = X (ix2 r d) := by
  pointwise
  blk_ext

/-- The place of a block's index in the result. -/
theorem result_emb (t : Fin cfg0.N) (y : S1024x1536.Idx) :
    ((cfg0.win 2).blk t).view.emb y = ix2 (n0 := 16384) (n1 := 4608)
      ⟨t / 3 * 1024 + y 0, by have := lt_points t; have := (y 0).isLt; change _ < 1024 at this; omega⟩
      ⟨t % 3 * 1536 + y 1, by have := (y 1).isLt; change _ < 1536 at this; omega⟩ := by
  blk_ext [idx_facts t]

/-- Point `t`'s block of the result is the reference's, at every index. -/
theorem point (c : Dev nD) (t : Fin cfg0.N) (r : Fin 1024) (d : Fin 1536) :
    (k0_pay1 (F := Ideal) (View.ld (iblk m c 0 t) r0_0) (View.ld (iblk m c 1 t) r0_1) (ix2 r d) : EReal)
      = refResult m c (((cfg0.win 2).blk t).view.emb (ix2 r d)) := by
  have ht := lt_points t
  have key := result_at (m ((c : Thread nD τ).loc main_arg0)) (m ((c : Thread nD τ).loc main_arg1))
    ⟨t / 3 / 4, by omega⟩ ⟨t / 3 % 4 * 1024 + r, by omega⟩ ⟨t % 3 * 1536 + d, by omega⟩
  have e1 : (t : ℕ) / 3 / 4 * 4096 + ((t : ℕ) / 3 % 4 * 1024 + r) = t / 3 * 1024 + r := by omega
  simp only [e1] at key
  rw [result_emb]
  refine (product_at _ _ r d).trans (Eq.trans (Finset.sum_congr rfl fun j _ => ?_) key.symm)
  exact congrArg₂ (fun a b : EReal => a * b) ((load_x (iblk m c 0 t) r j).trans (x_read m c t r j))
    ((load_w (iblk m c 1 t) j d).trans (weight_read m c t j d))

/-- The kernel's result is the reference's. -/
theorem final (c : Dev nD) : (dats m 0 c).arrAt 2 (cfgs 0).N = refResult m c := by
  refine (dats m 0 c).arrAt_eq_of_covers 2 _ (by decide +kernel) fun t _ y => ?_
  blk_simp
  rw [after0_2]
  unfold out0_2
  canon_tiles x h
  have hx : x = ix2 (x 0) (x 1) := by blk_ext
  have hy : y = x := by
    funext a
    fin_cases a
    · exact Fin.ext h0
    · exact Fin.ext h1
  rw [hy, hx]
  exact point m c t (x 0) (x 1)

end Cert.ProjectQkvIdeal.Value

namespace Cert.Proof

/-- The kernel ends with its arguments kept and its counters at zero. -/
theorem project_qkv_frame : Cert.quiescent_ProjectQkv := fun m ρ _ => Cert.ProjectQkv.Gen.frame m ρ

/-- So does the kernel over the ideal fields. -/
theorem project_qkv_frame_ideal : Cert.quiescent_ProjectQkvIdeal := fun m ρ _ => Cert.ProjectQkvIdeal.Gen.frame m ρ

/-- The reference keeps its arguments; it has no counters. -/
theorem project_qkv_frame_reference : Cert.quiescent_ProjectQkvRefIdeal := fun m ρ _ =>
  (θ_run Cert.ProjectQkvRefIdeal.defs _ _).mono (fun r h => ⟨fun c => (h c).2, sem_eq_zero_of_no_sems (by decide) r.2⟩)
    (Cert.ProjectQkvRefIdeal.Value.run (F := Ideal) m ρ)

/-- The kernel and the reference end with the same result, whatever the inputs. -/
theorem project_qkv_algebraic : Cert.algebraic_ProjectQkvIdeal_ProjectQkvRefIdeal := by
  intro m g m' g' _ hagree
  refine ⟨fun c => Cert.ProjectQkvIdeal.Value.refResult m c, ?_, ?_⟩
  · refine (θ_run Cert.ProjectQkvIdeal.defs _ _).mono (fun r h c => ?_) (Cert.ProjectQkvIdeal.Value.run_blocks m g)
    exact ⟨(h c).1.trans (Cert.ProjectQkvIdeal.Value.final m c), (h c).2⟩
  · refine (θ_run Cert.ProjectQkvRefIdeal.defs _ _).mono (fun r h c => ?_) (Cert.ProjectQkvRefIdeal.Value.run m' g')
    refine ⟨((h c).1.trans (Cert.ProjectQkvRefIdeal.Read.val_main_v2_eq (F := Ideal) _ _)).trans ?_, (h c).2⟩
    rw [(hagree c).1, (hagree c).2]

end Cert.Proof

end
-- ==== Proof.ProjectUvValue.lean ====
module

public import proofs.«01_k».proof.Defs
public import proofs.«01_k».proof.Proof.Gen.ProjectUv.Frame
public import proofs.«01_k».proof.Proof.Gen.ProjectUvIdeal.Frame
public import proofs.«01_k».proof.Proof.Gen.ProjectUvIdeal.Value
public import proofs.«01_k».proof.Proof.Gen.ProjectUvRefIdeal.Run
public import proofs.«01_k».proof.Proof.Gen.ProjectUvRefIdeal.Read
public import proofs.«01_k».proof.Proof.ProjectValue
public import Idealize.ShloMosaic.Lib.Pipeline.ValueKit

/-! The input projection of the even layer, its part for `u` and `v`: each point's block of the result is the reference's. -/

@[expose] public section

set_option maxRecDepth 16384

noncomputable section

open Idealize.ShloMosaic Idealize.ShloMosaic.TcCoe Idealize.SL.Sem
open Idealize.ShloMosaic.Pipeline

namespace Cert.ProjectUvIdeal.Value

open Cert.ProjectUvIdeal Cert.ProjectUvIdeal.Gen

variable (m : (ℓ : Loc nD τ sig) → Buf (Elt Ideal) ℓ)

/-- The block indices: point `t` takes row tile `t` and all columns. -/
theorem idx_facts : ∀ t : Fin cfg0.N, win0_0.index t = ![t.val, 0] ∧ win0_1.index t = ![0, 0]
    ∧ win0_2.index t = ![t.val, 0] :=
  (by decide +kernel : ∀ t : Fin grid0.N, _)

theorem lt_points (t : Fin cfg0.N) : t.val < 16 := lt_of_lt_of_eq t.isLt N_0

/-- The columns of the weights that the host takes, at one index. -/
theorem slice_w (W : FVec Ideal S2048x6656 .f32) (r : Fin 2048) (k : Fin 2048) :
    extractStridedSlice S2048x2048 ![0, 4608] W slices_S2048x6656_S2048x2048_0_4608 (ix2 r k) = W (ix2 r ⟨4608 + k, by omega⟩) := by
  pointwise
  blk_ext

theorem x_read (c : Fin nD) (t : Fin cfg0.N) (r : Fin 1024) (d : Fin 2048) :
    iblk m c 0 t (ix2 r d)
      = m ((c : Thread nD τ).loc main_arg0) (ix3 ⟨t / 4, by have := lt_points t; omega⟩ ⟨t % 4 * 1024 + r, by omega⟩ d) := by
  have ht := lt_points t
  have emb : ((cfg0.win 0).blk t).view.emb (ix2 r d) = ix2 (n0 := 16384) (n1 := 2048) ⟨t * 1024 + r, by omega⟩ d := by
    blk_ext [idx_facts t]
  simp only [iblk]
  entry_read
  change shapeCast S16384x2048 (m ((c : Thread nD τ).loc main_arg0)) shapeCasts_S4x4096x2048_S16384x2048
    (((cfg0.win 0).blk t).view.emb (ix2 r d)) = _
  rw [emb]
  exact Cert.ProjectIdeal.Value.reshape_x (m ((c : Thread nD τ).loc main_arg0)) (t) (by omega) r d

theorem weight_read (c : Fin nD) (t : Fin cfg0.N) (r : Fin 2048) (d : Fin 2048) :
    iblk m c 1 t (ix2 r d) = m ((c : Thread nD τ).loc main_arg1) (ix2 r ⟨4608 + d, by omega⟩) := by
  have emb : ((cfg0.win 1).blk t).view.emb (ix2 r d) = ix2 (n0 := 2048) (n1 := 2048) r d := by
    blk_ext [idx_facts t]
  simp only [iblk]
  entry_read
  change extractStridedSlice S2048x2048 ![0, 4608] (m ((c : Thread nD τ).loc main_arg1)) slices_S2048x6656_S2048x2048_0_4608
    (((cfg0.win 1).blk t).view.emb (ix2 r d)) = _
  rw [emb]
  exact slice_w (m ((c : Thread nD τ).loc main_arg1)) r d

/-- The body at one index. -/
theorem product_at (x : FVec Ideal S1024x2048 .f32) (w : FVec Ideal S2048x2048 .bf16) (r : Fin 1024) (d : Fin 2048) :
    (k0_pay1 (F := Ideal) x w (ix2 r d) : EReal) = ∑ j : Fin 2048, x (ix2 r j) * w (ix2 j d) := by
  pointwise [k0_pay1]

/-- The reference at one index. -/
theorem result_at (x : FVec Ideal S4x4096x2048 .f32) (w : FVec Ideal S2048x6656 .f32) (b : Fin 4) (s : Fin 4096) (d : Fin 2048) :
    (Cert.ProjectUvRefIdeal.Read.val_main_v2 (F := Ideal) x w (ix2 ⟨b * 4096 + s, by omega⟩ d) : EReal)
      = ∑ j : Fin 2048, x (ix3 b s j) * w (ix2 j ⟨4608 + d, by omega⟩) := by
  have e1 : (Cert.ProjectUvRefIdeal.Read.val_main_v1 (F := Ideal) x w (ix3 b s d) : EReal) = Cert.ProjectUvRefIdeal.Read.val_main_v0 (F := Ideal) x w (ix3 b s ⟨4608 + d, by omega⟩) := by
    pointwise [Cert.ProjectUvRefIdeal.Read.val_main_v1]
    blk_ext
  have e0 : ∀ k : Fin 6656, (Cert.ProjectUvRefIdeal.Read.val_main_v0 (F := Ideal) x w (ix3 b s k) : EReal) = ∑ j : Fin 2048, x (ix3 b s j) * w (ix2 j k) := fun k => by
    pointwise [Cert.ProjectUvRefIdeal.Read.val_main_v0]
  rw [← e0, ← e1]
  pointwise [Cert.ProjectUvRefIdeal.Read.val_main_v2]
  blk_ext

/-- The result of the reference on the launch's arrays. -/
abbrev refResult (c : Dev nD) : FVec Ideal S16384x2048 .f32 :=
  Cert.ProjectUvRefIdeal.Read.val_main_v2 (F := Ideal) (m ((c : Thread nD τ).loc main_arg0)) (m ((c : Thread nD τ).loc main_arg1))

/-- A load of the whole block of rows. -/
theorem load_x (X : Vec Ideal S1024x2048 .f32) (r : Fin 1024) (d : Fin 2048) : (View.ld (Val := Elt Ideal) (e' := .f32) X r0_0 (ix2 r d) : EReal) = X (ix2 r d) := by
  pointwise
  blk_ext

/-- A load of the whole block of weights. -/
theorem load_w (X : Vec Ideal S2048x2048 .bf16) (r : Fin 2048) (d : Fin 2048) : (View.ld (Val := Elt Ideal) (e' := .bf16) X r0_1 (ix2 r d) : EReal) = X (ix2 r d) := by
  pointwise
  blk_ext

/-- The place of a block's index in the result. -/
theorem result_emb (t : Fin cfg0.N) (y : S1024x2048.Idx) :
    ((cfg0.win 2).blk t).view.emb y = ix2 (n0 := 16384) (n1 := 2048)
      ⟨t * 1024 + y 0, by have := lt_points t; have := (y 0).isLt; change _ < 1024 at this; omega⟩
      (y 1) := by
  blk_ext [idx_facts t]

/-- Point `t`'s block of the result is the reference's, at every index. -/
theorem point (c : Dev nD) (t : Fin cfg0.N) (r : Fin 1024) (d : Fin 2048) :
    (k0_pay1 (F := Ideal) (View.ld (iblk m c 0 t) r0_0) (View.ld (iblk m c 1 t) r0_1) (ix2 r d) : EReal)
      = refResult m c (((cfg0.win 2).blk t).view.emb (ix2 r d)) := by
  have ht := lt_points t
  have key := result_at (m ((c : Thread nD τ).loc main_arg0)) (m ((c : Thread nD τ).loc main_arg1))
    ⟨t / 4, by omega⟩ ⟨t % 4 * 1024 + r, by omega⟩ d
  have e1 : (t : ℕ) / 4 * 4096 + ((t : ℕ) % 4 * 1024 + r) = t * 1024 + r := by omega
  simp only [e1] at key
  rw [result_emb]
  refine (product_at _ _ r d).trans (Eq.trans (Finset.sum_congr rfl fun j _ => ?_) key.symm)
  exact congrArg₂ (fun a b : EReal => a * b) ((load_x (iblk m c 0 t) r j).trans (x_read m c t r j))
    ((load_w (iblk m c 1 t) j d).trans (weight_read m c t j d))

/-- The kernel's result is the reference's. -/
theorem final (c : Dev nD) : (dats m 0 c).arrAt 2 (cfgs 0).N = refResult m c := by
  refine (dats m 0 c).arrAt_eq_of_covers 2 _ (by decide +kernel) fun t _ y => ?_
  blk_simp
  rw [after0_2]
  unfold out0_2
  canon_tiles x h
  have hx : x = ix2 (x 0) (x 1) := by blk_ext
  have hy : y = x := by
    funext a
    fin_cases a
    · exact Fin.ext h0
    · exact Fin.ext h1
  rw [hy, hx]
  exact point m c t (x 0) (x 1)

end Cert.ProjectUvIdeal.Value

namespace Cert.Proof

/-- The kernel ends with its arguments kept and its counters at zero. -/
theorem project_uv_frame : Cert.quiescent_ProjectUv := fun m ρ _ => Cert.ProjectUv.Gen.frame m ρ

/-- So does the kernel over the ideal fields. -/
theorem project_uv_frame_ideal : Cert.quiescent_ProjectUvIdeal := fun m ρ _ => Cert.ProjectUvIdeal.Gen.frame m ρ

/-- The reference keeps its arguments; it has no counters. -/
theorem project_uv_frame_reference : Cert.quiescent_ProjectUvRefIdeal := fun m ρ _ =>
  (θ_run Cert.ProjectUvRefIdeal.defs _ _).mono (fun r h => ⟨fun c => (h c).2, sem_eq_zero_of_no_sems (by decide) r.2⟩)
    (Cert.ProjectUvRefIdeal.Value.run (F := Ideal) m ρ)

/-- The kernel and the reference end with the same result, whatever the inputs. -/
theorem project_uv_algebraic : Cert.algebraic_ProjectUvIdeal_ProjectUvRefIdeal := by
  intro m g m' g' _ hagree
  refine ⟨fun c => Cert.ProjectUvIdeal.Value.refResult m c, ?_, ?_⟩
  · refine (θ_run Cert.ProjectUvIdeal.defs _ _).mono (fun r h c => ?_) (Cert.ProjectUvIdeal.Value.run_blocks m g)
    exact ⟨(h c).1.trans (Cert.ProjectUvIdeal.Value.final m c), (h c).2⟩
  · refine (θ_run Cert.ProjectUvRefIdeal.defs _ _).mono (fun r h c => ?_) (Cert.ProjectUvRefIdeal.Value.run m' g')
    refine ⟨((h c).1.trans (Cert.ProjectUvRefIdeal.Read.val_main_v2_eq (F := Ideal) _ _)).trans ?_, (h c).2⟩
    rw [(hagree c).1, (hagree c).2]

end Cert.Proof

end
-- ==== Proof.lean ====
module

public import proofs.«01_k».proof.Proof.MemoryClaims
public import proofs.«01_k».proof.Proof.FfnClaims
public import proofs.«01_k».proof.Proof.FfnAlgebraic
public import proofs.«01_k».proof.Proof.ProjectValue
public import proofs.«01_k».proof.Proof.OutprojClaims
public import proofs.«01_k».proof.Proof.ProjectQkvValue
public import proofs.«01_k».proof.Proof.ProjectUvValue
public import proofs.«01_k».proof.Proof.Gen.FfnRefIdeal.Read
public import proofs.«01_k».proof.Proof.Gen.FfnIdeal
public import proofs.«01_k».proof.Proof.Gen.Memory
public import proofs.«01_k».proof.Proof.Gen.MemoryIdeal
public import proofs.«01_k».proof.Proof.Gen.MemoryRefIdeal
public import proofs.«01_k».proof.Proof.Gen.Project
public import proofs.«01_k».proof.Proof.Gen.ProjectIdeal
public import proofs.«01_k».proof.Proof.Gen.ProjectRefIdeal
public import proofs.«01_k».proof.Proof.Gen.Outproj
public import proofs.«01_k».proof.Proof.Gen.OutprojIdeal
public import proofs.«01_k».proof.Proof.Gen.OutprojRefIdeal
public import proofs.«01_k».proof.Proof.Gen.ProjectQkv
public import proofs.«01_k».proof.Proof.Gen.ProjectQkvIdeal
public import proofs.«01_k».proof.Proof.Gen.ProjectQkvRefIdeal
public import proofs.«01_k».proof.Proof.Gen.ProjectUv
public import proofs.«01_k».proof.Proof.Gen.ProjectUvIdeal
public import proofs.«01_k».proof.Proof.Gen.ProjectUvRefIdeal
public import proofs.«01_k».proof.Proof.Gen.Pre_finite_scores

/-! The claims of the calls, put together. -/

@[expose] public section

noncomputable section

namespace Cert.Proof

theorem claim : Cert.Claim :=
  ⟨Cert.Memory.Gen.facts, Cert.MemoryIdeal.Gen.facts, Cert.MemoryRefIdeal.Gen.facts,
    Cert.Ffn.Gen.facts, Cert.FfnIdeal.Gen.facts, Cert.FfnRefIdeal.Gen.facts,
    Cert.Project.Gen.facts, Cert.ProjectIdeal.Gen.facts, Cert.ProjectRefIdeal.Gen.facts,
    Cert.Outproj.Gen.facts, Cert.OutprojIdeal.Gen.facts, Cert.OutprojRefIdeal.Gen.facts,
    Cert.ProjectQkv.Gen.facts, Cert.ProjectQkvIdeal.Gen.facts, Cert.ProjectQkvRefIdeal.Gen.facts,
    Cert.ProjectUv.Gen.facts, Cert.ProjectUvIdeal.Gen.facts, Cert.ProjectUvRefIdeal.Gen.facts, Cert.Pre_finite_scores.Gen.facts,
    memory_frame, memory_frame_ideal, memory_frame_ideal_pre, memory_frame_reference, memory_frame_reference_pre,
    ffn_frame, ffn_frame_ideal, ffn_frame_reference,
    project_frame, project_frame_ideal, project_frame_reference, outproj_frame, outproj_frame_ideal, outproj_frame_reference,
    project_qkv_frame, project_qkv_frame_ideal, project_qkv_frame_reference, project_uv_frame, project_uv_frame_ideal, project_uv_frame_reference,
    trivial, memory_algebraic, trivial, ffn_algebraic, trivial, project_algebraic, trivial, outproj_algebraic,
    trivial, project_qkv_algebraic, trivial, project_uv_algebraic⟩

end Cert.Proof

end
